-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x1024 : Shape := ⟨3, ![2, 8192, 1024]⟩
abbrev S2x9x1024 : Shape := ⟨3, ![2, 9, 1024]⟩
abbrev S1024 : Shape := ⟨1, ![1024]⟩
abbrev S1024x4096 : Shape := ⟨2, ![1024, 4096]⟩
abbrev S64 : Shape := ⟨1, ![64]⟩
abbrev S8x257 : Shape := ⟨2, ![8, 257]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S2x8192x1024 : S_.BroadcastsInDim S2x8192x1024 (![] : Fin 0 → Fin S2x8192x1024.rank)
  bcast_S_S2x9x1024 : S_.BroadcastsInDim S2x9x1024 (![] : Fin 0 → Fin S2x9x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S64 : S_.BroadcastsInDim S64 (![] : Fin 0 → Fin S64.rank)
  bcast_S_S8x257 : S_.BroadcastsInDim S8x257 (![] : Fin 0 → Fin S8x257.rank)
  bcast_S_S512x1024 : S_.BroadcastsInDim S512x1024 (![] : Fin 0 → Fin S512x1024.rank)
  bcast_S_S4x128x128 : S_.BroadcastsInDim S4x128x128 (![] : Fin 0 → Fin S4x128x128.rank)
  bcast_S_S512 : S_.BroadcastsInDim S512 (![] : Fin 0 → Fin S512.rank)
  bcast_S_S1024x1024 : S_.BroadcastsInDim S1024x1024 (![] : Fin 0 → Fin S1024x1024.rank)

variable [Facts]

def fn_part1 {F : FTy → Type} [FloatOps F] (main_arg6 : FVec F S8x257 .f32) (main_arg7 : FVec F S512x1024 .f32) (main_arg8 : FVec F S4x128x128 .f32) (main_arg9 : FVec F S512 .f32) (main_arg10 : FVec F S512x1024 .f32) (main_arg11 : FVec F S1024x1024 .f32) (main_v2 : IVec S2x8192x1024 1) (main_v5 : IVec S2x9x1024 1) (main_v8 : IVec S1024 1) (main_v11 : IVec S1024x4096 1) (main_v14 : IVec S64 1) (main_v17 : IVec S64 1) : IVec S2x8192x1024 1 × IVec S2x9x1024 1 × IVec S1024 1 × IVec S1024x4096 1 × IVec S64 1 × IVec S64 1 × IVec S8x257 1 × IVec S512x1024 1 × IVec S4x128x128 1 × IVec S512 1 × IVec S512x1024 1 × IVec S1024x1024 1 :=
  let main_v18 : FVec F S8x257 .f32 := Host.absf main_arg6
  let main_cst_5 : FVec F S_ .f32 := constant S_ .f32 0x7F800000#32
  let main_v19 : FVec F S8x257 .f32 := broadcastInDim S8x257 ![] bcast_S_S8x257 main_cst_5
  let main_v20 : IVec S8x257 1 := cmpf .olt main_v18 main_v19
  let main_v21 : FVec F S512x1024 .f32 := Host.absf main_arg7
  let main_cst_6 : FVec F S_ .f32 := constant S_ .f32 0x7F800000#32
  let main_v22 : FVec F S512x1024 .f32 := broadcastInDim S512x1024 ![] bcast_S_S512x1024 main_cst_6
  let main_v23 : IVec S512x1024 1 := cmpf .olt main_v21 main_v22
  let main_v24 : FVec F S4x128x128 .f32 := Host.absf main_arg8
  let main_cst_7 : FVec F S_ .f32 := constant S_ .f32 0x7F800000#32
  let main_v25 : FVec F S4x128x128 .f32 := broadcastInDim S4x128x128 ![] bcast_S_S4x128x128 main_cst_7
  let main_v26 : IVec S4x128x128 1 := cmpf .olt main_v24 main_v25
  let main_v27 : FVec F S512 .f32 := Host.absf main_arg9
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S512x1024 .f32 := Host.absf main_arg10
  let main_cst_9 : FVec F S_ .f32 := constant S_ .f32 0x7F800000#32
  let main_v31 : FVec F S512x1024 .f32 := broadcastInDim S512x1024 ![] bcast_S_S512x1024 main_cst_9
  let main_v32 : IVec S512x1024 1 := cmpf .olt main_v30 main_v31
  let main_v33 : FVec F S1024x1024 .f32 := Host.absf main_arg11
  let main_cst_10 : FVec F S_ .f32 := constant S_ .f32 0x7F800000#32
  let main_v34 : FVec F S1024x1024 .f32 := broadcastInDim S1024x1024 ![] bcast_S_S1024x1024 main_cst_10
  let main_v35 : IVec S1024x1024 1 := cmpf .olt main_v33 main_v34
  (main_v2, main_v5, main_v8, main_v11, main_v14, main_v17, main_v20, main_v23, main_v26, main_v29, main_v32, main_v35)

def fn {F : FTy → Type} [FloatOps F] (main_arg0 : FVec F S2x8192x1024 .f32) (main_arg1 : FVec F S2x9x1024 .f32) (main_arg2 : FVec F S1024 .f32) (main_arg3 : FVec F S1024x4096 .f32) (main_arg4 : FVec F S64 .f32) (main_arg5 : FVec F S64 .f32) (main_arg6 : FVec F S8x257 .f32) (main_arg7 : FVec F S512x1024 .f32) (main_arg8 : FVec F S4x128x128 .f32) (main_arg9 : FVec F S512 .f32) (main_arg10 : FVec F S512x1024 .f32) (main_arg11 : FVec F S1024x1024 .f32) : IVec S2x8192x1024 1 × IVec S2x9x1024 1 × IVec S1024 1 × IVec S1024x4096 1 × IVec S64 1 × IVec S64 1 × IVec S8x257 1 × IVec S512x1024 1 × IVec S4x128x128 1 × IVec S512 1 × IVec S512x1024 1 × IVec S1024x1024 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S2x9x1024 .f32 := Host.absf main_arg1
  let main_cst_0 : FVec F S_ .f32 := constant S_ .f32 0x7F800000#32
  let main_v4 : FVec F S2x9x1024 .f32 := broadcastInDim S2x9x1024 ![] bcast_S_S2x9x1024 main_cst_0
  let main_v5 : IVec S2x9x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_arg9 main_arg10 main_arg11 main_v2 main_v5 main_v8 main_v11 main_v14 main_v17
-- ==== Kernel.lean ====
abbrev S2x8192x1024 : Shape := ⟨3, ![2, 8192, 1024]⟩
abbrev S2x9x1024 : Shape := ⟨3, ![2, 9, 1024]⟩
abbrev S1024 : Shape := ⟨1, ![1024]⟩
abbrev S1024x4096 : Shape := ⟨2, ![1024, 4096]⟩
abbrev S64 : Shape := ⟨1, ![64]⟩
abbrev S8x257 : Shape := ⟨2, ![8, 257]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S512x128 : Shape := ⟨2, ![512, 128]⟩
abbrev S1x1024 : Shape := ⟨2, ![1, 1024]⟩
abbrev S1x64 : Shape := ⟨2, ![1, 64]⟩
abbrev S8x1 : Shape := ⟨2, ![8, 1]⟩
abbrev S8x255 : Shape := ⟨2, ![8, 255]⟩
abbrev S8x385 : Shape := ⟨2, ![8, 385]⟩
abbrev S8x128 : Shape := ⟨2, ![8, 128]⟩
abbrev S8x768 : Shape := ⟨2, ![8, 768]⟩
abbrev S1x512 : Shape := ⟨2, ![1, 512]⟩
abbrev S1x512x1024 : Shape := ⟨3, ![1, 512, 1024]⟩
abbrev S1x9x1024 : Shape := ⟨3, ![1, 9, 1024]⟩
abbrev S1024x512 : Shape := ⟨2, ![1024, 512]⟩
abbrev S528x512 : Shape := ⟨2, ![528, 512]⟩
abbrev S512x512 : Shape := ⟨2, ![512, 512]⟩
abbrev S8x256x640 : Shape := ⟨3, ![8, 256, 640]⟩
abbrev S128x768 : Shape := ⟨2, ![128, 768]⟩
abbrev S1x768 : Shape := ⟨2, ![1, 768]⟩
abbrev S1x256 : Shape := ⟨2, ![1, 256]⟩
abbrev S128x1024 : Shape := ⟨2, ![128, 1024]⟩
abbrev S128x640 : Shape := ⟨2, ![128, 640]⟩
abbrev S1x128x640 : Shape := ⟨3, ![1, 128, 640]⟩
abbrev S4x256x640 : Shape := ⟨3, ![4, 256, 640]⟩
abbrev S128x128 : Shape := ⟨2, ![128, 128]⟩
abbrev S1x128 : Shape := ⟨2, ![1, 128]⟩
abbrev S16x512 : Shape := ⟨2, ![16, 512]⟩
abbrev S1x1x1024 : Shape := ⟨3, ![1, 1, 1024]⟩
abbrev S512x1 : Shape := ⟨2, ![512, 1]⟩
abbrev S528x384 : Shape := ⟨2, ![528, 384]⟩
abbrev S528x256 : Shape := ⟨2, ![528, 256]⟩
abbrev S528x128 : Shape := ⟨2, ![528, 128]⟩
abbrev S1024x256 : Shape := ⟨2, ![1024, 256]⟩
abbrev S512x256 : Shape := ⟨2, ![512, 256]⟩
abbrev S768x128 : Shape := ⟨2, ![768, 128]⟩
abbrev S512x768 : Shape := ⟨2, ![512, 768]⟩
abbrev S1x256x128 : Shape := ⟨3, ![1, 256, 128]⟩
abbrev S256x128 : Shape := ⟨2, ![256, 128]⟩
abbrev S256x640 : Shape := ⟨2, ![256, 640]⟩
abbrev S256 : Shape := ⟨1, ![256]⟩
abbrev S256x1 : Shape := ⟨2, ![256, 1]⟩
abbrev S640x256 : Shape := ⟨2, ![640, 256]⟩
abbrev S256x256 : Shape := ⟨2, ![256, 256]⟩
abbrev S512x2048 : Shape := ⟨2, ![512, 2048]⟩

abbrev nBuf : Space → Nat
  | .hbm => 29
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x9x1024, .f32⟩
  | .hbm, ⟨2, _⟩ => ⟨S1024, .f32⟩
  | .hbm, ⟨3, _⟩ => ⟨S1024x4096, .f32⟩
  | .hbm, ⟨4, _⟩ => ⟨S64, .f32⟩
  | .hbm, ⟨5, _⟩ => ⟨S64, .f32⟩
  | .hbm, ⟨6, _⟩ => ⟨S8x257, .f32⟩
  | .hbm, ⟨7, _⟩ => ⟨S512x1024, .f32⟩
  | .hbm, ⟨8, _⟩ => ⟨S4x128x128, .f32⟩
  | .hbm, ⟨9, _⟩ => ⟨S512, .f32⟩
  | .hbm, ⟨10, _⟩ => ⟨S512x1024, .f32⟩
  | .hbm, ⟨11, _⟩ => ⟨S1024x1024, .f32⟩
  | .hbm, ⟨12, _⟩ => ⟨S1024x4096, .bf16⟩
  | .hbm, ⟨13, _⟩ => ⟨S512x1024, .bf16⟩
  | .hbm, ⟨14, _⟩ => ⟨S512x128, .f32⟩
  | .hbm, ⟨15, _⟩ => ⟨S512x128, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S1x64, .f32⟩
  | .hbm, ⟨20, _⟩ => ⟨S1x64, .f32⟩
  | .hbm, ⟨21, _⟩ => ⟨S8x1, .f32⟩
  | .hbm, ⟨22, _⟩ => ⟨S8x255, .f32⟩
  | .hbm, ⟨23, _⟩ => ⟨S8x255, .f32⟩
  | .hbm, ⟨24, _⟩ => ⟨S8x385, .f32⟩
  | .hbm, ⟨25, _⟩ => ⟨S8x128, .f32⟩
  | .hbm, ⟨26, _⟩ => ⟨S8x768, .f32⟩
  | .hbm, ⟨27, _⟩ => ⟨S1x512, .f32⟩
  | .hbm, ⟨28, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x4096, .bf16⟩
  | .local _ .vmem, ⟨6, _⟩ => ⟨S1x64, .f32⟩
  | .local _ .vmem, ⟨7, _⟩ => ⟨S1x64, .f32⟩
  | .local _ .vmem, ⟨8, _⟩ => ⟨S8x768, .f32⟩
  | .local _ .vmem, ⟨9, _⟩ => ⟨S512x1024, .bf16⟩
  | .local _ .vmem, ⟨10, _⟩ => ⟨S512x128, .bf16⟩
  | .local _ .vmem, ⟨11, _⟩ => ⟨S1x512, .f32⟩
  | .local _ .vmem, ⟨12, _⟩ => ⟨S512x1024, .bf16⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1024x512, .bf16⟩
  | .local _ .vmem, ⟨17, _⟩ => ⟨S1024x1024, .bf16⟩
  | .local _ .vmem, ⟨18, _⟩ => ⟨S528x512, .f32⟩
  | .local _ .vmem, ⟨19, _⟩ => ⟨S512x512, .bf16⟩
  | .local _ .vmem, ⟨20, _⟩ => ⟨S8x256x640, .f32⟩
  | .local _ .vmem, ⟨21, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![2, 16], ![false, false]⟩

def k0_off1 (i : grid0.Coords) (c0_i32_132 : BitVec 32) : Fin 3 → Nat :=
  let arg1 : BitVec 32 := BitVec.ofNat 32 (i 1).val
  let c0_i32 : BitVec 32 := 0#32
  let v0 : BitVec 1 := Scalar.cmpi .eq arg1 c0_i32
  let v389 : BitVec 32 := Scalar.extui v0
  let c4_i32_118 : BitVec 32 := 4#32
  let v390 : BitVec 32 := Scalar.muli v389 c4_i32_118
  let v419 : BitVec 32 := Scalar.addi v390 c0_i32_132
  let v420 : Index := Scalar.indexCast v419
  let c0_133 : Index := 0#32
  let c0_134 : Index := 0#32
  ![v420.toNat, 0, 0]
def k0_off2 (i : grid0.Coords) (c0_i32_135 : BitVec 32) : Fin 3 → Nat :=
  let arg1 : BitVec 32 := BitVec.ofNat 32 (i 1).val
  let c0_i32 : BitVec 32 := 0#32
  let v0 : BitVec 1 := Scalar.cmpi .eq arg1 c0_i32
  let v389 : BitVec 32 := Scalar.extui v0
  let c4_i32_118 : BitVec 32 := 4#32
  let v390 : BitVec 32 := Scalar.muli v389 c4_i32_118
  let v423 : BitVec 32 := Scalar.addi v390 c0_i32_135
  let v424 : Index := Scalar.indexCast v423
  let c0_136 : Index := 0#32
  let c128_137 : Index := 128#32
  ![v424.toNat, 0, 128]
def k0_off3 (i : grid0.Coords) (c0_i32_138 : BitVec 32) : Fin 3 → Nat :=
  let arg1 : BitVec 32 := BitVec.ofNat 32 (i 1).val
  let c0_i32 : BitVec 32 := 0#32
  let v0 : BitVec 1 := Scalar.cmpi .eq arg1 c0_i32
  let v389 : BitVec 32 := Scalar.extui v0
  let c4_i32_118 : BitVec 32 := 4#32
  let v390 : BitVec 32 := Scalar.muli v389 c4_i32_118
  let v427 : BitVec 32 := Scalar.addi v390 c0_i32_138
  let v428 : Index := Scalar.indexCast v427
  let c0_139 : Index := 0#32
  let c256_140 : Index := 256#32
  ![v428.toNat, 0, 256]
def k0_off4 (i : grid0.Coords) (c0_i32_141 : BitVec 32) : Fin 3 → Nat :=
  let arg1 : BitVec 32 := BitVec.ofNat 32 (i 1).val
  let c0_i32 : BitVec 32 := 0#32
  let v0 : BitVec 1 := Scalar.cmpi .eq arg1 c0_i32
  let v389 : BitVec 32 := Scalar.extui v0
  let c4_i32_118 : BitVec 32 := 4#32
  let v390 : BitVec 32 := Scalar.muli v389 c4_i32_118
  let v431 : BitVec 32 := Scalar.addi v390 c0_i32_141
  let v432 : Index := Scalar.indexCast v431
  let c0_142 : Index := 0#32
  let c384 : Index := 384#32
  ![v432.toNat, 0, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S2x8192x1024 : Shape := ⟨3, ![2, 8192, 1024]⟩
abbrev S2x9x1024 : Shape := ⟨3, ![2, 9, 1024]⟩
abbrev S1024 : Shape := ⟨1, ![1024]⟩
abbrev S1024x4096 : Shape := ⟨2, ![1024, 4096]⟩
abbrev S64 : Shape := ⟨1, ![64]⟩
abbrev S8x257 : Shape := ⟨2, ![8, 257]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x8192x512 : Shape := ⟨3, ![2, 8192, 512]⟩
abbrev S2x128x64x8x64 : Shape := ⟨5, ![2, 128, 64, 8, 64]⟩
abbrev S2x128x64x8 : Shape := ⟨4, ![2, 128, 64, 8]⟩
abbrev S2x128x64x8x1 : Shape := ⟨5, ![2, 128, 64, 8, 1]⟩
abbrev S1x1x1x1x64 : Shape := ⟨5, ![1, 1, 1, 1, 64]⟩
abbrev S2x136x64x8x64 : Shape := ⟨5, ![2, 136, 64, 8, 64]⟩
abbrev S2x128x576x8x64 : Shape := ⟨5, ![2, 128, 576, 8, 64]⟩
abbrev S2x128x8x64x576 : Shape := ⟨5, ![2, 128, 8, 64, 576]⟩
abbrev S64x576 : Shape := ⟨2, ![64, 576]⟩
abbrev S64x576x1 : Shape := ⟨3, ![64, 576, 1]⟩
abbrev S8x64x576 : Shape := ⟨3, ![8, 64, 576]⟩
abbrev S128x576 : Shape := ⟨2, ![128, 576]⟩
abbrev S1x128x1x1x576 : Shape := ⟨5, ![1, 128, 1, 1, 576]⟩
abbrev S1x1x8x64x576 : Shape := ⟨5, ![1, 1, 8, 64, 576]⟩
abbrev S2x128x8x64 : Shape := ⟨4, ![2, 128, 8, 64]⟩
abbrev S2x128x8x64x1 : Shape := ⟨5, ![2, 128, 8, 64, 1]⟩
abbrev S2x128x8x64x64 : Shape := ⟨5, ![2, 128, 8, 64, 64]⟩
abbrev S2x8192x4x128 : Shape := ⟨4, ![2, 8192, 4, 128]⟩
abbrev S2x8193x4x128 : Shape := ⟨4, ![2, 8193, 4, 128]⟩
abbrev S2x8192x1x128 : Shape := ⟨4, ![2, 8192, 1, 128]⟩
abbrev S2x8192x128 : Shape := ⟨3, ![2, 8192, 128]⟩
abbrev S2x2x128 : Shape := ⟨3, ![2, 2, 128]⟩
abbrev S2x8190x1x128 : Shape := ⟨4, ![2, 8190, 1, 128]⟩
abbrev S2x8190x128 : Shape := ⟨3, ![2, 8190, 128]⟩
abbrev S8192x1 : Shape := ⟨2, ![8192, 1]⟩
abbrev S1x8192x1 : Shape := ⟨3, ![1, 8192, 1]⟩
abbrev S2x4x128 : Shape := ⟨3, ![2, 4, 128]⟩
abbrev S2x8188x1x128 : Shape := ⟨4, ![2, 8188, 1, 128]⟩
abbrev S2x8188x128 : Shape := ⟨3, ![2, 8188, 128]⟩
abbrev S2x8x128 : Shape := ⟨3, ![2, 8, 128]⟩
abbrev S2x8184x1x128 : Shape := ⟨4, ![2, 8184, 1, 128]⟩
abbrev S2x8184x128 : Shape := ⟨3, ![2, 8184, 128]⟩
abbrev S2x16x128 : Shape := ⟨3, ![2, 16, 128]⟩
abbrev S2x8176x1x128 : Shape := ⟨4, ![2, 8176, 1, 128]⟩
abbrev S2x8176x128 : Shape := ⟨3, ![2, 8176, 128]⟩
abbrev S4x128x2x8192 : Shape := ⟨4, ![4, 128, 2, 8192]⟩
abbrev S1x1x512 : Shape := ⟨3, ![1, 1, 512]⟩

abbrev nBuf : Space → Nat
  | .hbm => 297
  | .vmem => 0
  | .smem => 0
  | _ => 0

abbrev hbmTy0_0 (i : Nat) : BufTy := match i % 128 with
  | 0 => ⟨S2x8192x1024, .f32⟩
  | 1 => ⟨S2x9x1024, .f32⟩
  | 2 => ⟨S1024, .f32⟩
  | 3 => ⟨S1024x4096, .f32⟩
  | 4 => ⟨S64, .f32⟩
  | 5 => ⟨S64, .f32⟩
  | 6 => ⟨S8x257, .f32⟩
  | 7 => ⟨S512x1024, .f32⟩
  | 8 => ⟨S4x128x128, .f32⟩
  | 9 => ⟨S512, .f32⟩
  | 10 => ⟨S512x1024, .f32⟩
  | 11 => ⟨S1024x1024, .f32⟩
  | 12 => ⟨S2x1x1024, .f32⟩
  | 13 => ⟨S2x1024, .f32⟩
  | 14 => ⟨S2x1x1024, .f32⟩
  | 15 => ⟨S2x1x1024, .f32⟩
  | 16 => ⟨S2x1024, .f32⟩
  | 17 => ⟨S2x1x1024, .f32⟩
  | 18 => ⟨S2x1x1024, .f32⟩
  | 19 => ⟨S2x1024, .f32⟩
  | 20 => ⟨S2x1x1024, .f32⟩
  | 21 => ⟨S2x8192x1024, .f32⟩
  | 22 => ⟨S_, .f32⟩
  | 23 => ⟨S2x8192, .f32⟩
  | 24 => ⟨S2x8192x1, .f32⟩
  | 25 => ⟨S_, .f32⟩
  | 26 => ⟨S2x8192x1, .f32⟩
  | 27 => ⟨S2x8192x1, .f32⟩
  | 28 => ⟨S_, .f32⟩
  | 29 => ⟨S2x8192x1, .f32⟩
  | 30 => ⟨S2x8192x1, .f32⟩
  | 31 => ⟨S2x8192x1, .f32⟩
  | 32 => ⟨S2x8192x1024, .f32⟩
  | 33 => ⟨S2x8192x1024, .f32⟩
  | 34 => ⟨S1x1x1024, .f32⟩
  | 35 => ⟨S2x8192x1024, .f32⟩
  | 36 => ⟨S2x8192x1024, .f32⟩
  | 37 => ⟨S_, .f32⟩
  | 38 => ⟨S2x1x1024, .f32⟩
  | 39 => ⟨S2x1x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S2x8192x4096, .f32⟩
  | 45 => ⟨S2x8192x512, .f32⟩
  | 46 => ⟨S2x8192x512, .f32⟩
  | 47 => ⟨S2x8192x512, .f32⟩
  | 48 => ⟨S2x8192x512, .f32⟩
  | 49 => ⟨S2x8192x1024, .f32⟩
  | 50 => ⟨S2x8192x1024, .f32⟩
  | 51 => ⟨S2x128x64x8x64, .f32⟩
  | 52 => ⟨S2x128x64x8x64, .f32⟩
  | 53 => ⟨S_, .f32⟩
  | 54 => ⟨S2x128x64x8, .f32⟩
  | 55 => ⟨S2x128x64x8x1, .f32⟩
  | 56 => ⟨S_, .f32⟩
  | 57 => ⟨S2x128x64x8x1, .f32⟩
  | 58 => ⟨S2x128x64x8x1, .f32⟩
  | 59 => ⟨S_, .f32⟩
  | 60 => ⟨S2x128x64x8x1, .f32⟩
  | 61 => ⟨S2x128x64x8x1, .f32⟩
  | 62 => ⟨S2x128x64x8x1, .f32⟩
  | 63 => ⟨S2x128x64x8x64, .f32⟩
  | 64 => ⟨S2x128x64x8x64, .f32⟩
  | 65 => ⟨S1x1x1x1x64, .f32⟩
  | 66 => ⟨S2x128x64x8x64, .f32⟩
  | 67 => ⟨S2x128x64x8x64, .f32⟩
  | 68 => ⟨S2x128x64x8x64, .f32⟩
  | 69 => ⟨S2x128x64x8x64, .f32⟩
  | 70 => ⟨S_, .f32⟩
  | 71 => ⟨S2x128x64x8, .f32⟩
  | 72 => ⟨S2x128x64x8x1, .f32⟩
  | 73 => ⟨S_, .f32⟩
  | 74 => ⟨S2x128x64x8x1, .f32⟩
  | 75 => ⟨S2x128x64x8x1, .f32⟩
  | 76 => ⟨S_, .f32⟩
  | 77 => ⟨S2x128x64x8x1, .f32⟩
  | 78 => ⟨S2x128x64x8x1, .f32⟩
  | 79 => ⟨S2x128x64x8x1, .f32⟩
  | 80 => ⟨S2x128x64x8x64, .f32⟩
  | 81 => ⟨S2x128x64x8x64, .f32⟩
  | 82 => ⟨S1x1x1x1x64, .f32⟩
  | 83 => ⟨S2x128x64x8x64, .f32⟩
  | 84 => ⟨S2x128x64x8x64, .f32⟩
  | 85 => ⟨S2x128x64x8x64, .f32⟩
  | 86 => ⟨S_, .i32⟩
  | 87 => ⟨S_, .f32⟩
  | 88 => ⟨S2x136x64x8x64, .f32⟩
  | 89 => ⟨S_, .i32⟩
  | 90 => ⟨S_, .f32⟩
  | 91 => ⟨S2x136x64x8x64, .f32⟩
  | 92 => ⟨S2x128x64x8x64, .f32⟩
  | 93 => ⟨S2x128x64x8x64, .f32⟩
  | 94 => ⟨S2x128x64x8x64, .f32⟩
  | 95 => ⟨S2x128x64x8x64, .f32⟩
  | 96 => ⟨S2x128x64x8x64, .f32⟩
  | 97 => ⟨S2x128x64x8x64, .f32⟩
  | 98 => ⟨S2x128x64x8x64, .f32⟩
  | 99 => ⟨S2x128x64x8x64, .f32⟩
  | 100 => ⟨S2x128x64x8x64, .f32⟩
  | 101 => ⟨S2x128x576x8x64, .f32⟩
  | 102 => ⟨S2x128x64x8x64, .f32⟩
  | 103 => ⟨S2x128x64x8x64, .f32⟩
  | 104 => ⟨S2x128x64x8x64, .f32⟩
  | 105 => ⟨S2x128x64x8x64, .f32⟩
  | 106 => ⟨S2x128x64x8x64, .f32⟩
  | 107 => ⟨S2x128x64x8x64, .f32⟩
  | 108 => ⟨S2x128x64x8x64, .f32⟩
  | 109 => ⟨S2x128x64x8x64, .f32⟩
  | 110 => ⟨S2x128x64x8x64, .f32⟩
  | 111 => ⟨S2x128x576x8x64, .f32⟩
  | 112 => ⟨S2x128x8x64x576, .f32⟩
  | 113 => ⟨S_, .f32⟩
  | 114 => ⟨S2x128x8x64x576, .f32⟩
  | 115 => ⟨S2x128x8x64x576, .f32⟩
  | 116 => ⟨S64x576, .i32⟩
  | 117 => ⟨S64x576, .i32⟩
  | 118 => ⟨S_, .i32⟩
  | 119 => ⟨S64x576, .i32⟩
  | 120 => ⟨S64x576, .i32⟩
  | 121 => ⟨S64x576, .i32⟩
  | 122 => ⟨S_, .i32⟩
  | 123 => ⟨S_, .i32⟩
  | 124 => ⟨S_, .i32⟩
  | 125 => ⟨S64x576, .i32⟩
  | 126 => ⟨S64x576, .i32⟩
  | 127 => ⟨S_, .i32⟩
  | _ => ⟨S2x8192x1024, .f32⟩

abbrev hbmTy0_1 (i : Nat) : BufTy := match i % 128 with
  | 0 => ⟨S64x576, .i32⟩
  | 1 => ⟨S64x576, .i32⟩
  | 2 => ⟨S_, .i32⟩
  | 3 => ⟨S64x576, .i32⟩
  | 4 => ⟨S64x576, .i32⟩
  | 5 => ⟨S_, .i32⟩
  | 6 => ⟨S64x576, .i32⟩
  | 7 => ⟨S64x576, .i1⟩
  | 8 => ⟨S_, .i32⟩
  | 9 => ⟨S64x576, .i32⟩
  | 10 => ⟨S64x576, .i32⟩
  | 11 => ⟨S64x576, .i32⟩
  | 12 => ⟨S64x576x1, .i32⟩
  | 13 => ⟨S8x64x576, .f32⟩
  | 14 => ⟨S128x576, .i32⟩
  | 15 => ⟨S_, .i32⟩
  | 16 => ⟨S128x576, .i32⟩
  | 17 => ⟨S128x576, .i32⟩
  | 18 => ⟨S128x576, .i32⟩
  | 19 => ⟨S128x576, .i32⟩
  | 20 => ⟨S_, .i32⟩
  | 21 => ⟨S128x576, .i32⟩
  | 22 => ⟨S128x576, .i1⟩
  | 23 => ⟨S1x128x1x1x576, .i1⟩
  | 24 => ⟨S1x1x8x64x576, .f32⟩
  | 25 => ⟨S2x128x8x64x576, .f32⟩
  | 26 => ⟨S2x128x8x64x576, .f32⟩
  | 27 => ⟨S_, .f32⟩
  | 28 => ⟨S_, .f32⟩
  | 29 => ⟨S2x128x8x64x576, .i1⟩
  | 30 => ⟨S2x128x8x64x576, .f32⟩
  | 31 => ⟨S2x128x8x64x576, .f32⟩
  | 32 => ⟨S_, .f32⟩
  | 33 => ⟨S2x128x8x64, .f32⟩
  | 34 => ⟨S_, .f32⟩
  | 35 => ⟨S2x128x8x64, .f32⟩
  | 36 => ⟨S2x128x8x64, .f32⟩
  | 37 => ⟨S2x128x8x64x1, .f32⟩
  | 38 => ⟨S2x128x8x64x576, .f32⟩
  | 39 => ⟨S2x128x8x64x576, .f32⟩
  | 40 => ⟨S2x128x8x64x576, .f32⟩
  | 41 => ⟨S_, .f32⟩
  | 42 => ⟨S2x128x8x64, .f32⟩
  | 43 => ⟨S2x128x8x64x1, .f32⟩
  | 44 => ⟨S2x128x8x64x576, .f32⟩
  | 45 => ⟨S2x128x8x64x576, .f32⟩
  | 46 => ⟨S2x128x8x64x64, .f32⟩
  | 47 => ⟨S2x128x64x8x64, .f32⟩
  | 48 => ⟨S2x8192x512, .f32⟩
  | 49 => ⟨S2x8192x1024, .f32⟩
  | 50 => ⟨S2x8192x4x128, .f32⟩
  | 51 => ⟨S_, .f32⟩
  | 52 => ⟨S_, .f32⟩
  | 53 => ⟨S2x8192x4x128, .f32⟩
  | 54 => ⟨S_, .i32⟩
  | 55 => ⟨S_, .f32⟩
  | 56 => ⟨S2x8193x4x128, .f32⟩
  | 57 => ⟨S2x8192x1x128, .f32⟩
  | 58 => ⟨S2x8192x128, .f32⟩
  | 59 => ⟨S_, .f32⟩
  | 60 => ⟨S2x2x128, .f32⟩
  | 61 => ⟨S2x8190x1x128, .f32⟩
  | 62 => ⟨S2x8190x128, .f32⟩
  | 63 => ⟨S2x8192x128, .f32⟩
  | 64 => ⟨S8192x1, .i32⟩
  | 65 => ⟨S_, .i32⟩
  | 66 => ⟨S8192x1, .i32⟩
  | 67 => ⟨S8192x1, .i32⟩
  | 68 => ⟨S_, .i32⟩
  | 69 => ⟨S8192x1, .i32⟩
  | 70 => ⟨S8192x1, .i32⟩
  | 71 => ⟨S8192x1, .f32⟩
  | 72 => ⟨S2x8192x128, .f32⟩
  | 73 => ⟨S1x8192x1, .f32⟩
  | 74 => ⟨S2x8192x128, .f32⟩
  | 75 => ⟨S2x8192x128, .f32⟩
  | 76 => ⟨S2x8192x1x128, .f32⟩
  | 77 => ⟨S2x8192x128, .f32⟩
  | 78 => ⟨S_, .f32⟩
  | 79 => ⟨S2x4x128, .f32⟩
  | 80 => ⟨S2x8188x1x128, .f32⟩
  | 81 => ⟨S2x8188x128, .f32⟩
  | 82 => ⟨S2x8192x128, .f32⟩
  | 83 => ⟨S8192x1, .i32⟩
  | 84 => ⟨S_, .i32⟩
  | 85 => ⟨S8192x1, .i32⟩
  | 86 => ⟨S8192x1, .i32⟩
  | 87 => ⟨S_, .i32⟩
  | 88 => ⟨S8192x1, .i32⟩
  | 89 => ⟨S8192x1, .i32⟩
  | 90 => ⟨S8192x1, .f32⟩
  | 91 => ⟨S2x8192x128, .f32⟩
  | 92 => ⟨S1x8192x1, .f32⟩
  | 93 => ⟨S2x8192x128, .f32⟩
  | 94 => ⟨S2x8192x128, .f32⟩
  | 95 => ⟨S2x8192x1x128, .f32⟩
  | 96 => ⟨S2x8192x128, .f32⟩
  | 97 => ⟨S_, .f32⟩
  | 98 => ⟨S2x8x128, .f32⟩
  | 99 => ⟨S2x8184x1x128, .f32⟩
  | 100 => ⟨S2x8184x128, .f32⟩
  | 101 => ⟨S2x8192x128, .f32⟩
  | 102 => ⟨S8192x1, .i32⟩
  | 103 => ⟨S_, .i32⟩
  | 104 => ⟨S8192x1, .i32⟩
  | 105 => ⟨S8192x1, .i32⟩
  | 106 => ⟨S_, .i32⟩
  | 107 => ⟨S8192x1, .i32⟩
  | 108 => ⟨S8192x1, .i32⟩
  | 109 => ⟨S8192x1, .f32⟩
  | 110 => ⟨S2x8192x128, .f32⟩
  | 111 => ⟨S1x8192x1, .f32⟩
  | 112 => ⟨S2x8192x128, .f32⟩
  | 113 => ⟨S2x8192x128, .f32⟩
  | 114 => ⟨S2x8192x1x128, .f32⟩
  | 115 => ⟨S2x8192x128, .f32⟩
  | 116 => ⟨S_, .f32⟩
  | 117 => ⟨S2x16x128, .f32⟩
  | 118 => ⟨S2x8176x1x128, .f32⟩
  | 119 => ⟨S2x8176x128, .f32⟩
  | 120 => ⟨S2x8192x128, .f32⟩
  | 121 => ⟨S8192x1, .i32⟩
  | 122 => ⟨S_, .i32⟩
  | 123 => ⟨S8192x1, .i32⟩
  | 124 => ⟨S8192x1, .i32⟩
  | 125 => ⟨S_, .i32⟩
  | 126 => ⟨S8192x1, .i32⟩
  | 127 => ⟨S8192x1, .i32⟩
  | _ => ⟨S2x8192x1024, .f32⟩

abbrev hbmTy0_2 (i : Nat) : BufTy := match i % 128 with
  | 0 => ⟨S8192x1, .f32⟩
  | 1 => ⟨S2x8192x128, .f32⟩
  | 2 => ⟨S1x8192x1, .f32⟩
  | 3 => ⟨S2x8192x128, .f32⟩
  | 4 => ⟨S2x8192x128, .f32⟩
  | 5 => ⟨S2x8192x1x128, .f32⟩
  | 6 => ⟨S2x8192x1x128, .f32⟩
  | 7 => ⟨S2x8192x1x128, .f32⟩
  | 8 => ⟨S2x8192x1x128, .f32⟩
  | 9 => ⟨S2x8192x4x128, .f32⟩
  | 10 => ⟨S2x8192x4x128, .f32⟩
  | 11 => ⟨S4x128x2x8192, .f32⟩
  | 12 => ⟨S2x8192x4x128, .f32⟩
  | 13 => ⟨S2x8192x512, .f32⟩
  | 14 => ⟨S1x1x512, .f32⟩
  | 15 => ⟨S2x8192x512, .f32⟩
  | 16 => ⟨S2x8192x512, .f32⟩
  | 17 => ⟨S2x8192x1024, .f32⟩
  | 18 => ⟨S2x8192x1024, .f32⟩
  | 19 => ⟨S2x8192x1024, .f32⟩
  | 20 => ⟨S_, .f32⟩
  | 21 => ⟨S2x8192x1024, .f32⟩
  | 22 => ⟨S2x8192x1024, .f32⟩
  | 23 => ⟨S_, .f32⟩
  | 24 => ⟨S2x8192x1024, .f32⟩
  | 25 => ⟨S2x8192x1024, .f32⟩
  | 26 => ⟨S2x8192x1024, .f32⟩
  | 27 => ⟨S2x8192x1024, .f32⟩
  | 28 => ⟨S2x8192x1024, .f32⟩
  | 29 => ⟨S_, .f32⟩
  | 30 => ⟨S2x8192x1024, .f32⟩
  | 31 => ⟨S2x8192x1024, .f32⟩
  | 32 => ⟨S_, .f32⟩
  | 33 => ⟨S2x8192x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S2x8192x1024, .f32⟩
  | 40 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c : Ref sig .tc := ⟨.hbm, 86, rfl⟩
abbrev main_call0_v0 : Ref sig .tc := ⟨.hbm, 87, rfl⟩
abbrev main_v64 : Ref sig .tc := ⟨.hbm, 88, rfl⟩
abbrev main_c_9 : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_10 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_11 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_12 : Ref sig .tc := ⟨.hbm, 122, rfl⟩
abbrev main_c_13 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v94 : Ref sig .tc := ⟨.hbm, 129, rfl⟩
abbrev main_c_14 : Ref sig .tc := ⟨.hbm, 130, rfl⟩
abbrev main_v95 : Ref sig .tc := ⟨.hbm, 131, rfl⟩
abbrev main_v96 : Ref sig .tc := ⟨.hbm, 132, rfl⟩
abbrev main_c_15 : Ref sig .tc := ⟨.hbm, 133, rfl⟩
abbrev main_v97 : Ref sig .tc := ⟨.hbm, 134, rfl⟩
abbrev main_v98 : Ref sig .tc := ⟨.hbm, 135, rfl⟩
abbrev main_c_16 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_17 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_18 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_19 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_v115 : Ref sig .tc := ⟨.hbm, 159, rfl⟩
abbrev main_cst_20 : Ref sig .tc := ⟨.hbm, 160, rfl⟩
abbrev main_v116 : Ref sig .tc := ⟨.hbm, 161, rfl⟩
abbrev main_cst_21 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_22 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_call4_call0_cst : Ref sig .tc := ⟨.hbm, 179, rfl⟩
abbrev main_call4_call0_v0 : Ref sig .tc := ⟨.hbm, 180, rfl⟩
abbrev main_v132 : Ref sig .tc := ⟨.hbm, 181, rfl⟩
abbrev main_c_23 : Ref sig .tc := ⟨.hbm, 182, rfl⟩
abbrev main_call5_v0 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_24 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_25 : Ref sig .tc := ⟨.hbm, 193, rfl⟩
abbrev main_v141 : Ref sig .tc := ⟨.hbm, 194, rfl⟩
abbrev main_v142 : Ref sig .tc := ⟨.hbm, 195, rfl⟩
abbrev main_c_26 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_27 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_c_28 : Ref sig .tc := ⟨.hbm, 212, rfl⟩
abbrev main_v157 : Ref sig .tc := ⟨.hbm, 213, rfl⟩
abbrev main_v158 : Ref sig .tc := ⟨.hbm, 214, rfl⟩
abbrev main_c_29 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_30 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_c_31 : Ref sig .tc := ⟨.hbm, 231, rfl⟩
abbrev main_v173 : Ref sig .tc := ⟨.hbm, 232, rfl⟩
abbrev main_v174 : Ref sig .tc := ⟨.hbm, 233, rfl⟩
abbrev main_c_32 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_cst_33 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_c_34 : Ref sig .tc := ⟨.hbm, 250, rfl⟩
abbrev main_v189 : Ref sig .tc := ⟨.hbm, 251, rfl⟩
abbrev main_v190 : Ref sig .tc := ⟨.hbm, 252, rfl⟩
abbrev main_c_35 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_cst_36 : Ref sig .tc := ⟨.hbm, 276, rfl⟩
abbrev main_v213 : Ref sig .tc := ⟨.hbm, 277, rfl⟩
abbrev main_v214 : Ref sig .tc := ⟨.hbm, 278, rfl⟩
abbrev main_cst_37 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_cst_38 : Ref sig .tc := ⟨.hbm, 285, rfl⟩
abbrev main_v220 : Ref sig .tc := ⟨.hbm, 286, rfl⟩
abbrev main_v221 : Ref sig .tc := ⟨.hbm, 287, rfl⟩
abbrev main_cst_39 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x9x1024 : Shape := ⟨3, ![2, 9, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S1024x1 : Shape := ⟨2, ![1024, 1]⟩
abbrev S1024x256 : Shape := ⟨2, ![1024, 256]⟩
abbrev S1024x2816 : Shape := ⟨2, ![1024, 2816]⟩

abbrev nBuf : Space → Nat
  | .hbm => 10
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S2x9x1024 : Shape := ⟨3, ![2, 9, 1024]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x5632, .f32⟩
  | .hbm, ⟨38, _⟩ => ⟨S2x8192x2816, .f32⟩
  | .hbm, ⟨39, _⟩ => ⟨S2x8192x2816, .f32⟩
  | .hbm, ⟨40, _⟩ => ⟨S_, .f32⟩
  | .hbm, ⟨41, _⟩ => ⟨S2x1x1024, .f32⟩
  | .hbm, ⟨42, _⟩ => ⟨S2x1x1024, .f32⟩
  | .hbm, ⟨43, _⟩ => ⟨S2x8192x2816, .f32⟩
  | .hbm, ⟨44, _⟩ => ⟨S2x8192x2816, .f32⟩
  | .hbm, ⟨45, _⟩ => ⟨S_, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Kernel3.lean ====
abbrev S2x1024 : Shape := ⟨2, ![2, 1024]⟩
abbrev S1024x9216 : Shape := ⟨2, ![1024, 9216]⟩
abbrev S9216 : Shape := ⟨1, ![9216]⟩
abbrev S1024x5632 : Shape := ⟨2, ![1024, 5632]⟩
abbrev S2816x1024 : Shape := ⟨2, ![2816, 1024]⟩
abbrev S1024x2 : Shape := ⟨2, ![1024, 2]⟩
abbrev S1x9216 : Shape := ⟨2, ![1, 9216]⟩
abbrev S2x9x1024 : Shape := ⟨3, ![2, 9, 1024]⟩
abbrev S128x2 : Shape := ⟨2, ![128, 2]⟩
abbrev S128x9216 : Shape := ⟨2, ![128, 9216]⟩
abbrev S128x5632 : Shape := ⟨2, ![128, 5632]⟩
abbrev S352x1024 : Shape := ⟨2, ![352, 1024]⟩
abbrev S1x1024 : Shape := ⟨2, ![1, 1024]⟩
abbrev S2x1x1024 : Shape := ⟨3, ![2, 1, 1024]⟩
abbrev S128x1 : Shape := ⟨2, ![128, 1]⟩
abbrev S1x1x1024 : Shape := ⟨3, ![1, 1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x1024, .f32⟩
  | .hbm, ⟨1, _⟩ => ⟨S1024x9216, .f32⟩
  | .hbm, ⟨2, _⟩ => ⟨S9216, .f32⟩
  | .hbm, ⟨3, _⟩ => ⟨S1024x5632, .f32⟩
  | .hbm, ⟨4, _⟩ => ⟨S2816x1024, .f32⟩
  | .hbm, ⟨5, _⟩ => ⟨S1024x2, .f32⟩
  | .hbm, ⟨6, _⟩ => ⟨S1x9216, .f32⟩
  | .hbm, ⟨7, _⟩ => ⟨S2x9x1024, .f32⟩
  | .hbm, ⟨8, _⟩ => ⟨S1024x5632, .bf16⟩
  | .hbm, ⟨9, _⟩ => ⟨S2816x1024, .bf16⟩
  | .local _ .vmem, ⟨0, _⟩ => ⟨S128x2, .f32⟩
  | .local _ .vmem, ⟨1, _⟩ => ⟨S128x2, .f32⟩
  | .local _ .vmem, ⟨2, _⟩ => ⟨S128x9216, .f32⟩
  | .local _ .vmem, ⟨3, _⟩ => ⟨S128x9216, .f32⟩
  | .local _ .vmem, ⟨4, _⟩ => ⟨S1x9216, .f32⟩
  | .local _ .vmem, ⟨5, _⟩ => ⟨S128x5632, .f32⟩
  | .local _ .vmem, ⟨6, _⟩ => ⟨S128x5632, .f32⟩
  | .local _ .vmem, ⟨7, _⟩ => ⟨S352x1024, .f32⟩
  | .local _ .vmem, ⟨8, _⟩ => ⟨S352x1024, .f32⟩
  | .local _ .vmem, ⟨9, _⟩ => ⟨S2x9x1024, .f32⟩
  | .local _ .vmem, ⟨10, _⟩ => ⟨S128x5632, .bf16⟩
  | .local _ .vmem, ⟨11, _⟩ => ⟨S128x5632, .bf16⟩
  | .local _ .vmem, ⟨12, _⟩ => ⟨S352x1024, .bf16⟩
  | .local _ .vmem, ⟨13, _⟩ => ⟨S352x1024, .bf16⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x1024 : Shape := ⟨2, ![2, 1024]⟩
abbrev S1024x9216 : Shape := ⟨2, ![1024, 9216]⟩
abbrev S9216 : Shape := ⟨1, ![9216]⟩
abbrev S1024x5632 : Shape := ⟨2, ![1024, 5632]⟩
abbrev S2816x1024 : Shape := ⟨2, ![2816, 1024]⟩
abbrev S_ : Shape := ⟨0, ![]⟩
abbrev S2x9216 : Shape := ⟨2, ![2, 9216]⟩
abbrev S1x9216 : Shape := ⟨2, ![1, 9216]⟩
abbrev S2x9x1024 : Shape := ⟨3, ![2, 9, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024x9216, .f32⟩
  | .hbm, ⟨2, _⟩ => ⟨S9216, .f32⟩
  | .hbm, ⟨3, _⟩ => ⟨S1024x5632, .f32⟩
  | .hbm, ⟨4, _⟩ => ⟨S2816x1024, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x9216, .f32⟩
  | .hbm, ⟨15, _⟩ => ⟨S1x9216, .f32⟩
  | .hbm, ⟨16, _⟩ => ⟨S2x9216, .f32⟩
  | .hbm, ⟨17, _⟩ => ⟨S2x9216, .f32⟩
  | .hbm, ⟨18, _⟩ => ⟨S2x9x1024, .f32⟩
  | .hbm, ⟨19, _⟩ => ⟨S1024x5632, .bf16⟩
  | .hbm, ⟨20, _⟩ => ⟨S2816x1024, .bf16⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.Frames.lean ====
/-
  The frames of the six programs, and the named constants of the kernel.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run

@[expose] public section

noncomputable section

namespace Cert.Proof

open Idealize.ShloMosaic Idealize.ShloMosaic.TcCoe Idealize.SL.Sem

theorem frame_k : Cert.quiescent_Kernel (hKernel := Cert.Kernel.Gen.facts) := fun m ρ _ => Cert.Kernel.Gen.frame m ρ
theorem frame_ki : Cert.quiescent_KernelIdeal (hKernelIdeal := Cert.KernelIdeal.Gen.facts) := fun m ρ _ =>
  Cert.KernelIdeal.Gen.frame m ρ
theorem frame_k2 : Cert.quiescent_Kernel2 (hKernel2 := Cert.Kernel2.Gen.facts) := fun m ρ _ => Cert.Kernel2.Gen.frame m ρ
theorem frame_k2i : Cert.quiescent_Kernel2Ideal (hKernel2Ideal := Cert.Kernel2Ideal.Gen.facts) := fun m ρ _ =>
  Cert.Kernel2Ideal.Gen.frame m ρ

/-- The token-mixing reference keeps its arguments and declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward reference keeps its arguments and declares no semaphore. -/
theorem frame_r2i : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealized token-mixing kernel differs by its three named constants alone. -/
theorem preserves_k : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl,
   IdealRules.named_const.statement Cert.KernelIdeal.κ "qscale" .f32 0x3E38AA3B#32 (((1 / 8) * (Real.log 2)⁻¹ : ℝ) : EReal) rfl⟩

theorem preserves_k2 : Cert.preserves_Kernel2_Kernel2Ideal := trivial

end Cert.Proof

end
-- ==== Proof.RowMath.lean ====
/-
  The rows of the layer as plain functions on extended reals: the root-mean-square normalization with its
  adaptive scale and shift, and the gated feed-forward row built on it. Both the kernels and the references
  are read against these.
-/
module

public import Idealize.ShloMosaic.Lib.Pointwise

@[expose] public section

noncomputable section

namespace Cert.Layer

open Idealize.ShloMosaic

/-- The row scaled to unit root mean square, then by the gain and `1 + scale`, then shifted. -/
def normRow (x g sc sh : Fin 1024 → EReal) (k : Fin 1024) : EReal :=
  x k * Ideal.rsqrt (Ideal.div (∑ j, x j * x j) (Ideal.ofBits FTy.f32 1149239296#32) + Ideal.ofBits FTy.f32 897988541#32)
    * (g k * (1 + sc k)) + sh k

/-- A row against one column of a matrix. -/
def dotCol {K N : Nat} (h : Fin K → EReal) (W : Fin K → Fin N → EReal) (n : Fin N) : EReal := ∑ k, h k * W k n

/-- The hidden unit `n` of the gated feed-forward row: the first half of the projection through `z * logistic z`, times
    the second half. -/
def hiddenUnit (h : Fin 1024 → EReal) (W1 : Fin 1024 → Fin 5632 → EReal) (n : Fin 2816) : EReal :=
  dotCol h W1 ⟨n.val, by omega⟩ * Ideal.logistic (dotCol h W1 ⟨n.val, by omega⟩) * dotCol h W1 ⟨2816 + n.val, by omega⟩

/-- One output element of the feed-forward sublayer: the residual plus half the gate times the second projection. -/
def ffnRow (x g sc sh gate : Fin 1024 → EReal) (W1 : Fin 1024 → Fin 5632 → EReal) (W2 : Fin 2816 → Fin 1024 → EReal)
    (q : Fin 1024) : EReal :=
  x q + Ideal.ofBits FTy.f32 1056964608#32 * gate q * dotCol (hiddenUnit (normRow x g sc sh) W1) W2 q

end Cert.Layer
-- ==== Proof.FfnPay.lean ====
/-
  The feed-forward kernel's body, read at one element: what its store holds as a function of the loaded blocks.
-/
module

public import proofs.«01_k».proof.Proof.Gen.Kernel2Ideal.Frame
public import proofs.«01_k».proof.Proof.RowMath
public import Idealize.ShloMosaic.Lib.Pointwise
public import Idealize.ShloMosaic.Lib.Pipeline.Value

@[expose] public section

noncomputable section

namespace Cert.Kernel2Ideal.Value

open Cert.Kernel2Ideal Cert.Kernel2Ideal.Gen Idealize.ShloMosaic Cert.Layer

/-- One chunk of 256 hidden units, from the normalized rows and the two weight blocks of the chunk. -/
def chunk (v : FVec Ideal S1024x1024 .bf16) (a b : Vec Ideal S1024x256 .bf16) (i : S1024x256.Idx) : EReal :=
  (∑ k, v (ix2 (i 0) k) * a (ix2 k (i 1))) * Ideal.logistic (∑ k, v (ix2 (i 0) k) * a (ix2 k (i 1)))
    * ∑ k, v (ix2 (i 0) k) * b (ix2 k (i 1))

variable (v : FVec Ideal S1024x1024 .bf16) (a b : Vec Ideal S1024x256 .bf16)

theorem pay7_eq : k0_pay7 v a b = chunk v a b := by funext i; pointwise [k0_pay7, chunk]
theorem pay8_eq : k0_pay8 v a b = chunk v a b := by funext i; pointwise [k0_pay8, chunk]
theorem pay9_eq : k0_pay9 v a b = chunk v a b := by funext i; pointwise [k0_pay9, chunk]
theorem pay12_eq : k0_pay12 v (k0_pay10 v a) (k0_pay11 b) = chunk v a b := by
  funext i; pointwise [k0_pay12, k0_pay10, k0_pay11, chunk]
theorem pay13_eq : k0_pay13 v a b = chunk v a b := by funext i; pointwise [k0_pay13, chunk]
theorem pay14_eq : k0_pay14 v a b = chunk v a b := by funext i; pointwise [k0_pay14, chunk]
theorem pay15_eq : k0_pay15 v a b = chunk v a b := by funext i; pointwise [k0_pay15, chunk]
theorem pay17_eq : k0_pay17 v (k0_pay16 v a) b = chunk v a b := by
  funext i; pointwise [k0_pay17, k0_pay16, chunk]
theorem pay18_eq : k0_pay18 v a b = chunk v a b := by funext i; pointwise [k0_pay18, chunk]
theorem pay6_eq (v0 : Vec Ideal S1024x1024 .f32) (v2 v4 : Vec Ideal S1x1x1024 .f32) (v8 : Vec Ideal S1x1024 .f32) :
    k0_pay6 (k0_pay4 v0 v2 v4 v8 b) (k0_pay5 v0 v2 v4 v8 a) = chunk (k0_pay3 v0 v2 v4 v8) a b := by
  unfold k0_pay4 k0_pay5
  generalize k0_pay3 v0 v2 v4 v8 = w
  funext i; pointwise [k0_pay6, chunk]

/-- The normalized block at an element. -/
theorem pay3_apply (v0 : Vec Ideal S1024x1024 .f32) (v2 v4 : Vec Ideal S1x1x1024 .f32) (v8 : Vec Ideal S1x1024 .f32)
    (p : Fin 1024) (q : Fin 1024) :
    k0_pay3 v0 v2 v4 v8 (ix2 p q) = normRow (fun k => v0 (ix2 p k)) (fun k => v8 (ix2 0 k)) (fun k => v4 (ix3 0 0 k))
      (fun k => v2 (ix3 0 0 k)) q := by
  pointwise [k0_pay3, k0_pay1, normRow]

/-- Eleven chunks of one shape side by side, at an element. -/
theorem cat_apply (c : Fin 11 → S1024x256.Idx → EReal) (h) (p : Fin 1024) (n : Fin 2816) :
    concatenate S1024x2816 1 [⟨S1024x256, c 0⟩, ⟨S1024x256, c 1⟩, ⟨S1024x256, c 2⟩, ⟨S1024x256, c 3⟩, ⟨S1024x256, c 4⟩,
      ⟨S1024x256, c 5⟩, ⟨S1024x256, c 6⟩, ⟨S1024x256, c 7⟩, ⟨S1024x256, c 8⟩, ⟨S1024x256, c 9⟩, ⟨S1024x256, c 10⟩] h (ix2 p n)
      = c ⟨n.val / 256, by omega⟩ (ix2 p ⟨n.val % 256, by omega⟩) := by
  refine concatenate_ofFn_apply (t := S1024x2816) (s₁ := S1024x256) 1 c h rfl 256 rfl (ix2 p n) ⟨n.val / 256, by omega⟩ rfl
    (ix2 p ⟨n.val % 256, by omega⟩) rfl ?_
  intro b hb
  match b with
  | ⟨0, _⟩ => rfl
  | ⟨1, _⟩ => exact absurd rfl hb

/-- The last payload at an element, the first ten chunks as they come in. -/
theorem pay19_apply (v1 : FVec Ideal S1024x1024 .f32) (v7 : FVec Ideal S1x1024 .f32) (c : Fin 11 → S1024x256.Idx → EReal)
    (hc : c 10 = chunk v a b) (w : Vec Ideal S2816x1024 .bf16) (p : Fin 1024) (q : Fin 1024) :
    k0_pay19 (F := Ideal) v1 v7 v (c 0) (c 1) (c 2) (c 3) (c 4) (c 5) (c 6) (c 7) (c 8) (c 9) a b w (ix2 p q)
      = v1 (ix2 p q) + Ideal.ofBits FTy.f32 1056964608#32 * v7 (ix2 0 q)
          * ∑ n : Fin 2816, c ⟨n.val / 256, by omega⟩ (ix2 p ⟨n.val % 256, by omega⟩) * w (ix2 n q) := by
  have h10 : truncf (F := Ideal) .bf16 (k0_pay18 v a b) bitsLt_bf16_f32 = c 10 := by
    rw [pay18_eq, hc]; rfl
  unfold k0_pay19
  have h10' := h10
  unfold k0_pay18 at h10'
  rw [h10']
  have e := cat_apply c
  generalize hC : concatenate (α := Ideal .bf16) S1024x2816 1 _ _ = C
  have e' : ∀ p n, C (ix2 p n) = c ⟨n.val / 256, by omega⟩ (ix2 p ⟨n.val % 256, by omega⟩) := by
    intro p n; rw [← hC]; exact cat_apply c _ p n
  pointwise
  simp only [e']

end Cert.Kernel2Ideal.Value
-- ==== Proof.FfnValue.lean ====
/-
  The feed-forward kernel's result array, element by element, and its equality with the reference's.
-/
module

public import proofs.«01_k».proof.Proof.Gen.Kernel2Ideal.Value
public import proofs.«01_k».proof.Proof.Gen.Reference2Ideal.Read
public import proofs.«01_k».proof.Proof.FfnPay
public import Idealize.ShloMosaic.Lib.Pipeline.ValueKit.Tiles

@[expose] public section

noncomputable section

namespace Cert.Kernel2Ideal.Value

open Cert.Kernel2Ideal Cert.Kernel2Ideal.Gen Idealize.ShloMosaic Idealize.ShloMosaic.TcCoe Idealize.SL.Sem Cert.Layer
open Idealize.ShloMosaic.Pipeline (Dat)

theorem hz2 : (![0, 0] : Fin 2 → Nat) = fun _ => 0 := funext fun a => by fin_cases a <;> rfl

/-- A chunk whose weight blocks are columns `256 j …` of the two halves of the first weight is 256 hidden units. -/
theorem chunk_ld (w : FVec Ideal S1024x1024 .bf16) (x3 : Vec Ideal S1024x5632 .bf16) (j : Fin 11) (o o' : Nat)
    (ho : o = 256 * j.val) (ho' : o' = 2816 + 256 * j.val) (inb) (inb') :
    chunk w (View.ld x3 (Rect.unit (s := S1024x5632) ![0, o] S1024x256.size inb))
        (View.ld x3 (Rect.unit (s := S1024x5632) ![0, o'] S1024x256.size inb'))
      = fun i => hiddenUnit (fun k => w (ix2 (i 0) k)) (fun k n => x3 (ix2 k n)) ⟨256 * j.val + (i 1).val, by
          have h1 : (i 1).val < 256 := (i 1).isLt; have := j.isLt; omega⟩ := by
  subst ho ho'
  funext i
  have h1 : (i 1).val < 256 := (i 1).isLt
  have ea : ∀ k : Fin 1024, View.ld x3 (Rect.unit (s := S1024x5632) ![0, 256 * j.val] S1024x256.size inb) (ix2 k (i 1))
      = x3 (ix2 k ⟨256 * j.val + (i 1).val, by omega⟩) := fun k =>
    View.ld_unit_apply_of x3 _ _ inb _ _ (fun a => match a with
      | ⟨0, _⟩ => (Nat.zero_add _).symm
      | ⟨1, _⟩ => rfl)
  have eb : ∀ k : Fin 1024, View.ld x3 (Rect.unit (s := S1024x5632) ![0, 2816 + 256 * j.val] S1024x256.size inb') (ix2 k (i 1))
      = x3 (ix2 k ⟨2816 + (256 * j.val + (i 1).val), by omega⟩) := fun k =>
    View.ld_unit_apply_of x3 _ _ inb' _ _ (fun a => match a with
      | ⟨0, _⟩ => (Nat.zero_add _).symm
      | ⟨1, _⟩ => (Nat.add_assoc _ _ _).symm)
  unfold chunk hiddenUnit dotCol
  simp only [ea, eb]

/-- A row of the modulation block loaded on its own. -/
theorem ld_mod (x1 : Vec Ideal S1x9x1024 .f32) (r : Nat) (hr : r < 9) (inb) (k : Fin 1024) :
    View.ld x1 (Rect.unit (s := S1x9x1024) ![0, r, 0] S1x1x1024.size inb) (ix3 0 0 k) = x1 (ix3 0 ⟨r, hr⟩ k) :=
  View.ld_unit_apply_of x1 _ _ inb _ _ (fun a => match a with
    | ⟨0, _⟩ => rfl
    | ⟨1, _⟩ => rfl
    | ⟨2, _⟩ => (Nat.zero_add _).symm)

/-- What the body's store holds at an element: the feed-forward row of the loaded blocks. -/
theorem out0_5_apply (x0 : Vec Ideal S1024x1024 .f32) (x1 : Vec Ideal S1x9x1024 .f32) (x2 : Vec Ideal S1x1024 .f32)
    (x3 : Vec Ideal S1024x5632 .bf16) (x4 : Vec Ideal S2816x1024 .bf16) (p q : Fin 1024) :
    out0_5 x0 x1 x2 x3 x4 (ix2 p q)
      = ffnRow (fun k => x0 (ix2 p k)) (fun k => x2 (ix2 0 k)) (fun k => x1 (ix3 0 7 k)) (fun k => x1 (ix3 0 6 k))
          (fun k => x1 (ix3 0 8 k)) (fun k n => x3 (ix2 k n)) (fun n q => x4 (ix2 n q)) q := by
  unfold out0_5 k0_pay20
  rw [View.canon_unit_zero hz2, pay6_eq, pay7_eq, pay8_eq, pay9_eq, pay12_eq, pay13_eq, pay14_eq, pay15_eq, pay17_eq, pay18_eq]
  generalize hw : k0_pay3 (View.ld x0 r0_0) (View.ld x1 r0_1) (View.ld x1 r0_2) (View.ld x2 r0_4) = w
  have hrow : ∀ p k, w (ix2 p k) = normRow (fun k => x0 (ix2 p k)) (fun k => x2 (ix2 0 k)) (fun k => x1 (ix3 0 7 k)) (fun k => x1 (ix3 0 6 k)) k := by
    intro p k
    rw [← hw, pay3_apply, View.ld_unit_zero hz2, View.ld_unit_zero hz2]
    simp only [r0_1, r0_2, ld_mod x1 6 (by omega), ld_mod x1 7 (by omega)]; rfl
  set c : Fin 11 → S1024x256.Idx → EReal := fun j i => hiddenUnit (fun k => w (ix2 (i 0) k)) (fun k n => x3 (ix2 k n)) ⟨256 * j.val + (i 1).val, by
          have h1 : (i 1).val < 256 := (i 1).isLt; have := j.isLt; omega⟩ with hc
  have e0 : chunk w (View.ld x3 r0_5) (View.ld x3 r0_6) = c 0 := chunk_ld w x3 0 _ _ rfl rfl _ _
  have e1 : chunk w (View.ld x3 r0_7) (View.ld x3 r0_8) = c 1 := chunk_ld w x3 1 _ _ rfl rfl _ _
  have e2 : chunk w (View.ld x3 r0_9) (View.ld x3 r0_10) = c 2 := chunk_ld w x3 2 _ _ rfl rfl _ _
  have e3 : chunk w (View.ld x3 r0_11) (View.ld x3 r0_12) = c 3 := chunk_ld w x3 3 _ _ rfl rfl _ _
  have e4 : chunk w (View.ld x3 r0_13) (View.ld x3 r0_14) = c 4 := chunk_ld w x3 4 _ _ rfl rfl _ _
  have e5 : chunk w (View.ld x3 r0_15) (View.ld x3 r0_16) = c 5 := chunk_ld w x3 5 _ _ rfl rfl _ _
  have e6 : chunk w (View.ld x3 r0_17) (View.ld x3 r0_18) = c 6 := chunk_ld w x3 6 _ _ rfl rfl _ _
  have e7 : chunk w (View.ld x3 r0_19) (View.ld x3 r0_20) = c 7 := chunk_ld w x3 7 _ _ rfl rfl _ _
  have e8 : chunk w (View.ld x3 r0_21) (View.ld x3 r0_22) = c 8 := chunk_ld w x3 8 _ _ rfl rfl _ _
  have e9 : chunk w (View.ld x3 r0_23) (View.ld x3 r0_24) = c 9 := chunk_ld w x3 9 _ _ rfl rfl _ _
  have e10 : chunk w (View.ld x3 r0_25) (View.ld x3 r0_26) = c 10 := chunk_ld w x3 10 _ _ rfl rfl _ _
  rw [e0, e1, e2, e3, e4, e5, e6, e7, e8, e9, pay19_apply w _ _ _ _ c e10.symm]
  have h1 : k0_pay1 (View.ld x0 r0_0) = x0 := by
    rw [View.ld_unit_zero hz2]; funext i; pointwise [k0_pay1]
  have h7 : k0_pay2 (View.ld x1 r0_3) (ix2 0 q) = x1 (ix3 0 8 q) := by
    pointwise [k0_pay2]
  rw [h1, h7, View.ld_unit_zero hz2]
  unfold ffnRow
  congr 2
  unfold dotCol
  refine Finset.sum_congr rfl fun n _ => ?_
  congr 1
  show hiddenUnit (fun k => w (ix2 p k)) _ ⟨256 * (n.val / 256) + n.val % 256, _⟩ = _
  simp only [hrow, Nat.div_add_mod]

variable (m : (ℓ : Loc nD τ sig) → Buf (Elt Ideal) ℓ)

theorem V_v0 (c : Dev nD) : V m c main_v0 = shapeCast _ (m ((c : Thread nD τ).loc main_arg0)) shapeCasts_S2x8192x1024_S16384x1024 := by
  simp only [V, hostOps0]; after_results_simp <;> rfl
theorem V_v1 (c : Dev nD) : V m c main_v1 = truncf (F := Ideal) .bf16 (m ((c : Thread nD τ).loc main_arg3)) bitsLt_bf16_f32 := by
  simp only [V, hostOps0]; after_results_simp <;> rfl
theorem V_v2 (c : Dev nD) : V m c main_v2 = truncf (F := Ideal) .bf16 (m ((c : Thread nD τ).loc main_arg4)) bitsLt_bf16_f32 := by
  simp only [V, hostOps0]; after_results_simp <;> rfl
theorem V_v3 (c : Dev nD) : V m c main_v3 = shapeCast _ (m ((c : Thread nD τ).loc main_arg2)) shapeCasts_S1024_S1x1024 := by
  simp only [V, hostOps0]; after_results_simp <;> rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem lt16 (t : Fin cfg0.N) : t.val < 16 := lt_of_lt_of_eq t.isLt N_0

theorem iblk0 (c : Dev nD) (t : Fin cfg0.N) (p k : Fin 1024) :
    iblk m c 0 t (ix2 p k) = V m c main_v0 (ix2 ⟨1024 * t.val + p.val, by have := lt16 t; omega⟩ k) := by
  show V m c main_v0 ((win0_0.blk t).view.emb (ix2 p k)) = _
  congr 1
  funext a; apply Fin.ext
  match a with
  | ⟨0, _⟩ => show win0_0.index t 0 * 1024 + 1 * p.val = _; rw [(index0 t).1]; show _ = 1024 * t.val + p.val; omega
  | ⟨1, _⟩ => show win0_0.index t 1 * 1024 + 1 * k.val = k.val; rw [(index0 t).2]; omega
theorem iblk1 (c : Dev nD) (t : Fin cfg0.N) (r : Fin 9) (k : Fin 1024) :
    iblk m c 1 t (ix3 0 r k) = V m c main_arg1 (ix3 ⟨t.val / 8, by have := lt16 t; omega⟩ r k) := by
  show V m c main_arg1 ((win0_1.blk t).view.emb (ix3 0 r k)) = _
  congr 1
  funext a; apply Fin.ext
  match a with
  | ⟨0, _⟩ => show win0_1.index t 0 * 1 + 1 * 0 = t.val / 8; rw [(index1 t).1]; omega
  | ⟨1, _⟩ => show win0_1.index t 1 * 9 + 1 * r.val = r.val; rw [(index1 t).2.1]; omega
  | ⟨2, _⟩ => show win0_1.index t 2 * 1024 + 1 * k.val = k.val; rw [(index1 t).2.2]; omega
theorem iblk2 (c : Dev nD) (t : Fin cfg0.N) (k : Fin 1024) : iblk m c 2 t (ix2 0 k) = V m c main_v3 (ix2 0 k) := by
  show V m c main_v3 ((win0_2.blk t).view.emb (ix2 0 k)) = _
  congr 1
  funext a; apply Fin.ext
  match a with
  | ⟨0, _⟩ => show win0_2.index t 0 * 1 + 1 * 0 = 0; rw [(index2 t).1]
  | ⟨1, _⟩ => show win0_2.index t 1 * 1024 + 1 * k.val = k.val; rw [(index2 t).2]; omega
theorem iblk3 (c : Dev nD) (t : Fin cfg0.N) (k : Fin 1024) (n : Fin 5632) : iblk m c 3 t (ix2 k n) = V m c main_v1 (ix2 k n) := by
  show V m c main_v1 ((win0_3.blk t).view.emb (ix2 k n)) = _
  congr 1
  funext a; apply Fin.ext
  match a with
  | ⟨0, _⟩ => show win0_3.index t 0 * 1024 + 1 * k.val = k.val; rw [(index3 t).1]; omega
  | ⟨1, _⟩ => show win0_3.index t 1 * 5632 + 1 * n.val = n.val; rw [(index3 t).2]; omega
theorem iblk4 (c : Dev nD) (t : Fin cfg0.N) (n : Fin 2816) (q : Fin 1024) : iblk m c 4 t (ix2 n q) = V m c main_v2 (ix2 n q) := by
  show V m c main_v2 ((win0_4.blk t).view.emb (ix2 n q)) = _
  congr 1
  funext a; apply Fin.ext
  match a with
  | ⟨0, _⟩ => show win0_4.index t 0 * 2816 + 1 * n.val = n.val; rw [(index4 t).1]; omega
  | ⟨1, _⟩ => show win0_4.index t 1 * 1024 + 1 * q.val = q.val; rw [(index4 t).2]; omega

/-- The result array as a function of the arguments: every row is a feed-forward row. -/
def ffnAll (x : (⟨S2x8192x1024, .f32⟩ : BufTy).Contents (Elt Ideal)) (md : (⟨S2x9x1024, .f32⟩ : BufTy).Contents (Elt Ideal))
    (g : (⟨S1024, .f32⟩ : BufTy).Contents (Elt Ideal)) (w1 : (⟨S1024x5632, .f32⟩ : BufTy).Contents (Elt Ideal))
    (w2 : (⟨S2816x1024, .f32⟩ : BufTy).Contents (Elt Ideal)) (r : Fin 16384) (q : Fin 1024) : EReal :=
  ffnRow (fun k => x (ix3 ⟨r.val / 8192, by omega⟩ ⟨r.val % 8192, by omega⟩ k)) (fun k => g (ix1 k))
    (fun k => md (ix3 ⟨r.val / 8192, by omega⟩ 7 k)) (fun k => md (ix3 ⟨r.val / 8192, by omega⟩ 6 k))
    (fun k => md (ix3 ⟨r.val / 8192, by omega⟩ 8 k)) (fun k n => w1 (ix2 k n)) (fun n q => w2 (ix2 n q)) q

/-- The final result array at an element. -/
theorem final_apply (c : Dev nD) (r : Fin 16384) (q : Fin 1024) :
    (dats m 0 c).arrAt 5 cfg0.N (ix2 r q)
      = ffnAll (m ((c : Thread nD τ).loc main_arg0)) (m ((c : Thread nD τ).loc main_arg1)) (m ((c : Thread nD τ).loc main_arg2))
          (m ((c : Thread nD τ).loc main_arg3)) (m ((c : Thread nD τ).loc main_arg4)) r q := by
  have ht : r.val / 1024 < cfg0.N := lt_of_lt_of_eq (by omega : r.val / 1024 < 16) N_0.symm
  have hb := congrFun (blocks5 m c ⟨r.val / 1024, ht⟩ (flush0_5 _)) (ix2 ⟨r.val % 1024, by omega⟩ q)
  rw [flushed5] at hb
  have hl : ((cfg0.win 5).blk ⟨r.val / 1024, ht⟩).view.read (Elt Ideal) ((dats m 0 c).arrAt 5 cfg0.N) (ix2 ⟨r.val % 1024, by omega⟩ q)
      = (dats m 0 c).arrAt 5 cfg0.N (ix2 r q) := by
    show (dats m 0 c).arrAt 5 cfg0.N ((win0_5.blk ⟨r.val / 1024, ht⟩).view.emb (ix2 ⟨r.val % 1024, by omega⟩ q)) = _
    congr 1
    funext a; apply Fin.ext
    match a with
    | ⟨0, _⟩ => show win0_5.index ⟨r.val / 1024, ht⟩ 0 * 1024 + 1 * (r.val % 1024) = r.val; rw [(index5 _).1]; show r.val / 1024 * 1024 + _ = _; omega
    | ⟨1, _⟩ => show win0_5.index ⟨r.val / 1024, ht⟩ 1 * 1024 + 1 * q.val = q.val; rw [(index5 _).2]; omega
  rw [← hl, hb]
  refine (out0_5_apply _ _ _ _ _ ⟨r.val % 1024, by omega⟩ q).trans ?_
  unfold ffnAll
  have e1 : r.val / 1024 / 8 = r.val / 8192 := by omega
  have e2 : 1024 * (r.val / 1024) + r.val % 1024 = r.val := by omega
  have h0 : ∀ k, iblk m c 0 ⟨r.val / 1024, ht⟩ (ix2 ⟨r.val % 1024, by omega⟩ k)
      = m ((c : Thread nD τ).loc main_arg0) (ix3 ⟨r.val / 8192, by omega⟩ ⟨r.val % 8192, by omega⟩ k) := by
    intro k
    refine (iblk0 m c _ _ k).trans ((congrFun (V_v0 m c) _).trans ?_)
    refine shapeCast_apply _ shapeCasts_S2x8192x1024_S16384x1024 _ (ix3 ⟨r.val / 8192, by omega⟩ ⟨r.val % 8192, by omega⟩ k) ?_
    rewrite [Shape.rowMajor_val_three, Shape.rowMajor_val_two]
    show (r.val / 8192 * 8192 + r.val % 8192) * 1024 + k.val = (1024 * (r.val / 1024) + r.val % 1024) * 1024 + k.val
    omega
  have h1 : ∀ (s : Fin 9) k, iblk m c 1 ⟨r.val / 1024, ht⟩ (ix3 0 s k)
      = m ((c : Thread nD τ).loc main_arg1) (ix3 ⟨r.val / 8192, by omega⟩ s k) := by
    intro s k
    refine (iblk1 m c _ s k).trans ((congrFun (V_main_arg1 m c) _).trans ?_)
    simp only [e1]
  have h2 : ∀ k, iblk m c 2 ⟨r.val / 1024, ht⟩ (ix2 0 k) = m ((c : Thread nD τ).loc main_arg2) (ix1 k) := by
    intro k
    refine (iblk2 m c _ k).trans ((congrFun (V_v3 m c) _).trans ?_)
    pointwise
  have h3 : ∀ k n, iblk m c 3 ⟨r.val / 1024, ht⟩ (ix2 k n) = m ((c : Thread nD τ).loc main_arg3) (ix2 k n) := by
    intro k n
    exact (iblk3 m c _ k n).trans (congrFun (V_v1 m c) _)
  have h4 : ∀ k n, iblk m c 4 ⟨r.val / 1024, ht⟩ (ix2 k n) = m ((c : Thread nD τ).loc main_arg4) (ix2 k n) := by
    intro k n
    exact (iblk4 m c _ k n).trans (congrFun (V_v2 m c) _)
  simp only [h0, h1, h2, h3, h4]

end Cert.Kernel2Ideal.Value

namespace Cert.Reference2Ideal.Read

open Cert.Reference2Ideal Cert.Reference2Ideal.Gen Idealize.ShloMosaic Cert.Layer

variable (x0 : (⟨S2x8192x1024, .f32⟩ : BufTy).Contents (Elt Ideal)) (x1 : (⟨S2x9x1024, .f32⟩ : BufTy).Contents (Elt Ideal))
  (x2 : (⟨S1024, .f32⟩ : BufTy).Contents (Elt Ideal)) (x3 : (⟨S1024x5632, .f32⟩ : BufTy).Contents (Elt Ideal))
  (x4 : (⟨S2816x1024, .f32⟩ : BufTy).Contents (Elt Ideal))

/-- The reference's normalized activations at an element. -/
theorem v27_apply (b : Fin 2) (s : Fin 8192) (k : Fin 1024) :
    val_main_v27 (F := Ideal) x0 x1 x2 (ix3 b s k) = normRow (fun k => x0 (ix3 b s k)) (fun k => x2 (ix1 k)) (fun k => x1 (ix3 b 7 k))
      (fun k => x1 (ix3 b 6 k)) k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v5, val_main_v4, val_main_v3, val_main_v2, val_main_v1, val_main_v0, val_main_cst, val_main_cst_0, val_main_cst_1, val_main_cst_2, normRow]
  rw [mul_assoc]

/-- The reference's hidden units at an element. -/
theorem v34_apply (b : Fin 2) (s : Fin 8192) (n : Fin 2816) :
    val_main_v34 (F := Ideal) x0 x1 x2 x3 (ix3 b s n) = hiddenUnit (normRow (fun k => x0 (ix3 b s k)) (fun k => x2 (ix1 k)) (fun k => x1 (ix3 b 7 k))
      (fun k => x1 (ix3 b 6 k))) (fun k n => x3 (ix2 k n)) n := by
  unfold val_main_v34 val_main_v33 val_main_call0_v5 val_main_call0_v3 val_main_call0_v1 val_main_call0_v0 val_main_v30 val_main_v29 val_main_v28
  have h := v27_apply x0 x1 x2 b s
  generalize val_main_v27 (F := Ideal) x0 x1 x2 = y at h
  pointwise [val_main_call0_v2, val_main_call0_v4, val_main_call0_cst, val_main_call0_cst_0, hiddenUnit, dotCol, Ideal.logistic]
  simp only [h]

/-- The reference's result at an element. -/
theorem v39_apply (r : Fin 16384) (q : Fin 1024) :
    val_main_v39 (F := Ideal) x0 x1 x2 x3 x4 (ix2 r q) = Cert.Kernel2Ideal.Value.ffnAll x0 x1 x2 x3 x4 r q := by
  unfold val_main_v39 val_main_v38 val_main_v37 val_main_v36 val_main_v35
  have h := v34_apply x0 x1 x2 x3
  generalize val_main_v34 (F := Ideal) x0 x1 x2 x3 = y at h
  pointwise [val_main_v32, val_main_v31, val_main_cst_3, val_main_v8, val_main_v7, val_main_v6, Cert.Kernel2Ideal.Value.ffnAll, ffnRow, dotCol]
  simp only [h]

end Cert.Reference2Ideal.Read
-- ==== Proof.FfnClaim.lean ====
/-
  The feed-forward call: kernel and reference end at the same array.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnValue

@[expose] public section

noncomputable section

namespace Cert.Proof.Ffn

open Idealize.ShloMosaic Idealize.ShloMosaic.TcCoe Idealize.SL.Sem

/-- `Cert.algebraic_Kernel2Ideal_Reference2Ideal`: both result arrays are `ffnAll` of the arguments, which agree. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 5 Cert.Kernel2Ideal.cfg0.N, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  rw [Cert.Reference2Ideal.Read.val_main_v39_eq]
  obtain ⟨a0, a1, a2, a3, a4⟩ := hagree c
  rw [a0, a1, a2, a3, a4]
  funext i
  obtain ⟨r, q, rfl⟩ : ∃ (r : Fin 16384) (q : Fin 1024), i = ix2 r q := ⟨i 0, i 1, funext fun a => by fin_cases a <;> rfl⟩
  exact (Cert.Reference2Ideal.Read.v39_apply _ _ _ _ _ r q).trans (Cert.Kernel2Ideal.Value.final_apply m c r q).symm

end Cert.Proof.Ffn

end
-- ==== Proof.MixPay.lean ====
/-
  The token-mixing kernel's body as a few functions of its loaded blocks: head normalization, the scores of a head pair,
  one block of the band attention, and the whole tile's output. The printed body's words are these functions.
-/
module

public import proofs.«01_k».proof.Proof.Gen.KernelIdeal.Frame
public import proofs.«01_k».proof.Proof.RowMath
public import Idealize.ShloMosaic.Lib.Pointwise
public import Idealize.ShloMosaic.Lib.Pipeline.Value

@[expose] public section

noncomputable section

namespace Cert.KernelIdeal.Value

open Cert.KernelIdeal Cert.KernelIdeal.Gen Idealize.ShloMosaic Cert.Layer

/-- One head pair of 128 lanes, each half scaled to unit root mean square, times the gain row. -/
def headN (low : IVec S512x128 1) (g : FVec Ideal S1x128 .f32) (p : FVec Ideal S512x128 .f32) : FVec Ideal S512x128 .bf16 :=
  have sq : FVec Ideal S512x128 .f32 := mulf p p
  have z : FVec Ideal S512x128 .f32 := broadcast S512x128 (Scalar.ofBits .f32 0x00000000#32)
  have a1 : FVec Ideal S512 .f32 := multiReduction .add [1] S512 (select low sq z) 0x00000000#32 reduces_S512x128_S512 (.inl rfl) rfl
  have a2 : FVec Ideal S512x1 .f32 := mulf (shapeCast S512x1 a1 shapeCasts_S512_S512x1) (broadcast S512x1 (Scalar.ofBits .f32 0x3C800000#32))
  have a3 : FVec Ideal S512x1 .f32 := rsqrt (addf a2 (broadcast S512x1 (Scalar.ofBits .f32 0x358637BD#32)))
  have b1 : FVec Ideal S512 .f32 := multiReduction .add [1] S512 (select low z sq) 0x00000000#32 reduces_S512x128_S512 (.inl rfl) rfl
  have b2 : FVec Ideal S512x1 .f32 := mulf (shapeCast S512x1 b1 shapeCasts_S512_S512x1) (broadcast S512x1 (Scalar.ofBits .f32 0x3C800000#32))
  have b3 : FVec Ideal S512x1 .f32 := rsqrt (addf b2 (broadcast S512x1 (Scalar.ofBits .f32 0x358637BD#32)))
  have a4 : FVec Ideal S512x128 .f32 := broadcastTo S512x128 (shapeCast S512x1 a3 shapeCasts_S512x1_S512x1) broadcasts_S512x1_S512x128
  have b4 : FVec Ideal S512x128 .f32 := broadcastTo S512x128 (shapeCast S512x1 b3 shapeCasts_S512x1_S512x1) broadcasts_S512x1_S512x128
  truncf .bf16 (mulf (mulf p (select low a4 b4)) (broadcastTo S512x128 g broadcasts_S1x128_S512x128)) bitsLt_bf16_f32

/-- The four head pairs of a projection, normalized. -/
def normT (low : IVec S512x128 1) (g : FVec Ideal S1x128 .f32) (P : FVec Ideal S512x512 .f32) : FVec Ideal S512x512 .bf16 :=
  concatenate S512x512 1
    [⟨S512x128, headN low g (extractStridedSlice S512x128 ![0, 0] P slices_S512x512_o0_0_S512x128)⟩,
     ⟨S512x128, headN low g (extractStridedSlice S512x128 ![0, 128] P slices_S512x512_o0_128_S512x128)⟩,
     ⟨S512x128, headN low g (extractStridedSlice S512x128 ![0, 256] P slices_S512x512_o0_256_S512x128)⟩,
     ⟨S512x128, headN low g (extractStridedSlice S512x128 ![0, 384] P slices_S512x512_o0_384_S512x128)⟩]
    concatenates_S512x128_S512x128_S512x128_S512x128_S512x512_d1

/-- Two blocks of 128 queries of a head pair, each with one head's lanes kept at a time, against 768 keys. -/
def scoreT (low : IVec S128x128 1) (q0 q1 : FVec Ideal S128x128 .bf16) (K : Vec Ideal S768x128 .bf16) : FVec Ideal S512x768 .f32 :=
  have z : FVec Ideal S128x128 .bf16 := broadcast S128x128 (Scalar.ofBits .bf16 0x0000#16)
  have st : FVec Ideal S512x128 .bf16 := concatenate S512x128 0 [⟨S128x128, select low q0 z⟩, ⟨S128x128, select low z q0⟩,
    ⟨S128x128, select low q1 z⟩, ⟨S128x128, select low z q1⟩] concatenates_S128x128_S128x128_S128x128_S128x128_S512x128_d0
  matmul (φ₂ := .bf16) dot_S512x128_S768x128_S512x768_1_1_0_0_n_n none st K (constant S512x768 .f32 0x00000000#32)

/-- Five loads of the bias table side by side. -/
def bias5 (b0 b1 b2 b3 b4 : Vec Ideal S1x256x128 .f32) : FVec Ideal S256x640 .f32 :=
  concatenate S256x640 1 [⟨S256x128, shapeCast S256x128 b0 shapeCasts_S1x256x128_S256x128⟩, ⟨S256x128, shapeCast S256x128 b1 shapeCasts_S1x256x128_S256x128⟩,
    ⟨S256x128, shapeCast S256x128 b2 shapeCasts_S1x256x128_S256x128⟩, ⟨S256x128, shapeCast S256x128 b3 shapeCasts_S1x256x128_S256x128⟩,
    ⟨S256x128, shapeCast S256x128 b4 shapeCasts_S1x256x128_S256x128⟩] concatenates_S256x128_S256x128_S256x128_S256x128_S256x128_S256x640_d1

/-- One block of 128 queries of a head pair: the softmax of its scores against the values, the two heads' lanes joined. -/
def attBlk (low : IVec S128x128 1) (s b : FVec Ideal S256x640 .f32) (v : Vec Ideal S640x256 .bf16) : FVec Ideal S128x128 .bf16 :=
  have t : FVec Ideal S256x640 .f32 := addf s b
  have m : FVec Ideal S256 .f32 := multiReduction .maximumf [1] S256 t 0xFF800000#32 reduces_S256x640_S256 (.inl rfl) rfl
  have mm : FVec Ideal S256x640 .f32 := broadcastTo S256x640 (shapeCast S256x1 m shapeCasts_S256_S256x1) broadcasts_S256x1_S256x640
  have p : FVec Ideal S256x640 .bf16 := truncf .bf16 (exp2 (subf t mm)) bitsLt_bf16_f32
  have o : FVec Ideal S256x256 .f32 := matmul (φ₂ := .bf16) dot_S256x640_S640x256_S256x256_1_0_0_1_n_n none p v (constant S256x256 .f32 0x00000000#32)
  have r : FVec Ideal S256x128 .f32 := divf (extractStridedSlice S256x128 ![0, 0] o slices_S256x256_o0_0_S256x128)
    (extractStridedSlice S256x128 ![0, 128] o slices_S256x256_o0_128_S256x128)
  have w : FVec Ideal S128x128 .bf16 := truncf .bf16 (select low (extractStridedSlice S128x128 ![0, 0] r slices_S256x128_o0_0_S128x128)
    (extractStridedSlice S128x128 ![128, 0] r slices_S256x128_o128_0_S128x128)) bitsLt_bf16_f32
  shapeCast S128x128 w shapeCasts_S128x128_S128x128

/-- The normalized rows of the tile. -/
def hT (x0 : Vec Ideal S1x512x1024 .f32) (x1 : Vec Ideal S1x9x1024 .f32) (x2 : Vec Ideal S1x1024 .f32) : FVec Ideal S512x1024 .f32 :=
  k0_pay36 (View.ld x0 (Rect.unit (s := S1x512x1024) ![0, 0, 0] S1x512x1024.size inb_S1x512x1024_S1x512x1024_0_0_0))
    (View.ld x1 (Rect.unit (s := S1x9x1024) ![0, 3, 0] S1x1x1024.size inb_S1x9x1024_S1x1x1024_0_3_0))
    (View.ld x1 (Rect.unit (s := S1x9x1024) ![0, 4, 0] S1x1x1024.size inb_S1x9x1024_S1x1x1024_0_4_0))
    (View.ld x2 (Rect.unit (s := S1x1024) ![0, 0] S1x1024.size inb_S1x1024_S1x1024_0_0))

/-- The tile's queries. -/
def qT (h : FVec Ideal S512x1024 .bf16) (x3 : Vec Ideal S1024x4096 .bf16) (x4 : Vec Ideal S1x64 .f32) : FVec Ideal S512x512 .bf16 :=
  normT k0_pay51 (k0_pay52 (View.ld x4 (Rect.unit (s := S1x64) ![0, 0] S1x64.size inb_S1x64_S1x64_0_0)))
    (k0_pay50 h (View.ld x3 (Rect.unit (s := S1024x4096) ![0, 0] S1024x512.size inb_S1024x4096_S1024x512_0_0)))

/-- The tile's keys. -/
def kT (h : FVec Ideal S512x1024 .bf16) (x3 : Vec Ideal S1024x4096 .bf16) (x5 : Vec Ideal S1x64 .f32) : FVec Ideal S512x512 .bf16 :=
  shapeCast S512x512 (normT k0_pay69 (k0_pay70 (View.ld x5 (Rect.unit (s := S1x64) ![0, 0] S1x64.size inb_S1x64_S1x64_0_0)))
    (k0_pay68 h (View.ld x3 (Rect.unit (s := S1024x4096) ![0, 512] S1024x512.size inb_S1024x4096_S1024x512_0_512)))) shapeCasts_S512x512_S512x512

/-- The scores of one half of the tile (256 queries) at one head pair. -/
def scoreU (q : FVec Ideal S512x512 .bf16) (Kw : Vec Ideal S1024x512 .bf16) (r c r' : Nat) (h0 : S512x512.Slices ![r, c] S128x128)
    (h1 : S512x512.Slices ![r', c] S128x128) (inb : ∀ a, ![r, c] a + S768x128.size a ≤ S1024x512.size a) : FVec Ideal S512x768 .f32 :=
  scoreT k0_pay91 (extractStridedSlice S128x128 ![r, c] q h0) (extractStridedSlice S128x128 ![r', c] q h1)
    (View.ld Kw (Rect.unit (s := S1024x512) ![r, c] S768x128.size inb))

/-- A static load of the bias table. -/
def bl (Bt : Vec Ideal S8x256x640 .f32) (p l : Nat) (inb : ∀ a, ![p, 0, l] a + S1x256x128.size a ≤ S8x256x640.size a) : Vec Ideal S1x256x128 .f32 :=
  View.ld Bt (Rect.unit (s := S8x256x640) ![p, 0, l] S1x256x128.size inb)

/-- The attention output of the tile: sixteen blocks of 128 queries and one head pair. -/
def aL (i : grid0.Coords) (q : FVec Ideal S512x512 .bf16) (Kw : Vec Ideal S1024x512 .bf16) (Vw : Vec Ideal S1024x1024 .bf16)
    (Bt : Vec Ideal S8x256x640 .f32) : List (View.Piece (Elt Ideal) S512x512 .bf16) := [
  ⟨Rect.unit (s := S512x512) ![384, 384] S128x128.size inb_S512x512_S128x128_384_384, attBlk k0_pay91 (extractStridedSlice S256x640 ![256, 128] (scoreU q Kw 256 384 384 slices_S512x512_o256_384_S128x128 slices_S512x512_o384_384_S128x128 inb_S1024x512_S768x128_256_384) slices_S512x768_o256_128_S256x640)
    (bias5 (View.ld Bt (Rect.unit (s := S8x256x640) (k0_off1 i 3#32) S1x256x128.size (k0_off1_inb i 3))) (bl Bt 3 128 inb_S8x256x640_S1x256x128_3_0_128) (bl Bt 3 256 inb_S8x256x640_S1x256x128_3_0_256) (bl Bt 3 384 inb_S8x256x640_S1x256x128_3_0_384) (bl Bt 3 512 inb_S8x256x640_S1x256x128_3_0_512))
    (View.ld Vw (Rect.unit (s := S1024x1024) ![384, 768] S640x256.size inb_S1024x1024_S640x256_384_768))⟩,
  ⟨Rect.unit (s := S512x512) ![256, 384] S128x128.size inb_S512x512_S128x128_256_384, attBlk k0_pay91 (extractStridedSlice S256x640 ![0, 0] (scoreU q Kw 256 384 384 slices_S512x512_o256_384_S128x128 slices_S512x512_o384_384_S128x128 inb_S1024x512_S768x128_256_384) slices_S512x768_o0_0_S256x640)
    (bias5 (View.ld Bt (Rect.unit (s := S8x256x640) (k0_off1 i 3#32) S1x256x128.size (k0_off1_inb i 3))) (View.ld Bt (Rect.unit (s := S8x256x640) (k0_off2 i 3#32) S1x256x128.size (k0_off2_inb i 3))) (bl Bt 3 256 inb_S8x256x640_S1x256x128_3_0_256) (bl Bt 3 384 inb_S8x256x640_S1x256x128_3_0_384) (bl Bt 3 512 inb_S8x256x640_S1x256x128_3_0_512))
    (View.ld Vw (Rect.unit (s := S1024x1024) ![256, 768] S640x256.size inb_S1024x1024_S640x256_256_768))⟩,
  ⟨Rect.unit (s := S512x512) ![384, 256] S128x128.size inb_S512x512_S128x128_384_256, attBlk k0_pay91 (extractStridedSlice S256x640 ![256, 128] (scoreU q Kw 256 256 384 slices_S512x512_o256_256_S128x128 slices_S512x512_o384_256_S128x128 inb_S1024x512_S768x128_256_256) slices_S512x768_o256_128_S256x640)
    (bias5 (View.ld Bt (Rect.unit (s := S8x256x640) (k0_off1 i 2#32) S1x256x128.size (k0_off1_inb i 2))) (bl Bt 2 128 inb_S8x256x640_S1x256x128_2_0_128) (bl Bt 2 256 inb_S8x256x640_S1x256x128_2_0_256) (bl Bt 2 384 inb_S8x256x640_S1x256x128_2_0_384) (bl Bt 2 512 inb_S8x256x640_S1x256x128_2_0_512))
    (View.ld Vw (Rect.unit (s := S1024x1024) ![384, 512] S640x256.size inb_S1024x1024_S640x256_384_512))⟩,
  ⟨Rect.unit (s := S512x512) ![256, 256] S128x128.size inb_S512x512_S128x128_256_256, attBlk k0_pay91 (extractStridedSlice S256x640 ![0, 0] (scoreU q Kw 256 256 384 slices_S512x512_o256_256_S128x128 slices_S512x512_o384_256_S128x128 inb_S1024x512_S768x128_256_256) slices_S512x768_o0_0_S256x640)
    (bias5 (View.ld Bt (Rect.unit (s := S8x256x640) (k0_off1 i 2#32) S1x256x128.size (k0_off1_inb i 2))) (View.ld Bt (Rect.unit (s := S8x256x640) (k0_off2 i 2#32) S1x256x128.size (k0_off2_inb i 2))) (bl Bt 2 256 inb_S8x256x640_S1x256x128_2_0_256) (bl Bt 2 384 inb_S8x256x640_S1x256x128_2_0_384) (bl Bt 2 512 inb_S8x256x640_S1x256x128_2_0_512))
    (View.ld Vw (Rect.unit (s := S1024x1024) ![256, 512] S640x256.size inb_S1024x1024_S640x256_256_512))⟩,
  ⟨Rect.unit (s := S512x512) ![384, 128] S128x128.size inb_S512x512_S128x128_384_128, attBlk k0_pay91 (extractStridedSlice S256x640 ![256, 128] (scoreU q Kw 256 128 384 slices_S512x512_o256_128_S128x128 slices_S512x512_o384_128_S128x128 inb_S1024x512_S768x128_256_128) slices_S512x768_o256_128_S256x640)
    (bias5 (View.ld Bt (Rect.unit (s := S8x256x640) (k0_off1 i 1#32) S1x256x128.size (k0_off1_inb i 1))) (bl Bt 1 128 inb_S8x256x640_S1x256x128_1_0_128) (bl Bt 1 256 inb_S8x256x640_S1x256x128_1_0_256) (bl Bt 1 384 inb_S8x256x640_S1x256x128_1_0_384) (bl Bt 1 512 inb_S8x256x640_S1x256x128_1_0_512))
    (View.ld Vw (Rect.unit (s := S1024x1024) ![384, 256] S640x256.size inb_S1024x1024_S640x256_384_256))⟩,
  ⟨Rect.unit (s := S512x512) ![256, 128] S128x128.size inb_S512x512_S128x128_256_128, attBlk k0_pay91 (extractStridedSlice S256x640 ![0, 0] (scoreU q Kw 256 128 384 slices_S512x512_o256_128_S128x128 slices_S512x512_o384_128_S128x128 inb_S1024x512_S768x128_256_128) slices_S512x768_o0_0_S256x640)
    (bias5 (View.ld Bt (Rect.unit (s := S8x256x640) (k0_off1 i 1#32) S1x256x128.size (k0_off1_inb i 1))) (View.ld Bt (Rect.unit (s := S8x256x640) (k0_off2 i 1#32) S1x256x128.size (k0_off2_inb i 1))) (bl Bt 1 256 inb_S8x256x640_S1x256x128_1_0_256) (bl Bt 1 384 inb_S8x256x640_S1x256x128_1_0_384) (bl Bt 1 512 inb_S8x256x640_S1x256x128_1_0_512))
    (View.ld Vw (Rect.unit (s := S1024x1024) ![256, 256] S640x256.size inb_S1024x1024_S640x256_256_256))⟩,
  ⟨Rect.unit (s := S512x512) ![384, 0] S128x128.size inb_S512x512_S128x128_384_0, attBlk k0_pay91 (extractStridedSlice S256x640 ![256, 128] (scoreU q Kw 256 0 384 slices_S512x512_o256_0_S128x128 slices_S512x512_o384_0_S128x128 inb_S1024x512_S768x128_256_0) slices_S512x768_o256_128_S256x640)
    (bias5 (View.ld Bt (Rect.unit (s := S8x256x640) (k0_off1 i 0#32) S1x256x128.size (k0_off1_inb i 0))) (bl Bt 0 128 inb_S8x256x640_S1x256x128_0_0_128) (bl Bt 0 256 inb_S8x256x640_S1x256x128_0_0_256) (bl Bt 0 384 inb_S8x256x640_S1x256x128_0_0_384) (bl Bt 0 512 inb_S8x256x640_S1x256x128_0_0_512))
    (View.ld Vw (Rect.unit (s := S1024x1024) ![384, 0] S640x256.size inb_S1024x1024_S640x256_384_0))⟩,
  ⟨Rect.unit (s := S512x512) ![256, 0] S128x128.size inb_S512x512_S128x128_256_0, attBlk k0_pay91 (extractStridedSlice S256x640 ![0, 0] (scoreU q Kw 256 0 384 slices_S512x512_o256_0_S128x128 slices_S512x512_o384_0_S128x128 inb_S1024x512_S768x128_256_0) slices_S512x768_o0_0_S256x640)
    (bias5 (View.ld Bt (Rect.unit (s := S8x256x640) (k0_off1 i 0#32) S1x256x128.size (k0_off1_inb i 0))) (View.ld Bt (Rect.unit (s := S8x256x640) (k0_off2 i 0#32) S1x256x128.size (k0_off2_inb i 0))) (bl Bt 0 256 inb_S8x256x640_S1x256x128_0_0_256) (bl Bt 0 384 inb_S8x256x640_S1x256x128_0_0_384) (bl Bt 0 512 inb_S8x256x640_S1x256x128_0_0_512))
    (View.ld Vw (Rect.unit (s := S1024x1024) ![256, 0] S640x256.size inb_S1024x1024_S640x256_256_0))⟩,
  ⟨Rect.unit (s := S512x512) ![128, 384] S128x128.size inb_S512x512_S128x128_128_384, attBlk k0_pay91 (extractStridedSlice S256x640 ![256, 128] (scoreU q Kw 0 384 128 slices_S512x512_o0_384_S128x128 slices_S512x512_o128_384_S128x128 inb_S1024x512_S768x128_0_384) slices_S512x768_o256_128_S256x640)
    (bias5 (View.ld Bt (Rect.unit (s := S8x256x640) (k0_off1 i 3#32) S1x256x128.size (k0_off1_inb i 3))) (View.ld Bt (Rect.unit (s := S8x256x640) (k0_off2 i 3#32) S1x256x128.size (k0_off2_inb i 3))) (View.ld Bt (Rect.unit (s := S8x256x640) (k0_off3 i 3#32) S1x256x128.size (k0_off3_inb i 3))) (bl Bt 3 384 inb_S8x256x640_S1x256x128_3_0_384) (bl Bt 3 512 inb_S8x256x640_S1x256x128_3_0_512))
    (View.ld Vw (Rect.unit (s := S1024x1024) ![128, 768] S640x256.size inb_S1024x1024_S640x256_128_768))⟩,
  ⟨Rect.unit (s := S512x512) ![0, 384] S128x128.size inb_S512x512_S128x128_0_384, attBlk k0_pay91 (extractStridedSlice S256x640 ![0, 0] (scoreU q Kw 0 384 128 slices_S512x512_o0_384_S128x128 slices_S512x512_o128_384_S128x128 inb_S1024x512_S768x128_0_384) slices_S512x768_o0_0_S256x640)
    (bias5 (View.ld Bt (Rect.unit (s := S8x256x640) (k0_off1 i 3#32) S1x256x128.size (k0_off1_inb i 3))) (View.ld Bt (Rect.unit (s := S8x256x640) (k0_off2 i 3#32) S1x256x128.size (k0_off2_inb i 3))) (View.ld Bt (Rect.unit (s := S8x256x640) (k0_off3 i 3#32) S1x256x128.size (k0_off3_inb i 3))) (View.ld Bt (Rect.unit (s := S8x256x640) (k0_off4 i 3#32) S1x256x128.size (k0_off4_inb i 3))) (bl Bt 3 512 inb_S8x256x640_S1x256x128_3_0_512))
    (View.ld Vw (Rect.unit (s := S1024x1024) ![0, 768] S640x256.size inb_S1024x1024_S640x256_0_768))⟩,
  ⟨Rect.unit (s := S512x512) ![128, 256] S128x128.size inb_S512x512_S128x128_128_256, attBlk k0_pay91 (extractStridedSlice S256x640 ![256, 128] (scoreU q Kw 0 256 128 slices_S512x512_o0_256_S128x128 slices_S512x512_o128_256_S128x128 inb_S1024x512_S768x128_0_256) slices_S512x768_o256_128_S256x640)
    (bias5 (View.ld Bt (Rect.unit (s := S8x256x640) (k0_off1 i 2#32) S1x256x128.size (k0_off1_inb i 2))) (View.ld Bt (Rect.unit (s := S8x256x640) (k0_off2 i 2#32) S1x256x128.size (k0_off2_inb i 2))) (View.ld Bt (Rect.unit (s := S8x256x640) (k0_off3 i 2#32) S1x256x128.size (k0_off3_inb i 2))) (bl Bt 2 384 inb_S8x256x640_S1x256x128_2_0_384) (bl Bt 2 512 inb_S8x256x640_S1x256x128_2_0_512))
    (View.ld Vw (Rect.unit (s := S1024x1024) ![128, 512] S640x256.size inb_S1024x1024_S640x256_128_512))⟩,
  ⟨Rect.unit (s := S512x512) ![0, 256] S128x128.size inb_S512x512_S128x128_0_256, attBlk k0_pay91 (extractStridedSlice S256x640 ![0, 0] (scoreU q Kw 0 256 128 slices_S512x512_o0_256_S128x128 slices_S512x512_o128_256_S128x128 inb_S1024x512_S768x128_0_256) slices_S512x768_o0_0_S256x640)
    (bias5 (View.ld Bt (Rect.unit (s := S8x256x640) (k0_off1 i 2#32) S1x256x128.size (k0_off1_inb i 2))) (View.ld Bt (Rect.unit (s := S8x256x640) (k0_off2 i 2#32) S1x256x128.size (k0_off2_inb i 2))) (View.ld Bt (Rect.unit (s := S8x256x640) (k0_off3 i 2#32) S1x256x128.size (k0_off3_inb i 2))) (View.ld Bt (Rect.unit (s := S8x256x640) (k0_off4 i 2#32) S1x256x128.size (k0_off4_inb i 2))) (bl Bt 2 512 inb_S8x256x640_S1x256x128_2_0_512))
    (View.ld Vw (Rect.unit (s := S1024x1024) ![0, 512] S640x256.size inb_S1024x1024_S640x256_0_512))⟩,
  ⟨Rect.unit (s := S512x512) ![128, 128] S128x128.size inb_S512x512_S128x128_128_128, attBlk k0_pay91 (extractStridedSlice S256x640 ![256, 128] (scoreU q Kw 0 128 128 slices_S512x512_o0_128_S128x128 slices_S512x512_o128_128_S128x128 inb_S1024x512_S768x128_0_128) slices_S512x768_o256_128_S256x640)
    (bias5 (View.ld Bt (Rect.unit (s := S8x256x640) (k0_off1 i 1#32) S1x256x128.size (k0_off1_inb i 1))) (View.ld Bt (Rect.unit (s := S8x256x640) (k0_off2 i 1#32) S1x256x128.size (k0_off2_inb i 1))) (View.ld Bt (Rect.unit (s := S8x256x640) (k0_off3 i 1#32) S1x256x128.size (k0_off3_inb i 1))) (bl Bt 1 384 inb_S8x256x640_S1x256x128_1_0_384) (bl Bt 1 512 inb_S8x256x640_S1x256x128_1_0_512))
    (View.ld Vw (Rect.unit (s := S1024x1024) ![128, 256] S640x256.size inb_S1024x1024_S640x256_128_256))⟩,
  ⟨Rect.unit (s := S512x512) ![0, 128] S128x128.size inb_S512x512_S128x128_0_128, attBlk k0_pay91 (extractStridedSlice S256x640 ![0, 0] (scoreU q Kw 0 128 128 slices_S512x512_o0_128_S128x128 slices_S512x512_o128_128_S128x128 inb_S1024x512_S768x128_0_128) slices_S512x768_o0_0_S256x640)
    (bias5 (View.ld Bt (Rect.unit (s := S8x256x640) (k0_off1 i 1#32) S1x256x128.size (k0_off1_inb i 1))) (View.ld Bt (Rect.unit (s := S8x256x640) (k0_off2 i 1#32) S1x256x128.size (k0_off2_inb i 1))) (View.ld Bt (Rect.unit (s := S8x256x640) (k0_off3 i 1#32) S1x256x128.size (k0_off3_inb i 1))) (View.ld Bt (Rect.unit (s := S8x256x640) (k0_off4 i 1#32) S1x256x128.size (k0_off4_inb i 1))) (bl Bt 1 512 inb_S8x256x640_S1x256x128_1_0_512))
    (View.ld Vw (Rect.unit (s := S1024x1024) ![0, 256] S640x256.size inb_S1024x1024_S640x256_0_256))⟩,
  ⟨Rect.unit (s := S512x512) ![128, 0] S128x128.size inb_S512x512_S128x128_128_0, attBlk k0_pay91 (extractStridedSlice S256x640 ![256, 128] (scoreU q Kw 0 0 128 slices_S512x512_o0_0_S128x128 slices_S512x512_o128_0_S128x128 inb_S1024x512_S768x128_0_0) slices_S512x768_o256_128_S256x640)
    (bias5 (View.ld Bt (Rect.unit (s := S8x256x640) (k0_off1 i 0#32) S1x256x128.size (k0_off1_inb i 0))) (View.ld Bt (Rect.unit (s := S8x256x640) (k0_off2 i 0#32) S1x256x128.size (k0_off2_inb i 0))) (View.ld Bt (Rect.unit (s := S8x256x640) (k0_off3 i 0#32) S1x256x128.size (k0_off3_inb i 0))) (bl Bt 0 384 inb_S8x256x640_S1x256x128_0_0_384) (bl Bt 0 512 inb_S8x256x640_S1x256x128_0_0_512))
    (View.ld Vw (Rect.unit (s := S1024x1024) ![128, 0] S640x256.size inb_S1024x1024_S640x256_128_0))⟩,
  ⟨Rect.unit (s := S512x512) ![0, 0] S128x128.size inb_S512x512_S128x128_0_0, attBlk k0_pay91 (extractStridedSlice S256x640 ![0, 0] (scoreU q Kw 0 0 128 slices_S512x512_o0_0_S128x128 slices_S512x512_o128_0_S128x128 inb_S1024x512_S768x128_0_0) slices_S512x768_o0_0_S256x640)
    (bias5 (View.ld Bt (Rect.unit (s := S8x256x640) (k0_off1 i 0#32) S1x256x128.size (k0_off1_inb i 0))) (View.ld Bt (Rect.unit (s := S8x256x640) (k0_off2 i 0#32) S1x256x128.size (k0_off2_inb i 0))) (View.ld Bt (Rect.unit (s := S8x256x640) (k0_off3 i 0#32) S1x256x128.size (k0_off3_inb i 0))) (View.ld Bt (Rect.unit (s := S8x256x640) (k0_off4 i 0#32) S1x256x128.size (k0_off4_inb i 0))) (bl Bt 0 512 inb_S8x256x640_S1x256x128_0_0_512))
    (View.ld Vw (Rect.unit (s := S1024x1024) ![0, 0] S640x256.size inb_S1024x1024_S640x256_0_0))⟩]

/-- The sixteen gate columns blocks side by side. -/
def gT (h : FVec Ideal S512x1024 .bf16) (x3 : Vec Ideal S1024x4096 .bf16) : FVec Ideal S512x2048 .f32 :=
  k0_pay167 (k0_pay92 h (View.ld x3 (Rect.unit (s := S1024x4096) ![0, 2048] S1024x256.size inb_S1024x4096_S1024x256_0_2048))) (k0_pay92 h (View.ld x3 (Rect.unit (s := S1024x4096) ![0, 2304] S1024x256.size inb_S1024x4096_S1024x256_0_2304))) (k0_pay92 h (View.ld x3 (Rect.unit (s := S1024x4096) ![0, 2560] S1024x256.size inb_S1024x4096_S1024x256_0_2560))) (k0_pay92 h (View.ld x3 (Rect.unit (s := S1024x4096) ![0, 2816] S1024x256.size inb_S1024x4096_S1024x256_0_2816))) (k0_pay92 h (View.ld x3 (Rect.unit (s := S1024x4096) ![0, 3072] S1024x256.size inb_S1024x4096_S1024x256_0_3072))) (k0_pay92 h (View.ld x3 (Rect.unit (s := S1024x4096) ![0, 3328] S1024x256.size inb_S1024x4096_S1024x256_0_3328))) (k0_pay92 h (View.ld x3 (Rect.unit (s := S1024x4096) ![0, 3584] S1024x256.size inb_S1024x4096_S1024x256_0_3584))) (k0_pay92 h (View.ld x3 (Rect.unit (s := S1024x4096) ![0, 3840] S1024x256.size inb_S1024x4096_S1024x256_0_3840)))

/-- The gated attention output of the tile. -/
def yaT (h : FVec Ideal S512x1024 .bf16) (x3 : Vec Ideal S1024x4096 .bf16) (a : Vec Ideal S512x512 .bf16) (x7 : Vec Ideal S512x1024 .bf16) : FVec Ideal S512x1024 .f32 :=
  k0_pay171 (k0_pay92 h (View.ld x3 (Rect.unit (s := S1024x4096) ![0, 2048] S1024x256.size inb_S1024x4096_S1024x256_0_2048))) (k0_pay92 h (View.ld x3 (Rect.unit (s := S1024x4096) ![0, 2304] S1024x256.size inb_S1024x4096_S1024x256_0_2304))) (k0_pay92 h (View.ld x3 (Rect.unit (s := S1024x4096) ![0, 2560] S1024x256.size inb_S1024x4096_S1024x256_0_2560))) (k0_pay92 h (View.ld x3 (Rect.unit (s := S1024x4096) ![0, 2816] S1024x256.size inb_S1024x4096_S1024x256_0_2816))) (k0_pay92 h (View.ld x3 (Rect.unit (s := S1024x4096) ![0, 3072] S1024x256.size inb_S1024x4096_S1024x256_0_3072))) (k0_pay92 h (View.ld x3 (Rect.unit (s := S1024x4096) ![0, 3328] S1024x256.size inb_S1024x4096_S1024x256_0_3328))) (k0_pay92 h (View.ld x3 (Rect.unit (s := S1024x4096) ![0, 3584] S1024x256.size inb_S1024x4096_S1024x256_0_3584))) (k0_pay92 h (View.ld x3 (Rect.unit (s := S1024x4096) ![0, 3840] S1024x256.size inb_S1024x4096_S1024x256_0_3840))) a (View.ld x7 (Rect.unit (s := S512x1024) ![0, 0] S512x1024.size inb_S512x1024_S512x1024_0_0))

/-- The pooled rows of the tile, from its own rows `h` and the rows `v` with sixteen before them. -/
def poolT (i1 : BitVec 32) (h : FVec Ideal S512x1024 .f32) (w : Vec Ideal S1024x512 .bf16) (v : Vec Ideal S528x512 .f32) : FVec Ideal S512x512 .bf16 :=
  k0_pay48 (k0_pay38 h w) (k0_pay40 i1) (k0_pay42 i1 h w v) (k0_pay44 i1 h w v) (k0_pay46 v) (k0_pay47 v)

/-- The tile's output. -/
def mixOut (i : grid0.Coords) (x0 : Vec Ideal S1x512x1024 .f32) (x1 : Vec Ideal S1x9x1024 .f32) (x2 : Vec Ideal S1x1024 .f32)
    (x3 : Vec Ideal S1024x4096 .bf16) (x4 : Vec Ideal S1x64 .f32) (x7 : Vec Ideal S512x1024 .bf16) (x11 : Vec Ideal S1024x1024 .bf16)
    (Kw : Vec Ideal S1024x512 .bf16) (Vw : Vec Ideal S1024x1024 .bf16) (Uw : Vec Ideal S528x512 .f32) (Bt : Vec Ideal S8x256x640 .f32)
    (Wp : Vec Ideal S512x1024 .bf16) : FVec Ideal S1x512x1024 .f32 :=
  k0_pay1 (k0_pay34 (View.ld x0 (Rect.unit (s := S1x512x1024) ![0, 0, 0] S1x512x1024.size inb_S1x512x1024_S1x512x1024_0_0_0)))
    (k0_pay35 (View.ld x1 (Rect.unit (s := S1x9x1024) ![0, 5, 0] S1x1x1024.size inb_S1x9x1024_S1x1x1024_0_5_0)))
    (gT (k0_pay37 (hT x0 x1 x2)) x3)
    (k0_pay170 (poolT (BitVec.ofNat 32 (i 1).val) (hT x0 x1 x2) (View.ld x3 (Rect.unit (s := S1024x4096) ![0, 1536] S1024x512.size inb_S1024x4096_S1024x512_0_1536))
        (View.ld Uw (Rect.unit (s := S528x512) ![0, 0] S528x512.size inb_S528x512_S528x512_0_0)))
      (View.ld Wp (Rect.unit (s := S512x1024) ![0, 0] S512x1024.size inb_S512x1024_S512x1024_0_0)))
    (yaT (k0_pay37 (hT x0 x1 x2)) x3
      (View.ld (View.canon (aL i (qT (k0_pay37 (hT x0 x1 x2)) x3 x4) Kw Vw Bt)) (Rect.unit (s := S512x512) ![0, 0] S512x512.size inb_S512x512_S512x512_0_0)) x7)
    (View.ld x11 (Rect.unit (s := S1024x1024) ![0, 0] S1024x1024.size inb_S1024x1024_S1024x1024_0_0))

/-! The printed words are these functions. -/

theorem w_q (h : FVec Ideal S512x1024 .bf16) (w : Vec Ideal S1024x512 .bf16) (g : FVec Ideal S1x128 .f32) :
    k0_pay67 k0_pay51 g (k0_pay56 k0_pay51 g (k0_pay53 h w) (k0_pay54 h w) k0_pay55)
      (k0_pay61 k0_pay51 g (k0_pay57 (k0_pay50 h w)) (k0_pay59 (k0_pay50 h w) k0_pay51) (k0_pay60 (k0_pay50 h w) k0_pay51))
      (k0_pay62 (k0_pay50 h w) k0_pay51 g) (k0_pay63 (k0_pay50 h w)) (k0_pay64 (k0_pay50 h w)) (k0_pay65 (k0_pay50 h w) k0_pay51) k0_pay66 = normT k0_pay51 g (k0_pay50 h w) := rfl

theorem w_k (h : FVec Ideal S512x1024 .bf16) (w : Vec Ideal S1024x512 .bf16) (g : FVec Ideal S1x128 .f32) :
    k0_pay85 k0_pay69 g (k0_pay75 k0_pay69 g (k0_pay71 h w) (k0_pay73 h w) (k0_pay74 h w)) (k0_pay76 (k0_pay68 h w) k0_pay69 g)
      (k0_pay80 k0_pay69 g (k0_pay77 (k0_pay68 h w)) (k0_pay78 (k0_pay68 h w)) (k0_pay79 (k0_pay68 h w) k0_pay69))
      (k0_pay81 (k0_pay68 h w)) (k0_pay83 (k0_pay68 h w) k0_pay69) (k0_pay84 (k0_pay68 h w) k0_pay69) = shapeCast S512x512 (normT k0_pay69 g (k0_pay68 h w)) shapeCasts_S512x512_S512x512 := rfl

theorem w_g95 (h : FVec Ideal S512x1024 .bf16) (w : Vec Ideal S1024x256 .bf16) :
    k0_pay95 h w = k0_pay92 h w := rfl

theorem w_g103 (h : FVec Ideal S512x1024 .bf16) (w : Vec Ideal S1024x256 .bf16) :
    k0_pay103 h w = k0_pay92 h w := rfl

theorem w_g109 (h : FVec Ideal S512x1024 .bf16) (w : Vec Ideal S1024x256 .bf16) :
    k0_pay109 h w = k0_pay92 h w := rfl

theorem w_g122 (h : FVec Ideal S512x1024 .bf16) (w : Vec Ideal S1024x256 .bf16) :
    k0_pay122 h w = k0_pay92 h w := rfl

theorem w_g136 (h : FVec Ideal S512x1024 .bf16) (w : Vec Ideal S1024x256 .bf16) :
    k0_pay136 h w = k0_pay92 h w := rfl

theorem w_g143 (h : FVec Ideal S512x1024 .bf16) (w : Vec Ideal S1024x256 .bf16) :
    k0_pay143 h w = k0_pay92 h w := rfl

theorem w_g150 (h : FVec Ideal S512x1024 .bf16) (w : Vec Ideal S1024x256 .bf16) :
    k0_pay150 h w = k0_pay92 h w := rfl

theorem w_s93 (q : FVec Ideal S512x512 .bf16) (l : IVec S128x128 1) (K : Vec Ideal S768x128 .bf16) :
    k0_pay93 q l K = scoreT l (extractStridedSlice S128x128 ![0, 0] q slices_S512x512_o0_0_S128x128) (extractStridedSlice S128x128 ![128, 0] q slices_S512x512_o128_0_S128x128) K := rfl

theorem w_s94 (q : FVec Ideal S512x512 .bf16) (l : IVec S128x128 1) (K : Vec Ideal S768x128 .bf16) :
    k0_pay94 q l K = scoreT l (extractStridedSlice S128x128 ![0, 128] q slices_S512x512_o0_128_S128x128) (extractStridedSlice S128x128 ![128, 128] q slices_S512x512_o128_128_S128x128) K := rfl

theorem w_s102 (q : FVec Ideal S512x512 .bf16) (l : IVec S128x128 1) (K : Vec Ideal S768x128 .bf16) :
    k0_pay102 q l K = scoreT l (extractStridedSlice S128x128 ![0, 256] q slices_S512x512_o0_256_S128x128) (extractStridedSlice S128x128 ![128, 256] q slices_S512x512_o128_256_S128x128) K := rfl

theorem w_s108 (q : FVec Ideal S512x512 .bf16) (l : IVec S128x128 1) (K : Vec Ideal S768x128 .bf16) :
    k0_pay108 q l K = scoreT l (extractStridedSlice S128x128 ![0, 384] q slices_S512x512_o0_384_S128x128) (extractStridedSlice S128x128 ![128, 384] q slices_S512x512_o128_384_S128x128) K := rfl

theorem w_s121 (q : FVec Ideal S512x512 .bf16) (l : IVec S128x128 1) (K : Vec Ideal S768x128 .bf16) :
    k0_pay121 q l K = scoreT l (extractStridedSlice S128x128 ![256, 0] q slices_S512x512_o256_0_S128x128) (extractStridedSlice S128x128 ![384, 0] q slices_S512x512_o384_0_S128x128) K := rfl

theorem w_s135 (q : FVec Ideal S512x512 .bf16) (l : IVec S128x128 1) (K : Vec Ideal S768x128 .bf16) :
    k0_pay135 (k0_pay129 q l) (k0_pay130 q l) (k0_pay133 q l) (k0_pay134 q l) K = scoreT l (extractStridedSlice S128x128 ![256, 128] q slices_S512x512_o256_128_S128x128) (extractStridedSlice S128x128 ![384, 128] q slices_S512x512_o384_128_S128x128) K := rfl

theorem w_s142 (q : FVec Ideal S512x512 .bf16) (l : IVec S128x128 1) (K : Vec Ideal S768x128 .bf16) :
    k0_pay142 q l K = scoreT l (extractStridedSlice S128x128 ![256, 256] q slices_S512x512_o256_256_S128x128) (extractStridedSlice S128x128 ![384, 256] q slices_S512x512_o384_256_S128x128) K := rfl

theorem w_s149 (q : FVec Ideal S512x512 .bf16) (l : IVec S128x128 1) (K : Vec Ideal S768x128 .bf16) :
    k0_pay149 q l K = scoreT l (extractStridedSlice S128x128 ![256, 384] q slices_S512x512_o256_384_S128x128) (extractStridedSlice S128x128 ![384, 384] q slices_S512x512_o384_384_S128x128) K := rfl

theorem w_a00 (l : IVec S128x128 1) (s : FVec Ideal S512x768 .f32) (b0 b1 b2 b3 b4 : Vec Ideal S1x256x128 .f32) (v : Vec Ideal S640x256 .bf16) :
    k0_pay98 l s (k0_pay96 b0) (k0_pay97 b1) b2 b3 b4 v = attBlk l (extractStridedSlice S256x640 ![0, 0] s slices_S512x768_o0_0_S256x640) (bias5 b0 b1 b2 b3 b4) v := rfl

theorem w_a10 (l : IVec S128x128 1) (s : FVec Ideal S512x768 .f32) (b0 b1 b2 b3 b4 : Vec Ideal S1x256x128 .f32) (v : Vec Ideal S640x256 .bf16) :
    k0_pay101 l s (k0_pay99 b0) (k0_pay100 b1) b2 b3 b4 v = attBlk l (extractStridedSlice S256x640 ![256, 128] s slices_S512x768_o256_128_S256x640) (bias5 b0 b1 b2 b3 b4) v := rfl

theorem w_a01 (l : IVec S128x128 1) (s : FVec Ideal S512x768 .f32) (b0 b1 b2 b3 b4 : Vec Ideal S1x256x128 .f32) (v : Vec Ideal S640x256 .bf16) :
    k0_pay105 (k0_pay104 l s b0 b1 b2 b3 b4 v) = attBlk l (extractStridedSlice S256x640 ![0, 0] s slices_S512x768_o0_0_S256x640) (bias5 b0 b1 b2 b3 b4) v := rfl

theorem w_a11 (l : IVec S128x128 1) (s : FVec Ideal S512x768 .f32) (b0 b1 b2 b3 b4 : Vec Ideal S1x256x128 .f32) (v : Vec Ideal S640x256 .bf16) :
    k0_pay107 (k0_pay106 l s b0 b1 b2 b3 b4 v) = attBlk l (extractStridedSlice S256x640 ![256, 128] s slices_S512x768_o256_128_S256x640) (bias5 b0 b1 b2 b3 b4) v := rfl

theorem w_a02 (l : IVec S128x128 1) (s : FVec Ideal S512x768 .f32) (b0 b1 b2 b3 b4 : Vec Ideal S1x256x128 .f32) (v : Vec Ideal S640x256 .bf16) :
    k0_pay114 l s (k0_pay110 b0) (k0_pay111 b1) (k0_pay112 b2) (k0_pay113 b3) b4 v = attBlk l (extractStridedSlice S256x640 ![0, 0] s slices_S512x768_o0_0_S256x640) (bias5 b0 b1 b2 b3 b4) v := rfl

theorem w_a12 (l : IVec S128x128 1) (s : FVec Ideal S512x768 .f32) (b0 b1 b2 b3 b4 : Vec Ideal S1x256x128 .f32) (v : Vec Ideal S640x256 .bf16) :
    k0_pay120 l s (k0_pay115 b0) (k0_pay116 b1) (k0_pay117 b2) (k0_pay118 b3) (k0_pay119 b4) v = attBlk l (extractStridedSlice S256x640 ![256, 128] s slices_S512x768_o256_128_S256x640) (bias5 b0 b1 b2 b3 b4) v := rfl

theorem w_a03 (l : IVec S128x128 1) (s : FVec Ideal S512x768 .f32) (b0 b1 b2 b3 b4 : Vec Ideal S1x256x128 .f32) (v : Vec Ideal S640x256 .bf16) :
    k0_pay124 l s (k0_pay123 b0) b1 b2 b3 b4 v = attBlk l (extractStridedSlice S256x640 ![0, 0] s slices_S512x768_o0_0_S256x640) (bias5 b0 b1 b2 b3 b4) v := rfl

theorem w_a13 (l : IVec S128x128 1) (s : FVec Ideal S512x768 .f32) (b0 b1 b2 b3 b4 : Vec Ideal S1x256x128 .f32) (v : Vec Ideal S640x256 .bf16) :
    k0_pay126 l s (k0_pay125 b0) b1 b2 b3 b4 v = attBlk l (extractStridedSlice S256x640 ![256, 128] s slices_S512x768_o256_128_S256x640) (bias5 b0 b1 b2 b3 b4) v := rfl

theorem w_a20 (l : IVec S128x128 1) (s : FVec Ideal S512x768 .f32) (b0 b1 b2 b3 b4 : Vec Ideal S1x256x128 .f32) (v : Vec Ideal S640x256 .bf16) :
    k0_pay139 l (k0_pay137 s b0 b1 b2 b3 b4 v) (k0_pay138 s b0 b1 b2 b3 b4 v) = attBlk l (extractStridedSlice S256x640 ![0, 0] s slices_S512x768_o0_0_S256x640) (bias5 b0 b1 b2 b3 b4) v := rfl

theorem w_a30 (l : IVec S128x128 1) (s : FVec Ideal S512x768 .f32) (b0 b1 b2 b3 b4 : Vec Ideal S1x256x128 .f32) (v : Vec Ideal S640x256 .bf16) :
    k0_pay141 (k0_pay140 l s b0 b1 b2 b3 b4 v) = attBlk l (extractStridedSlice S256x640 ![256, 128] s slices_S512x768_o256_128_S256x640) (bias5 b0 b1 b2 b3 b4) v := rfl

theorem w_a21 (l : IVec S128x128 1) (s : FVec Ideal S512x768 .f32) (b0 b1 b2 b3 b4 : Vec Ideal S1x256x128 .f32) (v : Vec Ideal S640x256 .bf16) :
    k0_pay146 l (k0_pay144 s b0 b1 b2 b3 b4) (k0_pay145 s b0 b1 b2 b3 b4) v = attBlk l (extractStridedSlice S256x640 ![0, 0] s slices_S512x768_o0_0_S256x640) (bias5 b0 b1 b2 b3 b4) v := rfl

theorem w_a31 (l : IVec S128x128 1) (s : FVec Ideal S512x768 .f32) (b0 b1 b2 b3 b4 : Vec Ideal S1x256x128 .f32) (v : Vec Ideal S640x256 .bf16) :
    k0_pay148 l (k0_pay147 s b0 b1 b2 b3 b4) v = attBlk l (extractStridedSlice S256x640 ![256, 128] s slices_S512x768_o256_128_S256x640) (bias5 b0 b1 b2 b3 b4) v := rfl

theorem w_a22 (l : IVec S128x128 1) (s : FVec Ideal S512x768 .f32) (b0 b1 b2 b3 b4 : Vec Ideal S1x256x128 .f32) (v : Vec Ideal S640x256 .bf16) :
    k0_pay154 l s (k0_pay151 b0) (k0_pay152 b1) (k0_pay153 b2) b3 b4 v = attBlk l (extractStridedSlice S256x640 ![0, 0] s slices_S512x768_o0_0_S256x640) (bias5 b0 b1 b2 b3 b4) v := rfl

theorem w_a32 (l : IVec S128x128 1) (s : FVec Ideal S512x768 .f32) (b0 b1 b2 b3 b4 : Vec Ideal S1x256x128 .f32) (v : Vec Ideal S640x256 .bf16) :
    k0_pay159 l s (k0_pay155 b0) (k0_pay156 b1) (k0_pay157 b2) (k0_pay158 b3) b4 v = attBlk l (extractStridedSlice S256x640 ![256, 128] s slices_S512x768_o256_128_S256x640) (bias5 b0 b1 b2 b3 b4) v := rfl

theorem w_a23 (l : IVec S128x128 1) (s : FVec Ideal S512x768 .f32) (b0 b1 b2 b3 b4 : Vec Ideal S1x256x128 .f32) (v : Vec Ideal S640x256 .bf16) :
    k0_pay164 l s (k0_pay160 b0) (k0_pay161 b1) (k0_pay162 b2) (k0_pay163 b3) b4 v = attBlk l (extractStridedSlice S256x640 ![0, 0] s slices_S512x768_o0_0_S256x640) (bias5 b0 b1 b2 b3 b4) v := rfl

theorem w_a33 (l : IVec S128x128 1) (s : FVec Ideal S512x768 .f32) (b0 b1 b2 b3 b4 : Vec Ideal S1x256x128 .f32) (v : Vec Ideal S640x256 .bf16) :
    k0_pay166 l (k0_pay165 s b0 b1 b2 b3 b4) v = attBlk l (extractStridedSlice S256x640 ![256, 128] s slices_S512x768_o256_128_S256x640) (bias5 b0 b1 b2 b3 b4) v := rfl

end Cert.KernelIdeal.Value
-- ==== Proof.MixMath.lean ====
/-
  The mixing sublayer on real numbers, one sequence at a time: the normalized row, its projection, the chunked
  attention, the causal pooling and the gated sum, as functions of the position, with the lemmas that carry the
  arithmetic on extended reals over to them. Both the kernel and the reference are read against these.
-/
module

public import Idealize.ShloMosaic.Lib.Pointwise
public import Idealize.ShloMosaic.Lib.IdealHost

@[expose] public section

noncomputable section

namespace Cert.Layer.Mix

open Idealize.ShloMosaic

/-- The real data of one sequence: its rows, the modulation rows, the weights. -/
structure Inp where
  x : ℕ → Fin 1024 → ℝ
  g : Fin 1024 → ℝ
  sh : Fin 1024 → ℝ
  sc : Fin 1024 → ℝ
  ga : Fin 1024 → ℝ
  w : Fin 1024 → ℕ → ℝ
  qg : ℕ → ℝ
  kg : ℕ → ℝ
  rb : ℕ → ℕ → ℝ
  wa : ℕ → Fin 1024 → ℝ
  wg : ℕ → ℕ → ℕ → ℝ
  ps : ℕ → ℝ
  wp : ℕ → Fin 1024 → ℝ
  wo : Fin 1024 → Fin 1024 → ℝ

/-- The constant added under every root. -/
def eps : ℝ := (Ideal.ofBits FTy.f32 897988541#32).toReal

theorem ofBits_eps : Ideal.ofBits FTy.f32 897988541#32 = ((eps : ℝ) : EReal) ∧ 0 < eps := by
  have h : Ideal.ofBits FTy.f32 897988541#32 = (((8796093 : ℝ) / 2 ^ 43 : ℝ) : EReal) := by
    simp [Ideal.ofBits, Ideal.ieee]; rw [← EReal.coe_mul]; norm_num
  rw [eps, h, EReal.toReal_coe]
  exact ⟨rfl, by norm_num⟩

theorem eps_pos : 0 < eps := ofBits_eps.2

theorem ofBits_inv64 : Ideal.ofBits FTy.f32 1015021568#32 = (((1 / 64 : ℝ)) : EReal) := by
  simp [Ideal.ofBits, Ideal.ieee]; rw [← EReal.coe_mul]; norm_num

theorem ofBits_1024 : Ideal.ofBits FTy.f32 1149239296#32 = (((1024 : ℝ)) : EReal) := by
  simp [Ideal.ofBits, Ideal.ieee]; rw [← EReal.coe_mul]; norm_num

theorem ofBits_64 : Ideal.ofBits FTy.f32 1115684864#32 = (((64 : ℝ)) : EReal) := by
  simp [Ideal.ofBits, Ideal.ieee]; rw [← EReal.coe_mul]; norm_num

theorem ofBits_eighth : Ideal.ofBits FTy.f32 1040187392#32 = (((1 / 8 : ℝ)) : EReal) := by
  simp [Ideal.ofBits, Ideal.ieee]; rw [← EReal.coe_mul]; norm_num

theorem ofBits_negInf : Ideal.ofBits FTy.f32 4286578688#32 = ⊥ := by
  simp [Ideal.ofBits, Ideal.ieee]

variable (I : Inp)

/-- The normalized, modulated row. -/
def hid (t : ℕ) (k : Fin 1024) : ℝ :=
  I.x t k * (√((∑ j, I.x t j * I.x t j) / 1024 + eps))⁻¹ * (I.g k * (1 + I.sc k)) + I.sh k

/-- The projection of the normalized row. -/
def z (t c : ℕ) : ℝ := ∑ k, hid I t k * I.w k c

/-- One over the root mean square of the 64 lanes of a head. -/
def rs (off t n : ℕ) : ℝ :=
  (√((∑ e : Fin 64, z I t (off + 64 * n + e) * z I t (off + 64 * n + e)) / 64 + eps))⁻¹

/-- The normalized query lane. -/
def qn (t n e : ℕ) : ℝ := z I t (64 * n + e) * rs I 0 t n * I.qg e

/-- The normalized key lane. -/
def kn (t n e : ℕ) : ℝ := z I t (512 + 64 * n + e) * rs I 512 t n * I.kg e

/-- The score of the query at `t` against the key at `s`, with the relative bias of the clipped distance. -/
def score (t s n : ℕ) : ℝ :=
  (∑ e : Fin 64, qn I t n e * kn I s n e) / 8 + I.rb n (min (t + 128 - s) 256)

/-- The attention of one head: the keys of the query's chunk of 64 and of the eight chunks before it. -/
def att (t n e : ℕ) : ℝ :=
  (∑ j : Fin 576, if 512 ≤ 64 * (t / 64) + j.val then
      Real.exp (score I t (64 * (t / 64) + j.val - 512) n) * z I (64 * (t / 64) + j.val - 512) (1024 + 64 * n + e) else 0)
    / (∑ j : Fin 576, if 512 ≤ 64 * (t / 64) + j.val then Real.exp (score I t (64 * (t / 64) + j.val - 512) n) else 0)

/-- The causal mean over the window of the lane's group, less the row itself. -/
def pool (t c : ℕ) : ℝ :=
  (∑ d ∈ Finset.range (2 ^ (c / 128 + 1)), if d ≤ t then z I (t - d) (1536 + c) else 0)
    / (min (t + 1) (2 ^ (c / 128 + 1)) : ℕ) - z I t (1536 + c)

/-- The pooled lanes through the grouped weights, the lane scale and the output weights. -/
def yb (t : ℕ) (m : Fin 1024) : ℝ :=
  ∑ c : Fin 512, (∑ i : Fin 128, pool I t (128 * (c.val / 128) + i) * I.wg (c.val / 128) i (c.val % 128)) * I.ps c
    * I.wp c m

/-- The attention lanes through the output weights. -/
def ya (t : ℕ) (m : Fin 1024) : ℝ := ∑ c : Fin 512, att I t (c.val / 64) (c.val % 64) * I.wa c m

/-- The logistic function. -/
def sg (r : ℝ) : ℝ := (1 + Real.exp (-r))⁻¹

/-- The gated sum of the two branches. -/
def mrg (t : ℕ) (m : Fin 1024) : ℝ := sg (z I t (2048 + m)) * ya I t m + sg (z I t (3072 + m)) * yb I t m

/-- The output row of the sublayer. -/
def out (t : ℕ) (k : Fin 1024) : ℝ := I.x t k + I.ga k * ∑ m, mrg I t m * I.wo m k

/-! ### Extended reals -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem rsqrt_real {r : ℝ} (h : 0 < r) : Ideal.rsqrt ((r : ℝ) : EReal) = (((√r)⁻¹ : ℝ) : EReal) := by
  rw [Ideal.rsqrt_coe, if_neg (not_lt.mpr h.le), if_neg h.ne']

theorem div_real (x : ℝ) {y : ℝ} (h : y ≠ 0) : Ideal.div ((x : ℝ) : EReal) ((y : ℝ) : EReal) = ((x / y : ℝ) : EReal) := by
  rw [Ideal.div_coe h, ← EReal.coe_mul, mul_one_div]

theorem meanSq_pos {ι : Type*} [Fintype ι] (f : ι → ℝ) {N : ℝ} (hN : 0 < N) : 0 < (∑ i, f i * f i) / N + eps :=
  add_pos_of_nonneg_of_pos (div_nonneg (Finset.sum_nonneg fun i _ => mul_self_nonneg _) hN.le) eps_pos

/-- The fold of a finite maximum over reals and `⊥`, one of them real, is real. -/
theorem fold_max_real {ι : Type*} [Fintype ι] (f : ι → EReal) (hf : ∀ i, f i ≠ ⊤) (i₀ : ι) (h₀ : f i₀ ≠ ⊥) :
    ∃ M : ℝ, Finset.fold max (⊥ : EReal) f Finset.univ = ((M : ℝ) : EReal) := by
  have hlt : Finset.fold max (⊥ : EReal) f Finset.univ < ⊤ :=
    (Finset.fold_max_lt _).mpr ⟨bot_lt_top, fun i _ => lt_top_iff_ne_top.mpr (hf i)⟩
  have hge : f i₀ ≤ Finset.fold max (⊥ : EReal) f Finset.univ :=
    (Finset.le_fold_max _).mpr (Or.inr ⟨i₀, Finset.mem_univ _, le_rfl⟩)
  refine ⟨(Finset.fold max (⊥ : EReal) f Finset.univ).toReal, (EReal.coe_toReal hlt.ne ?_).symm⟩
  intro h
  rw [h] at hge
  exact h₀ (le_bot_iff.mp hge)

theorem exp2_shift (s M : ℝ) : Ideal.exp2 ((((Real.log 2)⁻¹ * s : ℝ) : EReal) - ((M : ℝ) : EReal))
    = ((Real.exp s * Real.exp (-(M * Real.log 2)) : ℝ) : EReal) := by
  rw [← EReal.coe_sub, Ideal.exp2_coe, ← Real.exp_add]
  congr 1
  show (2 : ℝ) ^ ((Real.log 2)⁻¹ * s - M) = _
  rw [Real.rpow_def_of_pos (by norm_num)]
  congr 1
  have : Real.log 2 ≠ 0 := (Real.log_pos (by norm_num)).ne'
  field_simp
  ring

theorem sum_exp_pos {ι : Type*} [Fintype ι] (p : ι → Prop) [DecidablePred p] (s : ι → ℝ) (i₀ : ι) (h₀ : p i₀) :
    0 < ∑ i, if p i then Real.exp (s i) else 0 :=
  Finset.sum_pos' (fun i _ => by split_ifs <;> positivity) ⟨i₀, Finset.mem_univ _, by rw [if_pos h₀]; positivity⟩

/-- The kernel's attention: powers of two of shifted scores against the values, over the same against lanes of one. -/
theorem softmax2 {ι : Type*} [Fintype ι] (p : ι → Prop) [DecidablePred p] (s : ι → ℝ) (v o : ι → ℝ) (f : ι → EReal)
    (hf : ∀ i, f i = if p i then (((Real.log 2)⁻¹ * s i : ℝ) : EReal) else ⊥) (ho : ∀ i, p i → o i = 1) (i₀ : ι) (h₀ : p i₀) :
    Ideal.div (∑ i, Ideal.exp2 (f i - Finset.fold max (⊥ : EReal) f Finset.univ) * ((v i : ℝ) : EReal))
        (∑ i, Ideal.exp2 (f i - Finset.fold max (⊥ : EReal) f Finset.univ) * ((o i : ℝ) : EReal))
      = (((∑ i, if p i then Real.exp (s i) * v i else 0) / (∑ i, if p i then Real.exp (s i) else 0) : ℝ) : EReal) := by
  obtain ⟨M, hM⟩ := fold_max_real f (fun i => by rw [hf]; split_ifs; exacts [EReal.coe_ne_top _, bot_ne_top]) i₀
    (by rw [hf, if_pos h₀]; exact EReal.coe_ne_bot _)
  rw [hM]
  have key : ∀ (w : ι → ℝ), (∑ i, Ideal.exp2 (f i - ((M : ℝ) : EReal)) * ((w i : ℝ) : EReal))
      = (((∑ i, if p i then Real.exp (s i) * w i else 0) * Real.exp (-(M * Real.log 2)) : ℝ) : EReal) := by
    intro w
    rw [Finset.sum_mul, ← coe_sum]
    refine Finset.sum_congr rfl fun i _ => ?_
    rw [hf]
    split_ifs
    · rw [exp2_shift, ← EReal.coe_mul]; congr 1; ring
    · simp
  rw [key, key]
  have ho' : (∑ i, if p i then Real.exp (s i) * o i else 0) = ∑ i, if p i then Real.exp (s i) else 0 :=
    Finset.sum_congr rfl fun i _ => by
      split_ifs with h
      · rw [ho i h, mul_one]
      · rfl
  rw [ho']
  have hp := sum_exp_pos p s i₀ h₀
  have he := Real.exp_pos (-(M * Real.log 2))
  rw [div_real _ (mul_pos hp he).ne', mul_div_mul_right _ _ he.ne']

/-- The reference's attention: shifted exponentials over their sum, against the values. -/
theorem softmax1 {ι : Type*} [Fintype ι] (p : ι → Prop) [DecidablePred p] (s : ι → ℝ) (v : ι → ℝ) (f : ι → EReal) (m : EReal)
    (hf : ∀ i, f i = if p i then ((s i : ℝ) : EReal) else ⊥) (hm : m = Finset.fold max (⊥ : EReal) f Finset.univ)
    (i₀ : ι) (h₀ : p i₀) :
    (∑ i, Ideal.div (Ideal.exp (f i - m)) (∑ i', Ideal.exp (f i' - m)) * ((v i : ℝ) : EReal))
      = (((∑ i, if p i then Real.exp (s i) * v i else 0) / (∑ i, if p i then Real.exp (s i) else 0) : ℝ) : EReal) := by
  obtain ⟨M, hM⟩ := fold_max_real f (fun i => by rw [hf]; split_ifs; exacts [EReal.coe_ne_top _, bot_ne_top]) i₀
    (by rw [hf, if_pos h₀]; exact EReal.coe_ne_bot _)
  rw [hm, hM]
  have e1 : ∀ i, Ideal.exp (f i - ((M : ℝ) : EReal)) = (((if p i then Real.exp (s i) else 0) * Real.exp (-M) : ℝ) : EReal) := by
    intro i
    rw [hf]
    split_ifs
    · rw [← EReal.coe_sub, Ideal.exp_coe, ← Real.exp_add]; congr 1
    · simp
  simp only [e1]
  have hp := sum_exp_pos p s i₀ h₀
  have he := Real.exp_pos (-M)
  rw [coe_sum, ← Finset.sum_mul, Finset.sum_div, ← coe_sum]
  refine Finset.sum_congr rfl fun i _ => ?_
  rw [div_real _ (mul_pos hp he).ne', mul_div_mul_right _ _ he.ne', ← EReal.coe_mul]
  congr 1
  split_ifs <;> ring

theorem sum_low (f : Fin 128 → ℝ) : (∑ x : Fin 128, if x.val < 64 then f x else 0) = ∑ e : Fin 64, f ⟨e, by omega⟩ := by
  rw [show (∑ x : Fin 128, if x.val < 64 then f x else 0) = ∑ x : Fin (64 + 64), if x.val < 64 then f x else 0 from rfl,
    Fin.sum_univ_add]
  simp only [Fin.val_castAdd, Fin.val_natAdd, Fin.is_lt, if_true]
  rw [Finset.sum_eq_zero (f := fun x : Fin 64 => if 64 + x.val < 64 then f (Fin.natAdd 64 x) else 0)
    fun x _ => if_neg (by omega), add_zero]
  rfl

theorem sum_high (f : Fin 128 → ℝ) : (∑ x : Fin 128, if x.val < 64 then 0 else f x) = ∑ e : Fin 64, f ⟨64 + e, by omega⟩ := by
  rw [show (∑ x : Fin 128, if x.val < 64 then 0 else f x) = ∑ x : Fin (64 + 64), if x.val < 64 then 0 else f x from rfl,
    Fin.sum_univ_add]
  simp only [Fin.val_castAdd, Fin.val_natAdd, Fin.is_lt, if_true]
  rw [Finset.sum_const_zero, zero_add]
  refine Finset.sum_congr rfl fun x _ => ?_
  rw [if_neg (by omega)]
  rfl

/-- The window of 640 keys a block of 128 queries reads, at the keys of one of its two chunks, is the band of 576. -/
theorem sum_band (c : ℕ) (hc : c ≤ 1) (f : ℕ → ℝ) :
    (∑ j : Fin 640, if 64 * c ≤ j.val ∧ j.val < 64 * c + 576 then f j else 0) = ∑ j : Fin 576, f (64 * c + j) := by
  rw [Fin.sum_univ_eq_sum_range (fun j => if 64 * c ≤ j ∧ j < 64 * c + 576 then f j else 0) 640,
    Fin.sum_univ_eq_sum_range (fun j => f (64 * c + j)) 576, ← Finset.sum_filter]
  rw [show Finset.filter (fun j => 64 * c ≤ j ∧ j < 64 * c + 576) (Finset.range 640) = Finset.Ico (64 * c) (64 * c + 576) from by
    ext j; simp only [Finset.mem_filter, Finset.mem_range, Finset.mem_Ico]; omega, Finset.sum_Ico_eq_sum_range]
  simp

/-- The grouped weights scaled and multiplied into the output weights first. -/
theorem yb_swap (t : ℕ) (m : Fin 1024) :
    yb I t m = ∑ c : Fin 512, pool I t c *
      ∑ j : Fin 128, I.wg (c.val / 128) (c.val % 128) j * I.ps (128 * (c.val / 128) + j) * I.wp (128 * (c.val / 128) + j) m := by
  have split : ∀ F : ℕ → ℝ, (∑ c : Fin 512, F c) = ∑ g : Fin 4, ∑ i : Fin 128, F (128 * g + i) := by
    intro F
    rw [← Finset.sum_product', Finset.univ_product_univ, ← (finProdFinEquiv (m := 4) (n := 128)).sum_comp]
    refine Finset.sum_congr rfl fun p _ => ?_
    simp only [finProdFinEquiv_apply_val]
    congr 1; omega
  rw [yb, split (fun c => (∑ i : Fin 128, pool I t (128 * (c / 128) + i) * I.wg (c / 128) i (c % 128)) * I.ps c * I.wp c m),
    split (fun c => pool I t c * ∑ j : Fin 128, I.wg (c / 128) (c % 128) j * I.ps (128 * (c / 128) + j) * I.wp (128 * (c / 128) + j) m)]
  refine Finset.sum_congr rfl fun g _ => ?_
  have e1 : ∀ i : Fin 128, (128 * g.val + i.val) / 128 = g.val := fun i => by omega
  have e2 : ∀ i : Fin 128, (128 * g.val + i.val) % 128 = i.val := fun i => by omega
  simp only [e1, e2, Finset.sum_mul, Finset.mul_sum]
  rw [Finset.sum_comm]
  refine Finset.sum_congr rfl fun i _ => Finset.sum_congr rfl fun j _ => ?_
  ring

end Cert.Layer.Mix
-- ==== Proof.MixElem.lean ====
/-
  The token-mixing kernel's pieces at an element, as real numbers: the normalized rows, the projections, the
  normalized queries and keys of a tile.
-/
module

public import proofs.«01_k».proof.Proof.MixPay
public import proofs.«01_k».proof.Proof.MixMath
public import Idealize.ShloMosaic.Lib.Pipeline.ValueKit.Tiles

@[expose] public section

noncomputable section

namespace Cert.KernelIdeal.Value

open Cert.KernelIdeal Cert.KernelIdeal.Gen Idealize.ShloMosaic Cert.Layer Cert.Layer.Mix

/-- The loaded blocks of a tile hold the real data of its sequence, the tile's rows beginning at `T0`. -/
structure Blk (I : Inp) (T0 : ℕ) (x0 : Vec Ideal S1x512x1024 .f32) (x1 : Vec Ideal S1x9x1024 .f32) (x2 : Vec Ideal S1x1024 .f32)
    (x3 : Vec Ideal S1024x4096 .bf16) (x4 x5 : Vec Ideal S1x64 .f32) (x7 : Vec Ideal S512x1024 .bf16)
    (x11 : Vec Ideal S1024x1024 .bf16) : Prop where
  x : ∀ (t : Fin 512) (k : Fin 1024), x0 (ix3 0 t k) = ((I.x (T0 + t) k : ℝ) : EReal)
  sh : ∀ k : Fin 1024, x1 (ix3 0 3 k) = ((I.sh k : ℝ) : EReal)
  sc : ∀ k : Fin 1024, x1 (ix3 0 4 k) = ((I.sc k : ℝ) : EReal)
  ga : ∀ k : Fin 1024, x1 (ix3 0 5 k) = ((I.ga k : ℝ) : EReal)
  g : ∀ k : Fin 1024, x2 (ix2 0 k) = ((I.g k : ℝ) : EReal)
  w : ∀ (k : Fin 1024) (c : Fin 4096), x3 (ix2 k c) = ((I.w k c : ℝ) : EReal)
  qg : ∀ e : Fin 64, x4 (ix2 0 e) = ((I.qg e : ℝ) : EReal)
  kg : ∀ e : Fin 64, x5 (ix2 0 e) = ((I.kg e : ℝ) : EReal)
  wa : ∀ (c : Fin 512) (m : Fin 1024), x7 (ix2 c m) = ((I.wa c m : ℝ) : EReal)
  wo : ∀ m k : Fin 1024, x11 (ix2 m k) = ((I.wo m k : ℝ) : EReal)

/-- A unit rectangle of a matrix at an element. -/
theorem ld2 {e : EltTy} {a b a' b' : Nat} (X : Vec Ideal ⟨2, ![a, b]⟩ e) (o o' : Nat)
    (inb : ∀ k, ![o, o'] k + ![a', b'] k ≤ ![a, b] k) (i : Fin a') (j : Fin b') (i' : Fin a) (j' : Fin b)
    (hi : i'.val = o + i.val) (hj : j'.val = o' + j.val) :
    View.ld X (Rect.unit (s := ⟨2, ![a, b]⟩) ![o, o'] ![a', b'] inb) (ix2 i j) = X (ix2 i' j') := by
  refine View.ld_unit_apply_of X _ _ inb (ix2 i j) (ix2 i' j') ?_
  intro k
  match k with
  | ⟨0, _⟩ => exact hi
  | ⟨1, _⟩ => exact hj

/-- A unit rectangle of a table of three axes at an element. -/
theorem ld3 {e : EltTy} {a b c a' b' c' : Nat} (X : Vec Ideal ⟨3, ![a, b, c]⟩ e) (o : Fin 3 → Nat)
    (inb : ∀ k, o k + ![a', b', c'] k ≤ ![a, b, c] k) (i : Fin a') (j : Fin b') (l : Fin c') (i' : Fin a) (j' : Fin b) (l' : Fin c)
    (hi : i'.val = o 0 + i.val) (hj : j'.val = o 1 + j.val) (hl : l'.val = o 2 + l.val) :
    View.ld X (Rect.unit (s := ⟨3, ![a, b, c]⟩) o ![a', b', c'] inb) (ix3 i j l) = X (ix3 i' j' l') := by
  refine View.ld_unit_apply_of X _ _ inb (ix3 i j l) (ix3 i' j' l') ?_
  intro k
  match k with
  | ⟨0, _⟩ => exact hi
  | ⟨1, _⟩ => exact hj
  | ⟨2, _⟩ => exact hl

theorem slt64 : ∀ l : Fin 128, IntOp.cmpi CmpIPredicate.slt (BitVec.ofNat 32 l.val) 64#32 = if l.val < 64 then 1#1 else 0#1 := by
  decide +kernel

/-- The lane mask chooses by the lower half of the 128 lanes. -/
theorem sel_low {α : Type} (l : Fin 128) (a b : α) :
    Scalar.select (IntOp.cmpi CmpIPredicate.slt (BitVec.ofNat 32 l.val) 64#32) a b = if l.val < 64 then a else b := by
  rw [slt64]; split_ifs <;> rfl

theorem low_q {α : Type} (t : Fin 512) (l : Fin 128) (a b : α) : Scalar.select (k0_pay51 (ix2 t l)) a b = if l.val < 64 then a else b := by
  rw [← sel_low]; unfold k0_pay51; pointwise

theorem low_k {α : Type} (t : Fin 512) (l : Fin 128) (a b : α) : Scalar.select (k0_pay69 (ix2 t l)) a b = if l.val < 64 then a else b := by
  rw [← sel_low]; unfold k0_pay69; pointwise

theorem low_s {α : Type} (t l : Fin 128) (a b : α) : Scalar.select (k0_pay91 (ix2 t l)) a b = if l.val < 64 then a else b := by
  rw [← sel_low]; unfold k0_pay91; pointwise

variable {I : Inp} {T0 : ℕ} {x0 : Vec Ideal S1x512x1024 .f32} {x1 : Vec Ideal S1x9x1024 .f32} {x2 : Vec Ideal S1x1024 .f32}
  {x3 : Vec Ideal S1024x4096 .bf16} {x4 x5 : Vec Ideal S1x64 .f32} {x7 : Vec Ideal S512x1024 .bf16} {x11 : Vec Ideal S1024x1024 .bf16}

theorem hid_real (x g sc sh : Fin 1024 → ℝ) (k : Fin 1024) :
    ((x k : ℝ) : EReal) * Ideal.rsqrt (Ideal.div (∑ j, ((x j : ℝ) : EReal) * ((x j : ℝ) : EReal)) (Ideal.ofBits FTy.f32 1149239296#32)
        + Ideal.ofBits FTy.f32 897988541#32) * (((g k : ℝ) : EReal) * (1 + ((sc k : ℝ) : EReal))) + ((sh k : ℝ) : EReal)
      = ((x k * (√((∑ j, x j * x j) / 1024 + eps))⁻¹ * (g k * (1 + sc k)) + sh k : ℝ) : EReal) := by
  simp only [← EReal.coe_mul, coe_sum]
  rw [ofBits_1024, ofBits_eps.1, div_real _ (by norm_num), ← EReal.coe_add, rsqrt_real (meanSq_pos _ (by norm_num))]
  simp only [← EReal.coe_mul, ← EReal.coe_add, ← EReal.coe_one]

theorem hT_apply (B : Blk I T0 x0 x1 x2 x3 x4 x5 x7 x11) (t : Fin 512) (k : Fin 1024) :
    hT x0 x1 x2 (ix2 t k) = ((hid I (T0 + t) k : ℝ) : EReal) := by
  rw [hid, ← hid_real]
  unfold hT
  simp only [View.ld_unit]
  pointwise [k0_pay36, k0_pay34]
  simp only [B.x, B.g, B.sc, B.sh]

theorem pay37_apply (h : FVec Ideal S512x1024 .f32) (t : Fin 512) (k : Fin 1024) : k0_pay37 h (ix2 t k) = h (ix2 t k) := by
  pointwise [k0_pay37]

/-- The rows of a tile, as the projections take them. -/
def Hid (I : Inp) (T0 : ℕ) (h : S512x1024.Idx → EReal) : Prop := ∀ (t : Fin 512) (k : Fin 1024), h (ix2 t k) = ((hid I (T0 + t) k : ℝ) : EReal)

theorem proj (B : Blk I T0 x0 x1 x2 x3 x4 x5 x7 x11) {h : S512x1024.Idx → EReal} (H : Hid I T0 h) {n : Nat} (o : Nat)
    (inb : ∀ k, ![0, o] k + ![1024, n] k ≤ S1024x4096.size k) (t : Fin 512) (j : Fin n) :
    (∑ x, h (ix2 t x) * View.ld x3 (Rect.unit (s := S1024x4096) ![0, o] ![1024, n] inb) (ix2 x j)) = ((z I (T0 + t) (o + j) : ℝ) : EReal) := by
  rw [z, ← coe_sum]
  refine Finset.sum_congr rfl fun x _ => ?_
  have := inb 1
  rw [H t x, ld2 x3 0 o inb x j x ⟨o + j.val, by have : o + n ≤ 4096 := this; omega⟩ (by simp) rfl, B.w, ← EReal.coe_mul]

/-- Four pieces of 128 columns side by side. -/
theorem cat4 (c : Fin 4 → S512x128.Idx → EReal) (h) (p : Fin 512) (n : Fin 512) :
    concatenate S512x512 1 [⟨S512x128, c 0⟩, ⟨S512x128, c 1⟩, ⟨S512x128, c 2⟩, ⟨S512x128, c 3⟩] h (ix2 p n)
      = c ⟨n.val / 128, by omega⟩ (ix2 p ⟨n.val % 128, by omega⟩) := by
  refine concatenate_ofFn_apply (t := S512x512) (s₁ := S512x128) 1 c h rfl 128 rfl (ix2 p n) ⟨n.val / 128, by omega⟩ rfl
    (ix2 p ⟨n.val % 128, by omega⟩) rfl ?_
  intro b hb
  match b with
  | ⟨0, _⟩ => rfl
  | ⟨1, _⟩ => exact absurd rfl hb

/-- Four pieces of 128 rows on top of each other. -/
theorem cat4r (c : Fin 4 → S128x128.Idx → EReal) (h) (p : Fin 512) (n : Fin 128) :
    concatenate S512x128 0 [⟨S128x128, c 0⟩, ⟨S128x128, c 1⟩, ⟨S128x128, c 2⟩, ⟨S128x128, c 3⟩] h (ix2 p n)
      = c ⟨p.val / 128, by omega⟩ (ix2 ⟨p.val % 128, by omega⟩ n) := by
  refine concatenate_ofFn_apply (t := S512x128) (s₁ := S128x128) 0 c h rfl 128 rfl (ix2 p n) ⟨p.val / 128, by omega⟩ rfl
    (ix2 ⟨p.val % 128, by omega⟩ n) rfl ?_
  intro b hb
  match b with
  | ⟨0, _⟩ => exact absurd rfl hb
  | ⟨1, _⟩ => rfl

theorem rs_real {ι : Type*} [Fintype ι] (f : ι → ℝ) :
    Ideal.rsqrt (((∑ e, f e * f e : ℝ) : EReal) * Ideal.ofBits FTy.f32 1015021568#32 + Ideal.ofBits FTy.f32 897988541#32)
      = (((√((∑ e, f e * f e) / 64 + eps))⁻¹ : ℝ) : EReal) := by
  rw [ofBits_inv64, ofBits_eps.1, ← EReal.coe_mul, ← EReal.coe_add, mul_one_div, rsqrt_real (meanSq_pos _ (by norm_num))]

/-- A normalized head pair at an element, the pair's first lane at `o` of the projection. -/
theorem headN_apply {low : IVec S512x128 1} (hlow : ∀ (t : Fin 512) (l : Fin 128) (a b : EReal), Scalar.select (low (ix2 t l)) a b = if l.val < 64 then a else b)
    {g : FVec Ideal S1x128 .f32} {p : FVec Ideal S512x128 .f32} {f : ℕ → ℕ → ℝ} {o : ℕ} {G : ℝ} (t : Fin 512) (l : Fin 128)
    (hg : g (ix2 0 l) = ((G : ℝ) : EReal)) (hp : ∀ l : Fin 128, p (ix2 t l) = ((f t (o + l.val) : ℝ) : EReal)) :
    headN low g p (ix2 t l) = ((f t (o + l.val)
      * (√((∑ e : Fin 64, f t (o + 64 * (l.val / 64) + e.val) * f t (o + 64 * (l.val / 64) + e.val)) / 64 + eps))⁻¹ * G : ℝ) : EReal) := by
  unfold headN
  pointwise
  simp only [hlow, hp, hg, ← EReal.coe_mul, ← EReal.coe_zero]
  simp only [← apply_ite (fun r : ℝ => (r : EReal)), coe_sum]
  simp only [sum_low (fun x : Fin 128 => f t (o + x.val) * f t (o + x.val)), sum_high (fun x : Fin 128 => f t (o + x.val) * f t (o + x.val)),
    rs_real (fun e : Fin 64 => f t (o + e.val)), rs_real (fun e : Fin 64 => f t (o + (64 + e.val)))]
  simp only [← apply_ite (fun r : ℝ => (r : EReal)), ← EReal.coe_mul]
  congr 3
  split_ifs with h
  · rw [show l.val / 64 = 0 by omega]; simp only [Nat.mul_zero, Nat.add_zero]
  · rw [show l.val / 64 = 1 by omega]; simp only [Nat.mul_one, Nat.add_assoc]

/-- The four normalized head pairs of a projection at an element. -/
theorem normT_apply {low : IVec S512x128 1} (hlow : ∀ (t : Fin 512) (l : Fin 128) (a b : EReal), Scalar.select (low (ix2 t l)) a b = if l.val < 64 then a else b)
    {g : FVec Ideal S1x128 .f32} {P : FVec Ideal S512x512 .f32} {f : ℕ → ℕ → ℝ} {G : ℕ → ℝ} (t : Fin 512) (c : Fin 512)
    (hg : ∀ l : Fin 128, g (ix2 0 l) = ((G (l.val % 64) : ℝ) : EReal)) (hp : ∀ c : Fin 512, P (ix2 t c) = ((f t c.val : ℝ) : EReal)) :
    normT low g P (ix2 t c) = ((f t c.val
      * (√((∑ e : Fin 64, f t (64 * (c.val / 64) + e.val) * f t (64 * (c.val / 64) + e.val)) / 64 + eps))⁻¹ * G (c.val % 64) : ℝ) : EReal) := by
  unfold normT
  refine (cat4 (fun k => headN low g (match k with
    | 0 => extractStridedSlice S512x128 ![0, 0] P slices_S512x512_o0_0_S512x128
    | 1 => extractStridedSlice S512x128 ![0, 128] P slices_S512x512_o0_128_S512x128
    | 2 => extractStridedSlice S512x128 ![0, 256] P slices_S512x512_o0_256_S512x128
    | 3 => extractStridedSlice S512x128 ![0, 384] P slices_S512x512_o0_384_S512x128)) _ t c).trans ?_
  refine (headN_apply hlow (f := f) (o := 128 * (c.val / 128)) t ⟨c.val % 128, by omega⟩ (hg _) ?_).trans ?_
  · intro l
    refine Eq.trans ?_ (hp ⟨128 * (c.val / 128) + l.val, by omega⟩)
    have hc : c.val / 128 < 4 := by omega
    generalize hk : (⟨c.val / 128, hc⟩ : Fin 4) = k
    have hk' : c.val / 128 = k.val := congrArg Fin.val hk
    simp only [hk']
    match k with
    | 0 => pointwise
    | 1 => pointwise
    | 2 => pointwise
    | 3 => pointwise
  · rw [show 128 * (c.val / 128) + c.val % 128 = c.val by omega, show c.val % 128 % 64 = c.val % 64 by omega,
      show 128 * (c.val / 128) + 64 * (c.val % 128 / 64) = 64 * (c.val / 64) by omega]

theorem qscale : Named.named (F := Ideal) (φ := .f32) κ "qscale" 1043900987#32 = (((1 / 8 * (Real.log 2)⁻¹ : ℝ)) : EReal) :=
  IdealRules.named_const.ideal_named_scalar (φ := .f32) κ "qscale" 1043900987#32 _ rfl

theorem pay50_apply (h : FVec Ideal S512x1024 .bf16) (w : Vec Ideal S1024x512 .bf16) (t j : Fin 512) :
    k0_pay50 h w (ix2 t j) = ∑ x, h (ix2 t x) * w (ix2 x j) := by pointwise [k0_pay50]

theorem pay68_apply (h : FVec Ideal S512x1024 .bf16) (w : Vec Ideal S1024x512 .bf16) (t j : Fin 512) :
    k0_pay68 h w (ix2 t j) = ∑ x, h (ix2 t x) * w (ix2 x j) := by pointwise [k0_pay68]

theorem pay86_apply (h : FVec Ideal S512x1024 .bf16) (w : Vec Ideal S1024x512 .bf16) (t j : Fin 512) :
    k0_pay86 h w (ix2 t j) = ∑ x, h (ix2 t x) * w (ix2 x j) := by pointwise [k0_pay86]

theorem pay38_apply (h : FVec Ideal S512x1024 .f32) (w : Vec Ideal S1024x512 .bf16) (t j : Fin 512) :
    k0_pay38 h w (ix2 t j) = ∑ x, h (ix2 t x) * w (ix2 x j) := by pointwise [k0_pay38, k0_pay37]

theorem pay92_apply (h : FVec Ideal S512x1024 .bf16) (w : Vec Ideal S1024x256 .bf16) (t : Fin 512) (j : Fin 256) :
    k0_pay92 h w (ix2 t j) = ∑ x, h (ix2 t x) * w (ix2 x j) := by pointwise [k0_pay92]

theorem pay170_apply (h : FVec Ideal S512x512 .bf16) (w : Vec Ideal S512x1024 .bf16) (t : Fin 512) (j : Fin 1024) :
    k0_pay170 h w (ix2 t j) = ∑ x, h (ix2 t x) * w (ix2 x j) := by pointwise [k0_pay170]

theorem pay52_apply (g : Vec Ideal S1x64 .f32) (l : Fin 128) :
    k0_pay52 g (ix2 0 l) = g (ix2 0 ⟨l.val % 64, by omega⟩) * Named.named (F := Ideal) (φ := .f32) κ "qscale" 1043900987#32 := by
  pointwise [k0_pay52]
  by_cases h : l.val < 64
  · rw [dif_pos h]
    simp only [Nat.mod_eq_of_lt h]
  · rw [dif_neg h]
    simp only [show l.val % 64 = l.val - 64 by omega, dite_true]

theorem pay70_apply (g : Vec Ideal S1x64 .f32) (l : Fin 128) : k0_pay70 g (ix2 0 l) = g (ix2 0 ⟨l.val % 64, by omega⟩) := by
  pointwise [k0_pay70]
  by_cases h : l.val < 64
  · rw [dif_pos h]
    simp only [Nat.mod_eq_of_lt h]
  · rw [dif_neg h]
    simp only [show l.val % 64 = l.val - 64 by omega, dite_true]

theorem qT_apply (B : Blk I T0 x0 x1 x2 x3 x4 x5 x7 x11) {h : FVec Ideal S512x1024 .bf16} (H : Hid I T0 h) (t c : Fin 512) :
    qT h x3 x4 (ix2 t c) = ((1 / 8 * (Real.log 2)⁻¹ * qn I (T0 + t) (c.val / 64) (c.val % 64) : ℝ) : EReal) := by
  unfold qT
  rw [normT_apply low_q (f := fun t c => z I (T0 + t) c) (G := fun e => I.qg e * (1 / 8 * (Real.log 2)⁻¹)) t c]
  · congr 1
    rw [qn, rs, show 64 * (c.val / 64) + c.val % 64 = c.val by omega]
    simp only [Nat.zero_add]
    ring
  · intro l
    rw [pay52_apply, ld2 x4 0 0 inb_S1x64_S1x64_0_0 0 _ 0 _ (by simp) (Nat.zero_add _).symm, B.qg, qscale, ← EReal.coe_mul]
  · intro c
    rw [pay50_apply, proj B H 0 inb_S1024x4096_S1024x512_0_0 t c, Nat.zero_add]

theorem kT_apply (B : Blk I T0 x0 x1 x2 x3 x4 x5 x7 x11) {h : FVec Ideal S512x1024 .bf16} (H : Hid I T0 h) (t c : Fin 512) :
    kT h x3 x5 (ix2 t c) = ((kn I (T0 + t) (c.val / 64) (c.val % 64) : ℝ) : EReal) := by
  unfold kT
  rw [shapeCast_self, normT_apply low_k (f := fun t c => z I (T0 + t) (512 + c)) (G := fun e => I.kg e) t c]
  · congr 1
    rw [kn, rs, show 512 + 64 * (c.val / 64) + c.val % 64 = 512 + c.val by omega]
    simp only [Nat.add_assoc]
  · intro l
    rw [pay70_apply, ld2 x5 0 0 inb_S1x64_S1x64_0_0 0 _ 0 _ (by simp) (Nat.zero_add _).symm, B.kg]
  · intro c
    rw [pay68_apply, proj B H 512 inb_S1024x4096_S1024x512_0_512 t c]

end Cert.KernelIdeal.Value
-- ==== Proof.MixAtt.lean ====
/-
  The token-mixing kernel's attention at an element: the scores of a block of 128 queries, the bias table's loads, and
  the sixteen blocks of a tile, each the attention of its queries.
-/
module

public import proofs.«01_k».proof.Proof.MixElem

@[expose] public section

noncomputable section

namespace Cert.KernelIdeal.Value

open Cert.KernelIdeal Cert.KernelIdeal.Gen Idealize.ShloMosaic Cert.Layer Cert.Layer.Mix

/-- The stacked scores of two blocks of queries at an element, one head's lanes at a time. -/
theorem scoreT_apply {q0 q1 : FVec Ideal S128x128 .bf16} {K : Vec Ideal S768x128 .bf16} {f : ℕ → ℕ → ℕ → ℝ} {g : ℕ → ℕ → ℝ}
    (h0 : ∀ r l : Fin 128, q0 (ix2 r l) = ((f 0 r l : ℝ) : EReal)) (h1 : ∀ r l : Fin 128, q1 (ix2 r l) = ((f 1 r l : ℝ) : EReal))
    (hK : ∀ (j : Fin 768) (l : Fin 128), K (ix2 j l) = ((g j l : ℝ) : EReal)) (R : Fin 512) (j : Fin 768) :
    scoreT k0_pay91 q0 q1 K (ix2 R j)
      = ((∑ e : Fin 64, f (R / 256) (R % 128) (64 * (R / 128 % 2) + e) * g j (64 * (R / 128 % 2) + e) : ℝ) : EReal) := by
  unfold scoreT
  generalize hC : concatenate (α := Ideal .bf16) S512x128 0 _ _ = C
  have hl : ∀ l : Fin 128, C (ix2 R l) = (((if R.val / 128 % 2 = 0 then (if l.val < 64 then f (R / 256) (R % 128) l else 0)
      else (if l.val < 64 then 0 else f (R / 256) (R % 128) l) : ℝ)) : EReal) := by
    intro l
    rw [← hC]
    refine (cat4r (fun k => match k with
      | 0 => select k0_pay91 q0 (broadcast S128x128 (FloatOps.ofBits (F := Ideal) FTy.bf16 0#16))
      | 1 => select k0_pay91 (broadcast S128x128 (FloatOps.ofBits (F := Ideal) FTy.bf16 0#16)) q0
      | 2 => select k0_pay91 q1 (broadcast S128x128 (FloatOps.ofBits (F := Ideal) FTy.bf16 0#16))
      | 3 => select k0_pay91 (broadcast S128x128 (FloatOps.ofBits (F := Ideal) FTy.bf16 0#16)) q1) _ R l).trans ?_
    have hc : R.val / 128 < 4 := by omega
    generalize hk : (⟨R.val / 128, hc⟩ : Fin 4) = k
    have hk' : R.val / 128 = k.val := congrArg Fin.val hk
    rw [show R.val / 256 = R.val / 128 / 2 by omega]
    simp only [hk']
    have w : ∀ r : Fin 128, ∀ a b : EReal, Scalar.select (k0_pay91 (ix2 r l)) a b = if l.val < 64 then a else b := fun r a b => low_s r l a b
    match k with
    | 0 => pointwise; rw [w]; simp only [h0]; split_ifs <;> simp_all
    | 1 => pointwise; rw [w]; simp only [h0]; split_ifs <;> simp_all
    | 2 => pointwise; rw [w]; simp only [h1]; split_ifs <;> simp_all
    | 3 => pointwise; rw [w]; simp only [h1]; split_ifs <;> simp_all
  pointwise
  simp only [hl, hK, ← EReal.coe_mul, coe_sum]
  congr 1
  have hb : R.val / 128 % 2 = 0 ∨ R.val / 128 % 2 = 1 := by omega
  rcases hb with hb | hb
  · simp only [hb, if_true, ite_mul, zero_mul, Nat.mul_zero, Nat.zero_add]
    exact sum_low fun l => f (R / 256) (R % 128) l * g j l
  · simp only [hb, one_ne_zero, if_false, ite_mul, zero_mul, Nat.mul_one]
    exact sum_high fun l => f (R / 256) (R % 128) l * g j l

/-- One block of 128 queries and one head pair at an element. -/
theorem attBlk_apply {s b : FVec Ideal S256x640 .f32} {v : Vec Ideal S640x256 .bf16} {vv : ℕ → ℕ → ℝ} {S E : ℕ → ℕ → ℝ}
    {ok : ℕ → ℕ → Prop} [∀ r j, Decidable (ok r j)]
    (hs : ∀ (R : Fin 256) (j : Fin 640), s (ix2 R j) = ((S R j : ℝ) : EReal))
    (hb : ∀ (R : Fin 256) (j : Fin 640), b (ix2 R j) = if ok (R % 128) j then (((Real.log 2)⁻¹ * E R j - S R j : ℝ) : EReal) else ⊥)
    (hv : ∀ (j : Fin 640) (l : Fin 256), v (ix2 j l) = ((vv j l : ℝ) : EReal))
    (r l : Fin 128) (j₀ : Fin 640) (h₀ : ok r j₀) (ho : ∀ j : Fin 640, ok r j → ∀ l : Fin 128, vv j (128 + l) = 1) :
    attBlk k0_pay91 s b v (ix2 r l)
      = (((∑ j : Fin 640, if ok r j then Real.exp (E (128 * (l / 64) + r) j) * vv j l else 0)
          / (∑ j : Fin 640, if ok r j then Real.exp (E (128 * (l / 64) + r) j) else 0) : ℝ) : EReal) := by
  unfold attBlk
  rw [shapeCast_self]
  pointwise
  rw [low_s, ofBits_negInf]
  have key : ∀ R : Fin 256, R.val % 128 = r.val → ∀ (i i' : Fin 256), i'.val = 128 + l.val → i.val = l.val →
      Ideal.div (∑ x, Ideal.exp2 ((s (ix2 R x) + b (ix2 R x)) - Finset.fold max (⊥ : EReal) (fun y => s (ix2 R y) + b (ix2 R y)) Finset.univ) * v (ix2 x i))
        (∑ x, Ideal.exp2 ((s (ix2 R x) + b (ix2 R x)) - Finset.fold max (⊥ : EReal) (fun y => s (ix2 R y) + b (ix2 R y)) Finset.univ) * v (ix2 x i'))
      = (((∑ j : Fin 640, if ok r j then Real.exp (E R j) * vv j l else 0) / (∑ j : Fin 640, if ok r j then Real.exp (E R j) else 0) : ℝ) : EReal) := by
    intro R hR i i' hi' hi
    simp only [hv, hi, hi']
    refine softmax2 (fun j : Fin 640 => ok r j) (fun j => E R j) (fun j => vv j l) (fun j => vv j (128 + l))
      (fun x => s (ix2 R x) + b (ix2 R x)) ?_ (fun j hj => ho j hj l) j₀ h₀
    intro j
    rw [hs, hb, hR]
    split_ifs
    · rw [← EReal.coe_add]; congr 1; ring
    · rfl
  split_ifs with h
  · refine (key ⟨r.val, by omega⟩ (by simp only []; omega) ⟨l.val, by omega⟩ ⟨128 + l.val, by omega⟩ rfl rfl).trans ?_
    simp only [show l.val / 64 = 0 by omega, Nat.mul_zero, Nat.zero_add]
  · refine (key ⟨128 + r.val, by omega⟩ (by simp only []; omega) ⟨l.val, by omega⟩ ⟨128 + l.val, by omega⟩ rfl rfl).trans ?_
    simp only [show l.val / 64 = 1 by omega, Nat.mul_one]

/-- The scores of half a tile at an element. -/
theorem scoreU_apply {q : FVec Ideal S512x512 .bf16} {Kw : Vec Ideal S1024x512 .bf16} {f g : ℕ → ℕ → ℝ}
    (hq : ∀ t c : Fin 512, q (ix2 t c) = ((f t c : ℝ) : EReal)) (hK : ∀ (j : Fin 1024) (c : Fin 512), Kw (ix2 j c) = ((g j c : ℝ) : EReal))
    (r c r' : ℕ) (hr : r' = r + 128) (h0 : S512x512.Slices ![r, c] S128x128)
    (h1 : S512x512.Slices ![r', c] S128x128) (inb : ∀ a, ![r, c] a + S768x128.size a ≤ S1024x512.size a) (R : Fin 512) (j : Fin 768) :
    scoreU q Kw r c r' h0 h1 inb (ix2 R j)
      = ((∑ e : Fin 64, f (r + 128 * (R / 256) + R % 128) (c + (64 * (R / 128 % 2) + e)) * g (r + j) (c + (64 * (R / 128 % 2) + e)) : ℝ) : EReal) := by
  subst hr
  have b0 : r + 128 + 128 ≤ 512 := h1.2 0
  have b1 : c + 128 ≤ 512 := h1.2 1
  have b2 : r + 768 ≤ 1024 := inb 0
  unfold scoreU
  refine (scoreT_apply (f := fun k x l => f (r + 128 * k + x) (c + l)) (g := fun j l => g (r + j) (c + l)) ?_ ?_ ?_ R j).trans rfl
  · intro x l
    refine Eq.trans ?_ (hq ⟨r + 128 * 0 + x.val, by omega⟩ ⟨c + l.val, by omega⟩)
    pointwise
  · intro x l
    refine Eq.trans ?_ (hq ⟨r + 128 * 1 + x.val, by omega⟩ ⟨c + l.val, by omega⟩)
    pointwise
  · intro j l
    rw [ld2 Kw r c inb j l ⟨r + j.val, by omega⟩ ⟨c + l.val, by omega⟩ rfl rfl, hK]

/-- Five pieces of 128 columns side by side. -/
theorem bias5_apply (b : Fin 5 → Vec Ideal S1x256x128 .f32) (R : Fin 256) (j : Fin 640) :
    bias5 (b 0) (b 1) (b 2) (b 3) (b 4) (ix2 R j) = b ⟨j.val / 128, by omega⟩ (ix3 0 R ⟨j.val % 128, by omega⟩) := by
  unfold bias5
  have e : ∀ k : Fin 5, ∀ (l : Fin 128), shapeCast S256x128 (b k) shapeCasts_S1x256x128_S256x128 (ix2 R l) = b k (ix3 0 R l) := by
    intro k l; pointwise
  refine Eq.trans ?_ (e ⟨j.val / 128, by omega⟩ ⟨j.val % 128, by omega⟩)
  refine concatenate_ofFn_apply (t := S256x640) (s₁ := S256x128) 1 (fun k : Fin 5 => shapeCast S256x128 (b k) shapeCasts_S1x256x128_S256x128) _ rfl 128 rfl
    (ix2 R j) ⟨j.val / 128, by omega⟩ rfl (ix2 R ⟨j.val % 128, by omega⟩) rfl ?_
  intro b hb
  match b with
  | ⟨0, _⟩ => rfl
  | ⟨1, _⟩ => exact absurd rfl hb

/-- The keys a query of the block's row `r` may see: its chunk of 64 and the eight before it, of the window of 640. -/
def band (r j : ℕ) : Prop := 64 * (r / 64) ≤ j ∧ j < 64 * (r / 64) + 576

instance (r j : ℕ) : Decidable (band r j) := inferInstanceAs (Decidable (_ ∧ _))

/-- The bias table: two heads of 128 rows for every head pair, in base-two units, and four masked pairs after them. -/
def BiasTab (I : Inp) (Bt : Vec Ideal S8x256x640 .f32) : Prop := ∀ (p : Fin 8) (R : Fin 256) (j : Fin 640),
  Bt (ix3 p R j) = if p.val < 4 ∧ band (R % 128) j then (((Real.log 2)⁻¹ * I.rb (2 * p + R / 128) (min (640 + R % 128 - j) 256) : ℝ) : EReal) else ⊥

/-- The bias a block reads: the table within the band, masked before the sequence's first row. -/
def tb (I : Inp) (i rb p R j : ℕ) : EReal :=
  if band (R % 128) j ∧ 512 ≤ 512 * i + 128 * rb + j then (((Real.log 2)⁻¹ * I.rb (2 * p + R / 128) (min (640 + R % 128 - j) 256) : ℝ) : EReal) else ⊥

theorem ld_bias {I : Inp} {Bt : Vec Ideal S8x256x640 .f32} (HB : BiasTab I Bt) {i rb p k : ℕ} (hp : p < 4) (o : Fin 3 → ℕ) (inb)
    (h0 : o 0 = p + if i = 0 ∧ k + rb < 4 then 4 else 0) (h1 : o 1 = 0) (h2 : o 2 = 128 * k) (hk : k < 5) (R : Fin 256) (l : Fin 128) :
    View.ld Bt (Rect.unit (s := S8x256x640) o S1x256x128.size inb) (ix3 0 R l) = tb I i rb p R (128 * k + l) := by
  have b0 : p + (if i = 0 ∧ k + rb < 4 then 4 else 0) < 8 := by split_ifs <;> omega
  refine (ld3 Bt o inb 0 R l ⟨p + (if i = 0 ∧ k + rb < 4 then 4 else 0), b0⟩ ⟨R.val, R.isLt⟩ ⟨128 * k + l.val, by omega⟩ ?_ ?_ ?_).trans ?_
  · simp only [h0, Fin.val_zero, Nat.add_zero]
  · simp only [h1, Nat.zero_add]
  · simp only [h2]
  rw [HB, tb]
  by_cases hc : i = 0 ∧ k + rb < 4
  · simp only [if_pos hc]
    rw [if_neg (by omega), if_neg (by omega)]
  · simp only [if_neg hc]
    have : 512 ≤ 512 * i + 128 * rb + (128 * k + l.val) := by omega
    simp only [Nat.add_zero, hp, this, true_and, and_true]

theorem off_val : ∀ (a : Fin 16) (p : Fin 4), (Scalar.indexCast (Scalar.addi (Scalar.muli (Scalar.extui (Scalar.cmpi .eq (BitVec.ofNat 32 a.val) 0#32)) 4#32)
    (BitVec.ofNat 32 p.val)) : BitVec 32).toNat = p.val + if a.val = 0 then 4 else 0 := by decide +kernel

/-- The keys in their window of 1024 rows: the tile before this one, then this one. -/
def KWin (I : Inp) (i : ℕ) (Kw : Vec Ideal S1024x512 .bf16) : Prop := ∀ (j : Fin 1024) (c : Fin 512),
  Kw (ix2 j c) = (((if 512 ≤ 512 * i + j.val then kn I (512 * i + j - 512) (c / 64) (c % 64) else 0) : ℝ) : EReal)

/-- The values in their window, every head pair's 128 lanes followed by 128 lanes of one. -/
def VWin (I : Inp) (i : ℕ) (Vw : Vec Ideal S1024x1024 .bf16) : Prop := ∀ (j c : Fin 1024),
  Vw (ix2 j c) = (((if 512 ≤ 512 * i + j.val then (if c.val % 256 < 128 then z I (512 * i + j - 512) (1024 + (128 * (c / 256) + c % 256)) else 1) else 0) : ℝ) : EReal)

/-- The normalized queries of a tile, in base-two units. -/
def QTile (I : Inp) (i : ℕ) (q : FVec Ideal S512x512 .bf16) : Prop := ∀ t c : Fin 512,
  q (ix2 t c) = ((1 / 8 * (Real.log 2)⁻¹ * qn I (512 * i + t) (c / 64) (c % 64) : ℝ) : EReal)

theorem piece_apply {I : Inp} {i rb p : ℕ} (hrb : rb < 4) (hp : p < 4) {q : FVec Ideal S512x512 .bf16}
    {Kw : Vec Ideal S1024x512 .bf16} {Vw : Vec Ideal S1024x1024 .bf16} (hq : QTile I i q) (hK : KWin I i Kw) (hV : VWin I i Vw)
    {b0 b1 b2 b3 b4 : Vec Ideal S1x256x128 .f32} (hb0 : ∀ (R : Fin 256) (l : Fin 128), b0 (ix3 0 R l) = tb I i rb p R (128 * 0 + l))
    (hb1 : ∀ (R : Fin 256) (l : Fin 128), b1 (ix3 0 R l) = tb I i rb p R (128 * 1 + l))
    (hb2 : ∀ (R : Fin 256) (l : Fin 128), b2 (ix3 0 R l) = tb I i rb p R (128 * 2 + l))
    (hb3 : ∀ (R : Fin 256) (l : Fin 128), b3 (ix3 0 R l) = tb I i rb p R (128 * 3 + l))
    (hb4 : ∀ (R : Fin 256) (l : Fin 128), b4 (ix3 0 R l) = tb I i rb p R (128 * 4 + l))
    {r c r' a b' rv cv : ℕ} (hr : r = 256 * (rb / 2)) (hr' : r' = r + 128) (hc : c = 128 * p) (ha : a = 256 * (rb % 2)) (hb' : b' = 128 * (rb % 2))
    (hrv : rv = 128 * rb) (hcv : cv = 256 * p) (h0 : S512x512.Slices ![r, c] S128x128)
    (h1 : S512x512.Slices ![r', c] S128x128) (inb : ∀ k, ![r, c] k + S768x128.size k ≤ S1024x512.size k)
    (hs : S512x768.Slices ![a, b'] S256x640) (inbv : ∀ k, ![rv, cv] k + S640x256.size k ≤ S1024x1024.size k) (x y : Fin 128) :
    attBlk k0_pay91 (extractStridedSlice S256x640 ![a, b'] (scoreU q Kw r c r' h0 h1 inb) hs) (bias5 b0 b1 b2 b3 b4)
        (View.ld Vw (Rect.unit (s := S1024x1024) ![rv, cv] S640x256.size inbv)) (ix2 x y)
      = ((att I (512 * i + (128 * rb + x)) (2 * p + y / 64) (y % 64) : ℝ) : EReal) := by
  have hS : ∀ (R : Fin 256) (j : Fin 640), extractStridedSlice S256x640 ![a, b'] (scoreU q Kw r c r' h0 h1 inb) hs (ix2 R j)
      = ((∑ e : Fin 64, 1 / 8 * (Real.log 2)⁻¹ * qn I (512 * i + (128 * rb + R % 128)) (2 * p + R / 128) e
          * (if 512 ≤ 512 * i + 128 * rb + j.val then kn I (512 * i + 128 * rb + j - 512) (2 * p + R / 128) e else 0) : ℝ) : EReal) := by
    intro R j
    have e := scoreU_apply (f := fun t c => 1 / 8 * (Real.log 2)⁻¹ * qn I (512 * i + t) (c / 64) (c % 64))
      (g := fun j c => if 512 ≤ 512 * i + j then kn I (512 * i + j - 512) (c / 64) (c % 64) else 0) hq hK r c r' hr' h0 h1 inb
      ⟨a + R.val, by omega⟩ ⟨b' + j.val, by omega⟩
    generalize scoreU q Kw r c r' h0 h1 inb = u at e
    refine Eq.trans ?_ (e.trans ?_)
    · pointwise
    · subst hr hc ha hb'
      congr 1
      refine Finset.sum_congr rfl fun e _ => ?_
      simp only [show 256 * (rb / 2) + 128 * ((256 * (rb % 2) + R.val) / 256) + (256 * (rb % 2) + R.val) % 128 = 128 * rb + R.val % 128 by omega,
        show (128 * p + (64 * ((256 * (rb % 2) + R.val) / 128 % 2) + e.val)) / 64 = 2 * p + R.val / 128 by omega,
        show (128 * p + (64 * ((256 * (rb % 2) + R.val) / 128 % 2) + e.val)) % 64 = e.val by omega,
        show 512 * i + (256 * (rb / 2) + (128 * (rb % 2) + j.val)) = 512 * i + 128 * rb + j.val by omega]
  rw [attBlk_apply (ok := fun r j => band r j ∧ 512 ≤ 512 * i + 128 * rb + j)
    (E := fun R j => score I (512 * i + (128 * rb + R % 128)) (512 * i + 128 * rb + j - 512) (2 * p + R / 128))
    (vv := fun j c => if 512 ≤ 512 * i + 128 * rb + j then (if c % 256 < 128 then z I (512 * i + 128 * rb + j - 512) (1024 + (128 * p + c % 256)) else 1) else 0)
    (S := fun R j => ∑ e : Fin 64, 1 / 8 * (Real.log 2)⁻¹ * qn I (512 * i + (128 * rb + R % 128)) (2 * p + R / 128) e
          * (if 512 ≤ 512 * i + 128 * rb + j then kn I (512 * i + 128 * rb + j - 512) (2 * p + R / 128) e else 0))
    hS ?_ ?_ x y ⟨512 + x.val, by omega⟩ ?_ ?_]
  · -- the window of the block at the query's chunk is the band
    rw [att]
    have e64 : 64 * ((512 * i + (128 * rb + x.val)) / 64) = 512 * i + 128 * rb + 64 * (x.val / 64) := by omega
    have ey : (128 * (y.val / 64) + x.val) / 128 = y.val / 64 := by omega
    have ex : (128 * (y.val / 64) + x.val) % 128 = x.val := by omega
    have eb : ∀ F : ℕ → ℝ, (∑ j : Fin 640, if band x j ∧ 512 ≤ 512 * i + 128 * rb + j.val then F (512 * i + 128 * rb + j - 512) else 0)
        = ∑ j : Fin 576, if 512 ≤ 64 * ((512 * i + (128 * rb + x.val)) / 64) + j.val then F (64 * ((512 * i + (128 * rb + x.val)) / 64) + j - 512) else 0 := by
      intro F
      have := sum_band (x.val / 64) (by omega) (fun j => if 512 ≤ 512 * i + 128 * rb + j then F (512 * i + 128 * rb + j - 512) else 0)
      simp only [e64, Nat.add_assoc] at this ⊢
      rw [← this]
      refine Finset.sum_congr rfl fun j _ => ?_
      rw [ite_and]; rfl
    rw [← eb fun s => Real.exp (score I (512 * i + (128 * rb + x.val)) s (2 * p + y / 64)) * z I s (1024 + 64 * (2 * p + y / 64) + y % 64),
      ← eb fun s => Real.exp (score I (512 * i + (128 * rb + x.val)) s (2 * p + y / 64))]
    simp only [ex, ey]
    congr 2
    refine Finset.sum_congr rfl fun j _ => ?_
    split_ifs with h1 h2 h3
    · rw [show 1024 + (128 * p + y.val % 256) = 1024 + 64 * (2 * p + y.val / 64) + y.val % 64 by omega]
    · omega
    · exact absurd h1.2 h2
    · rfl
  · intro R j
    refine (bias5_apply (fun k => match k with | 0 => b0 | 1 => b1 | 2 => b2 | 3 => b3 | 4 => b4) R j).trans ?_
    have hb : ∀ (k : Fin 5) (R : Fin 256) (l : Fin 128),
        (match (motive := Fin 5 → Vec Ideal S1x256x128 .f32) k with | 0 => b0 | 1 => b1 | 2 => b2 | 3 => b3 | 4 => b4) (ix3 0 R l) = tb I i rb p R (128 * k + l) := by
      intro k
      match k with
      | 0 => exact hb0
      | 1 => exact hb1
      | 2 => exact hb2
      | 3 => exact hb3
      | 4 => exact hb4
    rw [hb, tb]
    simp only [show 128 * (j.val / 128) + j.val % 128 = j.val by omega, Nat.mod_mod]
    by_cases h : band (R.val % 128) j.val ∧ 512 ≤ 512 * i + 128 * rb + j.val
    · rw [if_pos h, if_pos h]
      congr 1
      rw [score, show 512 * i + (128 * rb + R.val % 128) + 128 - (512 * i + 128 * rb + j.val - 512) = 640 + R.val % 128 - j.val by
        have := h.1.2; omega]
      simp only [h.2, if_true]
      rw [mul_add, Finset.sum_div, Finset.mul_sum, eq_sub_iff_add_eq, add_comm]
      refine congrArg₂ (· + ·) (Finset.sum_congr rfl fun e _ => ?_) rfl
      ring
    · rw [if_neg h, if_neg h]
  · intro j l
    rw [ld2 Vw rv cv inbv j l ⟨128 * rb + j.val, by omega⟩ ⟨256 * p + l.val, by omega⟩ (by simp only [hrv]) (by simp only [hcv]), hV]
    simp only [← Nat.add_assoc, show (256 * p + l.val) % 256 = l.val % 256 by omega, show (256 * p + l.val) / 256 = p by omega]
  · refine ⟨⟨by simp only []; omega, by simp only []; omega⟩, by simp only []; omega⟩
  · intro j hj l
    simp only [hj.2, if_true]
    rw [if_neg (by omega)]

theorem off_dyn {n P i k rb : ℕ} (p : Fin 4) (h : n = p.val + if i = 0 then 4 else 0) (hP : P = p.val) (hk : k + rb < 4) :
    n = P + if i = 0 ∧ k + rb < 4 then 4 else 0 := by
  rw [h, hP]; simp only [hk, and_true]

theorem off_stat {n P i k rb : ℕ} (h : n = P) (hk : 4 ≤ k + rb) : n = P + if i = 0 ∧ k + rb < 4 then 4 else 0 := by
  rw [if_neg (by omega), h]; rfl

/-- The attention of a tile at an element. -/
theorem aL_apply {I : Inp} {i : grid0.Coords} {q : FVec Ideal S512x512 .bf16}
    {Kw : Vec Ideal S1024x512 .bf16} {Vw : Vec Ideal S1024x1024 .bf16} {Bt : Vec Ideal S8x256x640 .f32}
    (hq : QTile I (i 1).val q) (hK : KWin I (i 1).val Kw) (hV : VWin I (i 1).val Vw) (HB : BiasTab I Bt) (t c : Fin 512) :
    View.canon (aL i q Kw Vw Bt) (ix2 t c) = ((att I (512 * (i 1).val + t) (c / 64) (c % 64) : ℝ) : EReal) := by
  have hi : (i 1).val < 16 := (i 1).isLt
  have dyn : ∀ (p : Fin 4), _ := fun p => off_val ⟨(i 1).val, hi⟩ p
  have hrb : t.val / 128 < 4 := by omega
  have hp : c.val / 128 < 4 := by omega
  unfold aL bl
  canon_tiles x h
  all_goals
    obtain ⟨x, y, rfl⟩ : ∃ a b : Fin 128, x = ix2 a b := ⟨x 0, x 1, (ix2_eta x).symm⟩
    have ex : ((ix2 x y : S128x128.Idx) 0).val = x.val := rfl
    have ey : ((ix2 x y : S128x128.Idx) 1).val = y.val := rfl
    change t.val = _ at h0
    change c.val = _ at h1
    refine (piece_apply (rb := t.val / 128) (p := c.val / 128) hrb hp hq hK hV ?_ ?_ ?_ ?_ ?_
      (by omega) (by omega) (by omega) (by omega) (by omega) (by omega) (by omega) _ _ _ _ _ x y).trans ?_
    all_goals first
      | (intro R l
         refine ld_bias HB hp _ _ ?_ rfl rfl (by omega) R l
         first
         | exact off_stat (by show (_ : ℕ) = c.val / 128; simp; omega) (by omega)
         | exact off_dyn 0 (dyn 0) (by show c.val / 128 = 0; omega) (by omega)
         | exact off_dyn 1 (dyn 1) (by show c.val / 128 = 1; omega) (by omega)
         | exact off_dyn 2 (dyn 2) (by show c.val / 128 = 2; omega) (by omega)
         | exact off_dyn 3 (dyn 3) (by show c.val / 128 = 3; omega) (by omega))
      | (rw [show 128 * (t.val / 128) + x.val = t.val by omega, show 2 * (c.val / 128) + y.val / 64 = c.val / 64 by omega,
           show y.val % 64 = c.val % 64 by omega])

end Cert.KernelIdeal.Value
-- ==== Proof.MixPool.lean ====
/-
  The token-mixing kernel's pooled rows at an element: sums over windows of two, four, eight and sixteen rows by
  doubling, each over the number of rows there are, less the row itself.
-/
module

public import proofs.«01_k».proof.Proof.MixElem

@[expose] public section

noncomputable section

namespace Cert.KernelIdeal.Value

open Cert.KernelIdeal Cert.KernelIdeal.Gen Idealize.ShloMosaic Cert.Layer Cert.Layer.Mix

/-- The sum of the `n` rows ending at row `j`. -/
def win (u : ℕ → ℝ) (n j : ℕ) : ℝ := ∑ d ∈ Finset.range n, u (j - d)

theorem win_double (u : ℕ → ℝ) (n j : ℕ) : win u n j + win u n (j - n) = win u (2 * n) j := by
  rw [win, win, win, two_mul, Finset.sum_range_add]
  congr 1
  refine Finset.sum_congr rfl fun d _ => ?_
  rw [Nat.sub_sub]

variable {v : Vec Ideal S528x512 .f32} {u : ℕ → ℕ → ℝ}

theorem pay41_apply (hv : ∀ (j : Fin 528) (c : Fin 512), v (ix2 j c) = ((u c j : ℝ) : EReal)) (j : Fin 528) (hj : 1 ≤ j.val) (c : Fin 512) :
    k0_pay41 v (ix2 j c) = ((win (u c) 2 j : ℝ) : EReal) := by
  pointwise [k0_pay41]
  rw [hv, hv, ← EReal.coe_add]
  congr 1
  rw [← win_double (u c) 1, show win (u c) 1 j = u c j by simp [win]]
  simp only [win, Finset.range_one, Finset.sum_singleton, Nat.sub_zero]
  rw [show (j.val + 528 - 1) % 528 = j.val - 1 by omega]

theorem pay43_apply (hv : ∀ (j : Fin 528) (c : Fin 512), v (ix2 j c) = ((u c j : ℝ) : EReal)) (j : Fin 528) (hj : 3 ≤ j.val) (c : Fin 384) :
    k0_pay43 v (ix2 j c) = ((win (u (128 + c)) 4 j : ℝ) : EReal) := by
  have e := fun j hj c => pay41_apply hv j hj c
  unfold k0_pay43
  generalize k0_pay41 v = a at e
  pointwise
  rw [e _ (by omega), e _ (by simp only []; omega), ← EReal.coe_add, ← win_double (u (128 + c)) 2]
  simp only [show (j.val + 528 - 2) % 528 = j.val - 2 by omega]

theorem pay45_apply (hv : ∀ (j : Fin 528) (c : Fin 512), v (ix2 j c) = ((u c j : ℝ) : EReal)) (j : Fin 528) (hj : 7 ≤ j.val) (c : Fin 256) :
    k0_pay45 v (ix2 j c) = ((win (u (256 + c)) 8 j : ℝ) : EReal) := by
  have e := fun j hj c => pay43_apply hv j hj c
  unfold k0_pay45
  generalize k0_pay43 v = a at e
  pointwise
  rw [e _ (by omega), e _ (by simp only []; omega), ← EReal.coe_add]
  simp only [show (j.val + 528 - 4) % 528 = j.val - 4 by omega, show 128 + (128 + c.val) = 256 + c.val by omega]
  rw [win_double]

theorem cnt (i t W : ℕ) (hi : i < 16) (ht : t < 512) (hW : W ≤ 16) :
    FloatOps.sitofp (F := Ideal) FTy.f32
        (IntOp.minsi (IntOp.addi (IntOp.addi (Scalar.muli (BitVec.ofNat 32 i) 512#32) (BitVec.ofNat 32 t)) 1#32) (BitVec.ofNat 32 W))
      = (((min (512 * i + t + 1) W : ℕ) : ℝ) : EReal) := by
  have e : IntOp.addi (IntOp.addi (Scalar.muli (BitVec.ofNat 32 i) 512#32) (BitVec.ofNat 32 t)) 1#32 = BitVec.ofNat 32 (512 * i + t + 1) := by
    rw [show 512 * i + t + 1 = i * 512 + t + 1 by omega, BitVec.ofNat_add, BitVec.ofNat_add, BitVec.ofNat_mul]; rfl
  have n : ∀ k : ℕ, k < 100000 → (BitVec.ofNat 32 k).toInt = (k : ℤ) := by
    intro k hk
    have h2 : (BitVec.ofNat 32 k).toNat = k := by rw [BitVec.toNat_ofNat]; exact Nat.mod_eq_of_lt (by omega)
    rw [BitVec.toInt_eq_toNat_of_lt (by rw [h2]; omega), h2]
  rw [e, IntOp.minsi]
  show (((ite _ _ _ : BitVec 32).toInt : ℝ) : EReal) = _
  simp only [BitVec.slt, n _ (show 512 * i + t + 1 < 100000 by omega), n W (by omega), decide_eq_true_eq]
  congr 1
  split_ifs with h
  · rw [n _ (by omega), min_eq_left (by omega)]; rfl
  · rw [n _ (by omega), min_eq_right (by omega)]; rfl

/-- One group's pooled element. -/
theorem group_real (a z : ℝ) {n : ℕ} (hn : 0 < n) :
    Ideal.div ((a : ℝ) : EReal) (((n : ℕ) : ℝ) : EReal) - ((z : ℝ) : EReal) = ((a / (n : ℕ) - z : ℝ) : EReal) := by
  rw [div_real _ (by exact_mod_cast hn.ne'), ← EReal.coe_sub]

/-- The pooled rows of a tile at an element. -/
theorem poolT_apply {I : Inp} {i : ℕ} (hi : i < 16) {h : FVec Ideal S512x1024 .f32} {w : Vec Ideal S1024x512 .bf16}
    (hp : ∀ t c : Fin 512, k0_pay38 h w (ix2 t c) = ((z I (512 * i + t) (1536 + c) : ℝ) : EReal))
    (hv : ∀ (j : Fin 528) (c : Fin 512), v (ix2 j c) = (((if 16 ≤ 512 * i + j.val then z I (512 * i + j - 16) (1536 + c) else 0) : ℝ) : EReal))
    (t c : Fin 512) : poolT (BitVec.ofNat 32 i) h w v (ix2 t c) = ((pool I (512 * i + t) c : ℝ) : EReal) := by
  set u : ℕ → ℕ → ℝ := fun c j => if 16 ≤ 512 * i + j then z I (512 * i + j - 16) (1536 + c) else 0 with hu
  have hv' : ∀ (j : Fin 528) (c : Fin 512), v (ix2 j c) = ((u c j : ℝ) : EReal) := hv
  have key : ∀ (k : ℕ) (hk : k < 4) (l : ℕ), l < 128 → c.val = 128 * k + l →
      ((win (u c) (2 ^ (k + 1)) (16 + t) / (min (512 * i + t + 1) (2 ^ (k + 1)) : ℕ) - z I (512 * i + t) (1536 + c) : ℝ) : EReal)
        = ((pool I (512 * i + t) c : ℝ) : EReal) := by
    intro k hk l hl hc
    rw [Cert.Layer.Mix.pool, show c.val / 128 = k by omega]
    congr 3
    refine Finset.sum_congr rfl fun d hd => ?_
    have hd := Finset.mem_range.mp hd
    have : 2 ^ (k + 1) ≤ 16 := by interval_cases k <;> norm_num
    simp only [hu]
    by_cases h : d ≤ 512 * i + t
    · rw [if_pos h, if_pos (by omega), show 512 * i + (16 + t.val - d) - 16 = 512 * i + t.val - d by omega]
    · rw [if_neg h, if_neg (by omega)]
  have e41 := fun j hj c => pay41_apply hv' j hj c
  have e43 := fun j hj c => pay43_apply hv' j hj c
  have e45 := fun j hj c => pay45_apply hv' j hj c
  unfold poolT k0_pay48
  refine (cat4 (fun k => match k with
    | 0 => k0_pay42 (BitVec.ofNat 32 i) h w v
    | 1 => k0_pay44 (BitVec.ofNat 32 i) h w v
    | 2 => _
    | 3 => _) _ t c).trans ?_
  have hc : c.val / 128 < 4 := by omega
  generalize hk : (⟨c.val / 128, hc⟩ : Fin 4) = k
  have hk' : c.val / 128 = k.val := congrArg Fin.val hk
  have hcc : c.val = 128 * k.val + c.val % 128 := by omega
  rw [← key k.val k.isLt (c.val % 128) (by omega) hcc]
  match k with
  | 0 =>
    show k0_pay42 (BitVec.ofNat 32 i) h w v (ix2 t ⟨c.val % 128, _⟩) = _
    unfold k0_pay42
    generalize k0_pay41 v = a at e41
    generalize k0_pay38 h w = P at hp
    pointwise [k0_pay40]
    rw [e41 _ (by simp only []; omega), hp, cnt i t 2 hi t.isLt (by norm_num), group_real _ _ (by omega)]
    simp only [show c.val % 128 = c.val by have : c.val = 128 * 0 + c.val % 128 := hcc; omega]
    rfl
  | 1 =>
    show k0_pay44 (BitVec.ofNat 32 i) h w v (ix2 t ⟨c.val % 128, _⟩) = _
    unfold k0_pay44
    generalize k0_pay43 v = a at e43
    generalize k0_pay38 h w = P at hp
    pointwise [k0_pay40]
    rw [e43 _ (by simp only []; omega), hp, cnt i t 4 hi t.isLt (by norm_num), group_real _ _ (by omega)]
    simp only [show 128 + c.val % 128 = c.val from hcc.symm]
    rfl
  | 2 =>
    show truncf FTy.bf16 _ bitsLt_bf16_f32 (ix2 t ⟨c.val % 128, _⟩) = _
    unfold k0_pay46
    generalize k0_pay45 v = a at e45
    generalize k0_pay38 h w = P at hp
    pointwise [k0_pay40]
    rw [e45 _ (by simp only []; omega), hp, cnt i t 8 hi t.isLt (by norm_num), group_real _ _ (by omega)]
    simp only [show 256 + c.val % 128 = c.val from hcc.symm]
    rfl
  | 3 =>
    show truncf FTy.bf16 _ bitsLt_bf16_f32 (ix2 t ⟨c.val % 128, _⟩) = _
    unfold k0_pay47
    generalize k0_pay45 v = a at e45
    generalize k0_pay38 h w = P at hp
    pointwise [k0_pay40]
    rw [e45 _ (by simp only []; omega), e45 _ (by simp only []; omega), hp, cnt i t 16 hi t.isLt (by norm_num), ← EReal.coe_add, group_real _ _ (by omega)]
    simp only [show (16 + t.val + 528 - 8) % 528 = 16 + t.val - 8 by omega, win_double, show 256 + (128 + c.val % 128) = c.val by have : c.val = 128 * 3 + c.val % 128 := hcc; omega,
      show 384 + c.val % 128 = c.val from hcc.symm]
    rfl

end Cert.KernelIdeal.Value
-- ==== Proof.MixRun.lean ====
/-
  What the token-mixing kernel's body leaves at one grid point, in the three cases of its two conditionals: the tile's output
  and the carried buffers, as functions of the loaded blocks and of what the point before left.
-/
module

public import proofs.«01_k».proof.Proof.MixPay

@[expose] public section

noncomputable section

namespace Cert.KernelIdeal.Value

open Cert.KernelIdeal Cert.KernelIdeal.Gen Idealize.ShloMosaic Idealize.SL.Sem Cert.Layer

section Over
variable {sig : RefSig} {κ : Kind} {sp : Space} {s : Shape} {e : EltTy} {Val : EltTy → Type}

/-- The contents `X` with the pieces `L` laid over it, the last written first. -/
def over (X : s.Idx → Val e) : List (View.Piece Val s e) → s.Idx → Val e
  | [] => X
  | p :: L => p.1.overlay (over X L) p.2

theorem over_cons_emb (X : s.Idx → Val e) (r : Rect s) (w : r.shape.Idx → Val e) (L : List (View.Piece Val s e)) (x : r.shape.Idx) :
    over X (⟨r, w⟩ :: L) (r.emb x) = w x := r.overlay_emb _ _ x

theorem over_cons_of_not_mem (X : s.Idx → Val e) (p : View.Piece Val s e) (L : List (View.Piece Val s e)) {y : s.Idx} (h : y ∉ p.1.set) :
    over X (p :: L) y = over X L y := p.1.overlay_of_not_mem _ _ h

/-- A buffer read after writes is its contents before them with the pieces laid over. -/
theorem read_writes_over (v : View sig κ sp s e) (f : v.ty.Contents Val) :
    ∀ L : List (View.Piece Val s e), v.read Val (v.writes Val f L) = over (v.read Val f) L
  | [] => rfl
  | p :: L => by
    funext y
    by_cases hy : y ∈ p.1.set
    · obtain ⟨x, rfl⟩ := p.1.exists_idx_of_mem hy
      exact (View.read_writes_cons_emb v f p.1 p.2 L x).trans (over_cons_emb _ p.1 p.2 L x).symm
    · rw [over_cons_of_not_mem _ _ _ hy, ← read_writes_over v f L, View.writes_cons]
      exact View.read_slice_write_of_not_mem _ _ _ _ (fun h => hy (by rwa [Rect.map_emb_univ] at h))

end Over

/-- The last point's keys carried and this tile's keys. -/
def kL (K : FVec Ideal S512x512 .bf16) : List (View.Piece (Elt Ideal) S1024x512 .bf16) :=
  [⟨Rect.unit (s := S1024x512) ![512, 0] S512x512.size inb_S1024x512_S512x512_512_0, K⟩]

/-- This tile's values, a head pair to each piece. -/
def vL (h : FVec Ideal S512x1024 .bf16) (x3 : Vec Ideal S1024x4096 .bf16) : List (View.Piece (Elt Ideal) S1024x1024 .bf16) :=
  have w : Vec Ideal S1024x512 .bf16 := View.ld x3 (Rect.unit (s := S1024x4096) ![0, 1024] S1024x512.size inb_S1024x4096_S1024x512_0_1024)
  [⟨Rect.unit (s := S1024x1024) ![512, 768] S512x128.size inb_S1024x1024_S512x128_512_768, k0_pay90 h w⟩,
   ⟨Rect.unit (s := S1024x1024) ![512, 512] S512x128.size inb_S1024x1024_S512x128_512_512, k0_pay89 h w⟩,
   ⟨Rect.unit (s := S1024x1024) ![512, 256] S512x128.size inb_S1024x1024_S512x128_512_256, k0_pay88 h w⟩,
   ⟨Rect.unit (s := S1024x1024) ![512, 0] S512x128.size inb_S1024x1024_S512x128_512_0, k0_pay87 h w⟩]

/-- This tile's pooling rows. -/
def uL (h : FVec Ideal S512x1024 .f32) (x3 : Vec Ideal S1024x4096 .bf16) : List (View.Piece (Elt Ideal) S528x512 .f32) :=
  [⟨Rect.unit (s := S528x512) ![16, 0] S512x512.size inb_S528x512_S512x512_16_0,
    k0_pay39 h (View.ld x3 (Rect.unit (s := S1024x4096) ![0, 1536] S1024x512.size inb_S1024x4096_S1024x512_0_1536))⟩]

/-- No keys before the first tile. -/
def kZ : List (View.Piece (Elt Ideal) S1024x512 .bf16) := [⟨Rect.unit (s := S1024x512) ![0, 0] S512x512.size inb_S1024x512_S512x512_0_0, k0_pay31 (F := Ideal)⟩]
/-- No values before the first tile. -/
def vZ : List (View.Piece (Elt Ideal) S1024x1024 .bf16) := [⟨Rect.unit (s := S1024x1024) ![0, 0] S512x1024.size inb_S1024x1024_S512x1024_0_0, k0_pay32 (F := Ideal)⟩]
/-- No pooling rows before the first tile. -/
def uZ : List (View.Piece (Elt Ideal) S528x512 .f32) := [⟨Rect.unit (s := S528x512) ![0, 0] S16x512.size inb_S528x512_S16x512_0_0, k0_pay33 (F := Ideal)⟩]
/-- The lanes of ones beside the values. -/
def vO : List (View.Piece (Elt Ideal) S1024x1024 .bf16) :=
  [⟨Rect.unit (s := S1024x1024) ![512, 896] S512x128.size inb_S1024x1024_S512x128_512_896, k0_pay30 (F := Ideal) k0_pay29⟩,
   ⟨Rect.unit (s := S1024x1024) ![512, 640] S512x128.size inb_S1024x1024_S512x128_512_640, k0_pay28 (F := Ideal)⟩,
   ⟨Rect.unit (s := S1024x1024) ![512, 384] S512x128.size inb_S1024x1024_S512x128_512_384, k0_pay27 (F := Ideal)⟩,
   ⟨Rect.unit (s := S1024x1024) ![512, 128] S512x128.size inb_S1024x1024_S512x128_512_128, k0_pay26 (F := Ideal)⟩]

/-- The keys carried to the next point. -/
def kC (Kw : Vec Ideal S1024x512 .bf16) : View.Piece (Elt Ideal) S1024x512 .bf16 :=
  ⟨Rect.unit (s := S1024x512) ![0, 0] S512x512.size inb_S1024x512_S512x512_0_0,
    k0_pay168 (View.ld Kw (Rect.unit (s := S1024x512) ![512, 0] S512x512.size inb_S1024x512_S512x512_512_0))⟩
/-- The values carried to the next point. -/
def vC (Vw : Vec Ideal S1024x1024 .bf16) : View.Piece (Elt Ideal) S1024x1024 .bf16 :=
  ⟨Rect.unit (s := S1024x1024) ![0, 0] S512x1024.size inb_S1024x1024_S512x1024_0_0,
    k0_pay169 (View.ld Vw (Rect.unit (s := S1024x1024) ![512, 0] S512x1024.size inb_S1024x1024_S512x1024_512_0))⟩
/-- The pooling rows carried to the next point. -/
def uC (Uw : Vec Ideal S528x512 .f32) : View.Piece (Elt Ideal) S528x512 .f32 :=
  ⟨Rect.unit (s := S528x512) ![0, 0] S16x512.size inb_S528x512_S16x512_0_0,
    k0_pay49 (View.ld Uw (Rect.unit (s := S528x512) ![512, 0] S16x512.size inb_S528x512_S16x512_512_0))⟩

/-- The chunks a query of the 128-row block may look at: its own and the eight before. -/
def bandM : IVec S128x768 1 := k0_pay6 k0_pay2 k0_pay3 k0_pay4 k0_pay5 0#32

/-- One head's bias rows, the lanes outside the band masked. -/
def biasRow (d : Vec Ideal S1x768 .f32) : FVec Ideal S1x128x640 .f32 := k0_pay18 bandM d

/-- The bias table, from the heads' diagonals. -/
def bT (x6 : Vec Ideal S8x768 .f32) : Vec Ideal S8x256x640 .f32 :=
  View.canon [⟨Rect.unit (s := S8x256x640) ![4, 0, 0] S4x256x640.size inb_S8x256x640_S4x256x640_4_0_0, k0_pay19 (F := Ideal)⟩,
    ⟨Rect.unit (s := S8x256x640) ![3, 128, 0] S1x128x640.size inb_S8x256x640_S1x128x640_3_128_0, biasRow (View.ld x6 (Rect.unit (s := S8x768) ![7, 0] S1x768.size inb_S8x768_S1x768_7_0))⟩,
    ⟨Rect.unit (s := S8x256x640) ![3, 0, 0] S1x128x640.size inb_S8x256x640_S1x128x640_3_0_0, biasRow (View.ld x6 (Rect.unit (s := S8x768) ![6, 0] S1x768.size inb_S8x768_S1x768_6_0))⟩,
    ⟨Rect.unit (s := S8x256x640) ![2, 128, 0] S1x128x640.size inb_S8x256x640_S1x128x640_2_128_0, biasRow (View.ld x6 (Rect.unit (s := S8x768) ![5, 0] S1x768.size inb_S8x768_S1x768_5_0))⟩,
    ⟨Rect.unit (s := S8x256x640) ![2, 0, 0] S1x128x640.size inb_S8x256x640_S1x128x640_2_0_0, biasRow (View.ld x6 (Rect.unit (s := S8x768) ![4, 0] S1x768.size inb_S8x768_S1x768_4_0))⟩,
    ⟨Rect.unit (s := S8x256x640) ![1, 128, 0] S1x128x640.size inb_S8x256x640_S1x128x640_1_128_0, biasRow (View.ld x6 (Rect.unit (s := S8x768) ![3, 0] S1x768.size inb_S8x768_S1x768_3_0))⟩,
    ⟨Rect.unit (s := S8x256x640) ![1, 0, 0] S1x128x640.size inb_S8x256x640_S1x128x640_1_0_0, biasRow (View.ld x6 (Rect.unit (s := S8x768) ![2, 0] S1x768.size inb_S8x768_S1x768_2_0))⟩,
    ⟨Rect.unit (s := S8x256x640) ![0, 128, 0] S1x128x640.size inb_S8x256x640_S1x128x640_0_128_0, biasRow (View.ld x6 (Rect.unit (s := S8x768) ![1, 0] S1x768.size inb_S8x768_S1x768_1_0))⟩,
    ⟨Rect.unit (s := S8x256x640) ![0, 0, 0] S1x128x640.size inb_S8x256x640_S1x128x640_0_0_0, biasRow (View.ld x6 (Rect.unit (s := S8x768) ![0, 0] S1x768.size inb_S8x768_S1x768_0_0))⟩]

/-- The pooling weights: each group's matrix, scaled, times its rows of the output weights. -/
def wT (x8 : Vec Ideal S512x128 .bf16) (x9 : Vec Ideal S1x512 .f32) (x10 : Vec Ideal S512x1024 .bf16) : Vec Ideal S512x1024 .bf16 :=
  View.canon [
    ⟨Rect.unit (s := S512x1024) ![384, 0] S128x1024.size inb_S512x1024_S128x1024_384_0, k0_pay25 (View.ld x8 (Rect.unit (s := S512x128) ![384, 0] S128x128.size inb_S512x128_S128x128_384_0)) (View.ld x9 (Rect.unit (s := S1x512) ![0, 384] S1x128.size inb_S1x512_S1x128_0_384)) (View.ld x10 (Rect.unit (s := S512x1024) ![384, 0] S128x1024.size inb_S512x1024_S128x1024_384_0))⟩,
    ⟨Rect.unit (s := S512x1024) ![256, 0] S128x1024.size inb_S512x1024_S128x1024_256_0, k0_pay25 (View.ld x8 (Rect.unit (s := S512x128) ![256, 0] S128x128.size inb_S512x128_S128x128_256_0)) (View.ld x9 (Rect.unit (s := S1x512) ![0, 256] S1x128.size inb_S1x512_S1x128_0_256)) (View.ld x10 (Rect.unit (s := S512x1024) ![256, 0] S128x1024.size inb_S512x1024_S128x1024_256_0))⟩,
    ⟨Rect.unit (s := S512x1024) ![128, 0] S128x1024.size inb_S512x1024_S128x1024_128_0, k0_pay25 (View.ld x8 (Rect.unit (s := S512x128) ![128, 0] S128x128.size inb_S512x128_S128x128_128_0)) (View.ld x9 (Rect.unit (s := S1x512) ![0, 128] S1x128.size inb_S1x512_S1x128_0_128)) (View.ld x10 (Rect.unit (s := S512x1024) ![128, 0] S128x1024.size inb_S512x1024_S128x1024_128_0))⟩,
    ⟨Rect.unit (s := S512x1024) ![0, 0] S128x1024.size inb_S512x1024_S128x1024_0_0, k0_pay25 (View.ld x8 (Rect.unit (s := S512x128) ![0, 0] S128x128.size inb_S512x128_S128x128_0_0)) (View.ld x9 (Rect.unit (s := S1x512) ![0, 0] S1x128.size inb_S1x512_S1x128_0_0)) (View.ld x10 (Rect.unit (s := S512x1024) ![0, 0] S128x1024.size inb_S512x1024_S128x1024_0_0))⟩]

theorem out_B (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : ¬cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs0 : Vec Ideal S1024x512 .bf16) (xs1 : Vec Ideal S1024x1024 .bf16) (xs2 : Vec Ideal S528x512 .f32) (xs4 : Vec Ideal S8x256x640 .f32) (xs5 : Vec Ideal S512x1024 .bf16) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 xs1 xs2 xs4 xs5
      = mixOut i x0 x1 x2 x3 x4 x7 x11 (over xs0 (kL (kT (k0_pay37 (hT x0 x1 x2)) x3 x5))) (over xs1 (vL (k0_pay37 (hT x0 x1 x2)) x3)) (over xs2 (uL (hT x0 x1 x2) x3)) xs4 xs5 := by
  unfold out0_B_12
  rw [View.read_writes_junk_eq_canon]
  unfold kernelRun0_B
  dsimp only
  sl_unfold_words
  rw [View.canon_unit_zero (by decide)]
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  simp only [w_q, w_k, w_g95, w_g103, w_g109, w_g122, w_g136, w_g143, w_g150, w_s93, w_s94, w_s102, w_s108, w_s121, w_s135, w_s142, w_s149, w_a00, w_a10, w_a01, w_a11, w_a02, w_a12, w_a03, w_a13, w_a20, w_a30, w_a21, w_a31, w_a22, w_a32, w_a23, w_a33]
  rfl

theorem sK_B (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : ¬cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs0 : Vec Ideal S1024x512 .bf16) (xs1 : Vec Ideal S1024x1024 .bf16) (xs2 : Vec Ideal S528x512 .f32) (xs4 : Vec Ideal S8x256x640 .f32) (xs5 : Vec Ideal S512x1024 .bf16) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 xs1 xs2 xs4 xs5
      = View.canon (kC (View.canon (kL (kT (k0_pay37 (hT x0 x1 x2)) x3 x5))) :: kL (kT (k0_pay37 (hT x0 x1 x2)) x3 x5)) := by
  unfold sout0_B_0
  rw [View.read_writes_junk_eq_canon]
  unfold kernelRun0_B
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  simp only [w_q, w_k, w_g95, w_g103, w_g109, w_g122, w_g136, w_g143, w_g150, w_s93, w_s94, w_s102, w_s108, w_s121, w_s135, w_s142, w_s149, w_a00, w_a10, w_a01, w_a11, w_a02, w_a12, w_a03, w_a13, w_a20, w_a30, w_a21, w_a31, w_a22, w_a32, w_a23, w_a33]
  rfl

theorem sU_B (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : ¬cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs0 : Vec Ideal S1024x512 .bf16) (xs1 : Vec Ideal S1024x1024 .bf16) (xs2 : Vec Ideal S528x512 .f32) (xs4 : Vec Ideal S8x256x640 .f32) (xs5 : Vec Ideal S512x1024 .bf16) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 xs1 xs2 xs4 xs5
      = View.canon (uC (View.canon (uL (hT x0 x1 x2) x3)) :: uL (hT x0 x1 x2) x3) := by
  unfold sout0_B_2
  rw [View.read_writes_junk_eq_canon]
  unfold kernelRun0_B
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  rfl

theorem sV_B (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : ¬cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs0 : Vec Ideal S1024x512 .bf16) (xs1 : Vec Ideal S1024x1024 .bf16) (xs2 : Vec Ideal S528x512 .f32) (xs4 : Vec Ideal S8x256x640 .f32) (xs5 : Vec Ideal S512x1024 .bf16) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs0 xs1 xs2 xs4 xs5
      = over xs1 (vC (over xs1 (vL (k0_pay37 (hT x0 x1 x2)) x3)) :: vL (k0_pay37 (hT x0 x1 x2)) x3) := by
  unfold sout0_B_1
  unfold kernelRun0_B
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  rfl

theorem out_C (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs1 : Vec Ideal S1024x1024 .bf16) (xs4 : Vec Ideal S8x256x640 .f32) (xs5 : Vec Ideal S512x1024 .bf16) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs1 xs4 xs5
      = mixOut i x0 x1 x2 x3 x4 x7 x11 (View.canon (kL (kT (k0_pay37 (hT x0 x1 x2)) x3 x5) ++ kZ)) (over xs1 (vL (k0_pay37 (hT x0 x1 x2)) x3 ++ vZ)) (View.canon (uL (hT x0 x1 x2) x3 ++ uZ)) xs4 xs5 := by
  unfold out0_C_12
  rw [View.read_writes_junk_eq_canon]
  unfold kernelRun0_C
  dsimp only
  sl_unfold_words
  rw [View.canon_unit_zero (by decide)]
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  simp only [w_q, w_k, w_g95, w_g103, w_g109, w_g122, w_g136, w_g143, w_g150, w_s93, w_s94, w_s102, w_s108, w_s121, w_s135, w_s142, w_s149, w_a00, w_a10, w_a01, w_a11, w_a02, w_a12, w_a03, w_a13, w_a20, w_a30, w_a21, w_a31, w_a22, w_a32, w_a23, w_a33]
  rfl

theorem sK_C (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs1 : Vec Ideal S1024x1024 .bf16) (xs4 : Vec Ideal S8x256x640 .f32) (xs5 : Vec Ideal S512x1024 .bf16) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs1 xs4 xs5
      = View.canon (kC (View.canon (kL (kT (k0_pay37 (hT x0 x1 x2)) x3 x5) ++ kZ)) :: (kL (kT (k0_pay37 (hT x0 x1 x2)) x3 x5) ++ kZ)) := by
  unfold sout0_C_0
  rw [View.read_writes_junk_eq_canon]
  unfold kernelRun0_C
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  simp only [w_q, w_k, w_g95, w_g103, w_g109, w_g122, w_g136, w_g143, w_g150, w_s93, w_s94, w_s102, w_s108, w_s121, w_s135, w_s142, w_s149, w_a00, w_a10, w_a01, w_a11, w_a02, w_a12, w_a03, w_a13, w_a20, w_a30, w_a21, w_a31, w_a22, w_a32, w_a23, w_a33]
  rfl

theorem sU_C (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs1 : Vec Ideal S1024x1024 .bf16) (xs4 : Vec Ideal S8x256x640 .f32) (xs5 : Vec Ideal S512x1024 .bf16) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs1 xs4 xs5
      = View.canon (uC (View.canon (uL (hT x0 x1 x2) x3 ++ uZ)) :: (uL (hT x0 x1 x2) x3 ++ uZ)) := by
  unfold sout0_C_2
  rw [View.read_writes_junk_eq_canon]
  unfold kernelRun0_C
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  rfl

theorem sV_C (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : ¬cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) (xs1 : Vec Ideal S1024x1024 .bf16) (xs4 : Vec Ideal S8x256x640 .f32) (xs5 : Vec Ideal S512x1024 .bf16) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xs1 xs4 xs5
      = over xs1 (vC (over xs1 (vL (k0_pay37 (hT x0 x1 x2)) x3 ++ vZ)) :: (vL (k0_pay37 (hT x0 x1 x2)) x3 ++ vZ)) := by
  unfold sout0_C_1
  unfold kernelRun0_C
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, read_writes_over]
  rfl

theorem out_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11
      = mixOut i x0 x1 x2 x3 x4 x7 x11 (View.canon (kL (kT (k0_pay37 (hT x0 x1 x2)) x3 x5) ++ kZ)) (View.canon (vL (k0_pay37 (hT x0 x1 x2)) x3 ++ vZ ++ vO)) (View.canon (uL (hT x0 x1 x2) x3 ++ uZ)) (bT x6) (wT x8 x9 x10) := by
  unfold out0_A_12
  rw [View.read_writes_junk_eq_canon]
  unfold kernelRun0_A
  dsimp only
  sl_unfold_words
  rw [View.canon_unit_zero (by decide)]
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [w_q, w_k, w_g95, w_g103, w_g109, w_g122, w_g136, w_g143, w_g150, w_s93, w_s94, w_s102, w_s108, w_s121, w_s135, w_s142, w_s149, w_a00, w_a10, w_a01, w_a11, w_a02, w_a12, w_a03, w_a13, w_a20, w_a30, w_a21, w_a31, w_a22, w_a32, w_a23, w_a33]
  rfl

theorem sK_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11
      = View.canon (kC (View.canon (kL (kT (k0_pay37 (hT x0 x1 x2)) x3 x5) ++ kZ)) :: (kL (kT (k0_pay37 (hT x0 x1 x2)) x3 x5) ++ kZ)) := by
  unfold sout0_A_0
  rw [View.read_writes_junk_eq_canon]
  unfold kernelRun0_A
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [w_q, w_k, w_g95, w_g103, w_g109, w_g122, w_g136, w_g143, w_g150, w_s93, w_s94, w_s102, w_s108, w_s121, w_s135, w_s142, w_s149, w_a00, w_a10, w_a01, w_a11, w_a02, w_a12, w_a03, w_a13, w_a20, w_a30, w_a21, w_a31, w_a22, w_a32, w_a23, w_a33]
  rfl

theorem sU_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11
      = View.canon (uC (View.canon (uL (hT x0 x1 x2) x3 ++ uZ)) :: (uL (hT x0 x1 x2) x3 ++ uZ)) := by
  unfold sout0_A_2
  rw [View.read_writes_junk_eq_canon]
  unfold kernelRun0_A
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

theorem sV_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11
      = View.canon (vC (View.canon (vL (k0_pay37 (hT x0 x1 x2)) x3 ++ vZ ++ vO)) :: (vL (k0_pay37 (hT x0 x1 x2)) x3 ++ vZ ++ vO)) := by
  unfold sout0_A_1
  rw [View.read_writes_junk_eq_canon]
  unfold kernelRun0_A
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

theorem sB_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11
      = bT x6 := by
  unfold sout0_A_4
  rw [View.read_writes_junk_eq_canon]
  unfold kernelRun0_A
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

theorem sW_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S8x768 .f32) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole) (arg15 : Memref sig .tc .vmem S1024x512 .bf16) (harg15 : arg15.IsWhole) (arg16 : Memref sig .tc .vmem S1024x1024 .bf16) (harg16 : arg16.IsWhole) (arg17 : Memref sig .tc .vmem S528x512 .f32) (harg17 : arg17.IsWhole) (arg18 : Memref sig .tc .vmem S512x512 .bf16) (harg18 : arg18.IsWhole) (arg19 : Memref sig .tc .vmem S8x256x640 .f32) (harg19 : arg19.IsWhole) (arg20 : Memref sig .tc .vmem S512x1024 .bf16) (harg20 : arg20.IsWhole) (hc0 : cond0_0 i) (hc1 : cond0_1 i)
    (x0 : Vec Ideal S1x512x1024 .f32) (x1 : Vec Ideal S1x9x1024 .f32) (x2 : Vec Ideal S1x1024 .f32) (x3 : Vec Ideal S1024x4096 .bf16) (x4 : Vec Ideal S1x64 .f32) (x5 : Vec Ideal S1x64 .f32) (x6 : Vec Ideal S8x768 .f32) (x7 : Vec Ideal S512x1024 .bf16) (x8 : Vec Ideal S512x128 .bf16) (x9 : Vec Ideal S1x512 .f32) (x10 : Vec Ideal S512x1024 .bf16) (x11 : Vec Ideal S1024x1024 .bf16) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11
      = wT x8 x9 x10 := by
  unfold sout0_A_5
  rw [View.read_writes_junk_eq_canon]
  unfold kernelRun0_A
  dsimp only
  sl_unfold_words
  simp only [View.readAt_eq_ld, View.readCov_eq_canon', View.read_writes_junk_eq_canon]
  simp only [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  rfl

end Cert.KernelIdeal.Value
-- ==== Proof.MixTile.lean ====
/-
  The token-mixing kernel's tile at an element: the gates, the two branches, and the output row, from the tile's
  blocks and the windows it keeps; the bias table and the pooled branch's weights as the first tile builds them.
-/
module

public import proofs.«01_k».proof.Proof.MixAtt
public import proofs.«01_k».proof.Proof.MixPool
public import proofs.«01_k».proof.Proof.MixRun

@[expose] public section

noncomputable section

namespace Cert.KernelIdeal.Value

open Cert.KernelIdeal Cert.KernelIdeal.Gen Idealize.ShloMosaic Cert.Layer Cert.Layer.Mix

variable {I : Inp} {T0 : ℕ} {x0 : Vec Ideal S1x512x1024 .f32} {x1 : Vec Ideal S1x9x1024 .f32} {x2 : Vec Ideal S1x1024 .f32}
  {x3 : Vec Ideal S1024x4096 .bf16} {x4 x5 : Vec Ideal S1x64 .f32} {x7 : Vec Ideal S512x1024 .bf16} {x11 : Vec Ideal S1024x1024 .bf16}

/-- Eight pieces of 256 columns side by side. -/
theorem cat8 (c : Fin 8 → S512x256.Idx → EReal) (h) (p : Fin 512) (n : Fin 2048) :
    concatenate S512x2048 1 [⟨S512x256, c 0⟩, ⟨S512x256, c 1⟩, ⟨S512x256, c 2⟩, ⟨S512x256, c 3⟩, ⟨S512x256, c 4⟩, ⟨S512x256, c 5⟩,
      ⟨S512x256, c 6⟩, ⟨S512x256, c 7⟩] h (ix2 p n) = c ⟨n.val / 256, by omega⟩ (ix2 p ⟨n.val % 256, by omega⟩) := by
  refine concatenate_ofFn_apply (t := S512x2048) (s₁ := S512x256) 1 c h rfl 256 rfl (ix2 p n) ⟨n.val / 256, by omega⟩ rfl
    (ix2 p ⟨n.val % 256, by omega⟩) rfl ?_
  intro b hb
  match b with
  | ⟨0, _⟩ => rfl
  | ⟨1, _⟩ => exact absurd rfl hb

/-- The gates of a tile at an element. -/
theorem gT_apply (B : Blk I T0 x0 x1 x2 x3 x4 x5 x7 x11) {h : FVec Ideal S512x1024 .bf16} (H : Hid I T0 h) (t : Fin 512) (m : Fin 2048) :
    gT h x3 (ix2 t m) = ((z I (T0 + t) (2048 + m) : ℝ) : EReal) := by
  unfold gT k0_pay167
  refine (cat8 (fun k => k0_pay92 h (match k with
    | 0 => View.ld x3 (Rect.unit (s := S1024x4096) ![0, 2048] S1024x256.size inb_S1024x4096_S1024x256_0_2048)
    | 1 => View.ld x3 (Rect.unit (s := S1024x4096) ![0, 2304] S1024x256.size inb_S1024x4096_S1024x256_0_2304)
    | 2 => View.ld x3 (Rect.unit (s := S1024x4096) ![0, 2560] S1024x256.size inb_S1024x4096_S1024x256_0_2560)
    | 3 => View.ld x3 (Rect.unit (s := S1024x4096) ![0, 2816] S1024x256.size inb_S1024x4096_S1024x256_0_2816)
    | 4 => View.ld x3 (Rect.unit (s := S1024x4096) ![0, 3072] S1024x256.size inb_S1024x4096_S1024x256_0_3072)
    | 5 => View.ld x3 (Rect.unit (s := S1024x4096) ![0, 3328] S1024x256.size inb_S1024x4096_S1024x256_0_3328)
    | 6 => View.ld x3 (Rect.unit (s := S1024x4096) ![0, 3584] S1024x256.size inb_S1024x4096_S1024x256_0_3584)
    | 7 => View.ld x3 (Rect.unit (s := S1024x4096) ![0, 3840] S1024x256.size inb_S1024x4096_S1024x256_0_3840))) _ t m).trans ?_
  rw [pay92_apply]
  have hc : m.val / 256 < 8 := by omega
  have hm : m.val = 256 * (m.val / 256) + m.val % 256 := by omega
  generalize hk : (⟨m.val / 256, hc⟩ : Fin 8) = k
  have hk' : m.val / 256 = k.val := congrArg Fin.val hk
  rw [hk'] at hm
  match k with
  | 0 => refine (proj B H 2048 _ t ⟨m.val % 256, by omega⟩).trans ?_; rw [show 2048 + m.val % 256 = 2048 + m.val by have e : m.val = 256 * 0 + m.val % 256 := hm; omega]
  | 1 => refine (proj B H 2304 _ t ⟨m.val % 256, by omega⟩).trans ?_; rw [show 2304 + m.val % 256 = 2048 + m.val by have e : m.val = 256 * 1 + m.val % 256 := hm; omega]
  | 2 => refine (proj B H 2560 _ t ⟨m.val % 256, by omega⟩).trans ?_; rw [show 2560 + m.val % 256 = 2048 + m.val by have e : m.val = 256 * 2 + m.val % 256 := hm; omega]
  | 3 => refine (proj B H 2816 _ t ⟨m.val % 256, by omega⟩).trans ?_; rw [show 2816 + m.val % 256 = 2048 + m.val by have e : m.val = 256 * 3 + m.val % 256 := hm; omega]
  | 4 => refine (proj B H 3072 _ t ⟨m.val % 256, by omega⟩).trans ?_; rw [show 3072 + m.val % 256 = 2048 + m.val by have e : m.val = 256 * 4 + m.val % 256 := hm; omega]
  | 5 => refine (proj B H 3328 _ t ⟨m.val % 256, by omega⟩).trans ?_; rw [show 3328 + m.val % 256 = 2048 + m.val by have e : m.val = 256 * 5 + m.val % 256 := hm; omega]
  | 6 => refine (proj B H 3584 _ t ⟨m.val % 256, by omega⟩).trans ?_; rw [show 3584 + m.val % 256 = 2048 + m.val by have e : m.val = 256 * 6 + m.val % 256 := hm; omega]
  | 7 => refine (proj B H 3840 _ t ⟨m.val % 256, by omega⟩).trans ?_; rw [show 3840 + m.val % 256 = 2048 + m.val by have e : m.val = 256 * 7 + m.val % 256 := hm; omega]

theorem yaT_eq (h : FVec Ideal S512x1024 .bf16) (x3 : Vec Ideal S1024x4096 .bf16) (a : Vec Ideal S512x512 .bf16) (x7 : Vec Ideal S512x1024 .bf16)
    (t : Fin 512) (m : Fin 1024) :
    yaT h x3 a x7 (ix2 t m) = Ideal.logistic (gT h x3 (ix2 t ⟨m.val, by omega⟩)) * ∑ c, a (ix2 t c) * x7 (ix2 c m) := by
  unfold yaT k0_pay171
  change mulf (logistic (extractStridedSlice S512x1024 ![0, 0] (gT h x3) slices_S512x2048_o0_0_S512x1024)) _ _ = _
  generalize gT h x3 = G
  pointwise

/-- The pooled branch's weights: the grouped weights, scaled, times the output weights. -/
def WTab (I : Inp) (Wp : Vec Ideal S512x1024 .bf16) : Prop := ∀ (c : Fin 512) (m : Fin 1024),
  Wp (ix2 c m) = ((∑ j : Fin 128, I.wg (c.val / 128) (c.val % 128) j * I.ps (128 * (c.val / 128) + j) * I.wp (128 * (c.val / 128) + j) m : ℝ) : EReal)

/-- The rows that are pooled, sixteen rows of the tile before first. -/
def UWin (I : Inp) (i : ℕ) (Uw : Vec Ideal S528x512 .f32) : Prop := ∀ (j : Fin 528) (c : Fin 512),
  Uw (ix2 j c) = (((if 16 ≤ 512 * i + j.val then z I (512 * i + j - 16) (1536 + c) else 0) : ℝ) : EReal)

theorem pay1_apply (x : FVec Ideal S512x1024 .f32) (g : FVec Ideal S1x1024 .f32) (G : FVec Ideal S512x2048 .f32) (p a : FVec Ideal S512x1024 .f32)
    (w : Vec Ideal S1024x1024 .bf16) (t : Fin 512) (k : Fin 1024) :
    k0_pay1 x g G p a w (ix3 0 t k) = x (ix2 t k) + g (ix2 0 k) * ∑ m : Fin 1024,
      (a (ix2 t m) + Ideal.logistic (G (ix2 t ⟨1024 + m.val, by omega⟩)) * p (ix2 t m)) * w (ix2 m k) := by
  pointwise [k0_pay1]

theorem mixOut_apply {i : grid0.Coords} (B : Blk I (512 * (i 1).val) x0 x1 x2 x3 x4 x5 x7 x11) {Kw : Vec Ideal S1024x512 .bf16}
    {Vw : Vec Ideal S1024x1024 .bf16} {Uw : Vec Ideal S528x512 .f32} {Bt : Vec Ideal S8x256x640 .f32} {Wp : Vec Ideal S512x1024 .bf16}
    (hK : KWin I (i 1).val Kw) (hV : VWin I (i 1).val Vw) (hU : UWin I (i 1).val Uw) (HB : BiasTab I Bt) (HW : WTab I Wp)
    (t : Fin 512) (k : Fin 1024) :
    mixOut i x0 x1 x2 x3 x4 x7 x11 Kw Vw Uw Bt Wp (ix3 0 t k) = ((out I (512 * (i 1).val + t) k : ℝ) : EReal) := by
  have hi : (i 1).val < 16 := (i 1).isLt
  have H : Hid I (512 * (i 1).val) (k0_pay37 (hT x0 x1 x2)) := fun t k => (pay37_apply _ t k).trans (hT_apply B t k)
  have H' : Hid I (512 * (i 1).val) (hT x0 x1 x2) := fun t k => hT_apply B t k
  have ea := aL_apply (i := i) (fun t c => qT_apply B H t c) hK hV HB
  unfold mixOut
  rw [pay1_apply]
  have e1 : k0_pay34 (View.ld x0 (Rect.unit (s := S1x512x1024) ![0, 0, 0] S1x512x1024.size inb_S1x512x1024_S1x512x1024_0_0_0)) (ix2 t k)
      = ((I.x (512 * (i 1).val + t) k : ℝ) : EReal) := by
    rw [← B.x]; pointwise [k0_pay34]
  have e2 : k0_pay35 (View.ld x1 (Rect.unit (s := S1x9x1024) ![0, 5, 0] S1x1x1024.size inb_S1x9x1024_S1x1x1024_0_5_0)) (ix2 0 k) = ((I.ga k : ℝ) : EReal) := by
    rw [← B.ga]; pointwise [k0_pay35]
  have e3 : ∀ m : Fin 1024, k0_pay170 (poolT (BitVec.ofNat 32 (i 1).val) (hT x0 x1 x2) (View.ld x3 (Rect.unit (s := S1024x4096) ![0, 1536] S1024x512.size inb_S1024x4096_S1024x512_0_1536))
        (View.ld Uw (Rect.unit (s := S528x512) ![0, 0] S528x512.size inb_S528x512_S528x512_0_0)))
      (View.ld Wp (Rect.unit (s := S512x1024) ![0, 0] S512x1024.size inb_S512x1024_S512x1024_0_0)) (ix2 t m) = ((yb I (512 * (i 1).val + t) m : ℝ) : EReal) := by
    intro m
    rw [pay170_apply, yb_swap, ← coe_sum]
    refine Finset.sum_congr rfl fun c _ => ?_
    rw [poolT_apply hi (fun t c => (pay38_apply _ _ t c).trans (proj B H' 1536 _ t c)), ld2 Wp 0 0 _ c m c m (by simp) (by simp), HW, EReal.coe_mul]
    intro j c
    rw [ld2 Uw 0 0 _ j c j c (by simp) (by simp), hU]
  have e4 : ∀ m : Fin 1024, yaT (k0_pay37 (hT x0 x1 x2)) x3
      (View.ld (View.canon (aL i (qT (k0_pay37 (hT x0 x1 x2)) x3 x4) Kw Vw Bt)) (Rect.unit (s := S512x512) ![0, 0] S512x512.size inb_S512x512_S512x512_0_0)) x7 (ix2 t m)
      = ((sg (z I (512 * (i 1).val + t) (2048 + m)) * ya I (512 * (i 1).val + t) m : ℝ) : EReal) := by
    intro m
    rw [yaT_eq, gT_apply B H, Ideal.logistic_coe, EReal.coe_mul, ya, ← coe_sum]
    refine congrArg (HMul.hMul _) (Finset.sum_congr rfl fun c _ => ?_)
    rw [ld2 _ 0 0 _ t c t c (by simp) (by simp), ea, B.wa, EReal.coe_mul]
  rw [e1, e2, out, EReal.coe_add, EReal.coe_mul, ← coe_sum]
  refine congrArg (HAdd.hAdd _) (congrArg (HMul.hMul _) (Finset.sum_congr rfl fun m _ => ?_))
  rw [e3, e4, gT_apply B H, Ideal.logistic_coe, ld2 x11 0 0 _ m k m k (by simp) (by simp), B.wo, ← EReal.coe_mul, ← EReal.coe_add, ← EReal.coe_mul, mrg]
  simp only [sg, show 2048 + (1024 + m.val) = 3072 + m.val by omega]

end Cert.KernelIdeal.Value
-- ==== Proof.MixTab.lean ====
/-
  The token-mixing kernel's tables as its first tile builds them: the bias table and the pooled branch's weights at
  an element. A buffer written in rectangles is read at an element by the last rectangle that holds it.
-/
module

public import proofs.«01_k».proof.Proof.MixTile

@[expose] public section

noncomputable section

namespace Cert.KernelIdeal.Value

open Cert.KernelIdeal Cert.KernelIdeal.Gen Idealize.ShloMosaic Cert.Layer Cert.Layer.Mix

variable {I : Inp}

/-- A buffer given by its pieces alone is the pieces laid over arbitrary contents. -/
theorem canon_over {s : Shape} {e : EltTy} : ∀ L : List (View.Piece (Elt Ideal) s e), View.canon L = over (View.canon []) L
  | [] => rfl
  | p :: L => by rw [View.canon_cons, canon_over L]; rfl

/-- A matrix with a rectangle laid over it, at an element. -/
theorem over2 {e : EltTy} {a b a' b' : Nat} (X : Vec Ideal ⟨2, ![a, b]⟩ e) (o o' : Nat)
    (inb : ∀ k, ![o, o'] k + ![a', b'] k ≤ ![a, b] k) (w : Vec Ideal ⟨2, ![a', b']⟩ e)
    (L : List (View.Piece (Elt Ideal) ⟨2, ![a, b]⟩ e)) (i : Fin a) (j : Fin b) :
    over X (⟨Rect.unit (s := ⟨2, ![a, b]⟩) ![o, o'] ![a', b'] inb, w⟩ :: L) (ix2 i j)
      = if h : (o ≤ i.val ∧ i.val < o + a') ∧ (o' ≤ j.val ∧ j.val < o' + b')
        then w (ix2 ⟨i.val - o, by omega⟩ ⟨j.val - o', by omega⟩) else over X L (ix2 i j) := by
  by_cases h : (o ≤ i.val ∧ i.val < o + a') ∧ (o' ≤ j.val ∧ j.val < o' + b')
  · rw [dif_pos h]
    refine Eq.trans (congrArg _ ?_) (over_cons_emb X (Rect.unit (s := ⟨2, ![a, b]⟩) ![o, o'] ![a', b'] inb) w L (ix2 ⟨i.val - o, by omega⟩ ⟨j.val - o', by omega⟩))
    funext k
    apply Fin.ext
    refine Eq.trans ?_ (Rect.idx_unit_val _ _ inb _ k).symm
    match k with
    | ⟨0, _⟩ => change i.val = o + (i.val - o); omega
    | ⟨1, _⟩ => change j.val = o' + (j.val - o'); omega
  · rw [dif_neg h]
    refine over_cons_of_not_mem _ _ _ fun hm => h ?_
    have hm := (Rect.mem_set_unit (s := ⟨2, ![a, b]⟩) (off := ![o, o']) (size := ![a', b']) (inb := inb) (i := ix2 i j)).mp hm
    exact ⟨hm 0, hm 1⟩

/-- The same of a rank-three array. -/
theorem over3 {e : EltTy} {a b c a' b' c' : Nat} (X : Vec Ideal ⟨3, ![a, b, c]⟩ e) (o o' o'' : Nat)
    (inb : ∀ k, ![o, o', o''] k + ![a', b', c'] k ≤ ![a, b, c] k) (w : Vec Ideal ⟨3, ![a', b', c']⟩ e)
    (L : List (View.Piece (Elt Ideal) ⟨3, ![a, b, c]⟩ e)) (i : Fin a) (j : Fin b) (l : Fin c) :
    over X (⟨Rect.unit (s := ⟨3, ![a, b, c]⟩) ![o, o', o''] ![a', b', c'] inb, w⟩ :: L) (ix3 i j l)
      = if h : (o ≤ i.val ∧ i.val < o + a') ∧ (o' ≤ j.val ∧ j.val < o' + b') ∧ (o'' ≤ l.val ∧ l.val < o'' + c')
        then w (ix3 ⟨i.val - o, by omega⟩ ⟨j.val - o', by omega⟩ ⟨l.val - o'', by omega⟩) else over X L (ix3 i j l) := by
  by_cases h : (o ≤ i.val ∧ i.val < o + a') ∧ (o' ≤ j.val ∧ j.val < o' + b') ∧ (o'' ≤ l.val ∧ l.val < o'' + c')
  · rw [dif_pos h]
    refine Eq.trans (congrArg _ ?_) (over_cons_emb X (Rect.unit (s := ⟨3, ![a, b, c]⟩) ![o, o', o''] ![a', b', c'] inb) w L
      (ix3 ⟨i.val - o, by omega⟩ ⟨j.val - o', by omega⟩ ⟨l.val - o'', by omega⟩))
    funext k
    apply Fin.ext
    refine Eq.trans ?_ (Rect.idx_unit_val _ _ inb _ k).symm
    match k with
    | ⟨0, _⟩ => change i.val = o + (i.val - o); omega
    | ⟨1, _⟩ => change j.val = o' + (j.val - o'); omega
    | ⟨2, _⟩ => change l.val = o'' + (l.val - o''); omega
  · rw [dif_neg h]
    refine over_cons_of_not_mem _ _ _ fun hm => h ?_
    have hm := (Rect.mem_set_unit (s := ⟨3, ![a, b, c]⟩) (off := ![o, o', o'']) (size := ![a', b', c']) (inb := inb) (i := ix3 i j l)).mp hm
    exact ⟨hm 0, hm 1, hm 2⟩

theorem log2e : Named.named (F := Ideal) (φ := .f32) κ "log2e" 1069066811#32 = (((Real.log 2)⁻¹ : ℝ) : EReal) :=
  IdealRules.named_const.ideal_named_scalar (φ := .f32) κ "log2e" 1069066811#32 _ rfl

theorem mask : Named.named (F := Ideal) (φ := .f32) κ "mask" 4048155338#32 = ⊥ :=
  IdealRules.named_const.ideal_named_scalar (φ := .f32) κ "mask" 4048155338#32 _ rfl

/-- A row's chunk, with the eight chunks before it. -/
theorem rowV (r : Fin 128) (j : Fin 768) : k0_pay2 (ix2 r j) = BitVec.ofNat 32 (r.val / 64 + 8) := by
  have h : ∀ r : Fin 128, k0_pay2 (ix2 r (0 : Fin 768)) = BitVec.ofNat 32 (r.val / 64 + 8) := by decide +kernel
  exact (rfl : k0_pay2 (ix2 r j) = k0_pay2 (ix2 r 0)).trans (h r)

/-- A lane's chunk. -/
theorem laneV (r : Fin 128) (j : Fin 768) :
    Scalar.select (IntOp.andi (k0_pay4 (ix2 r j)) (IntOp.cmpi CmpIPredicate.ne (k0_pay5 (ix2 r j)) 0#32))
      (IntOp.subi (k0_pay3 (ix2 r j)) 1#32) (k0_pay3 (ix2 r j)) = BitVec.ofNat 32 (j.val / 64) := by
  have h : ∀ j : Fin 768, Scalar.select (IntOp.andi (k0_pay4 (ix2 (0 : Fin 128) j)) (IntOp.cmpi CmpIPredicate.ne (k0_pay5 (ix2 (0 : Fin 128) j)) 0#32))
      (IntOp.subi (k0_pay3 (ix2 (0 : Fin 128) j)) 1#32) (k0_pay3 (ix2 (0 : Fin 128) j)) = BitVec.ofNat 32 (j.val / 64) := by decide +kernel
  rw [(rfl : k0_pay4 (ix2 r j) = k0_pay4 (ix2 0 j)), (rfl : k0_pay5 (ix2 r j) = k0_pay5 (ix2 0 j)), (rfl : k0_pay3 (ix2 r j) = k0_pay3 (ix2 0 j))]
  exact h j

theorem pay6_apply (a b e : IVec S128x768 32) (c : IVec S128x768 1) (r : Fin 128) (j : Fin 768) : k0_pay6 a b c e 0#32 (ix2 r j)
    = IntOp.andi (IntOp.cmpi CmpIPredicate.sge (IntOp.subi (a (ix2 r j)) (Scalar.select (IntOp.andi (c (ix2 r j)) (IntOp.cmpi CmpIPredicate.ne (e (ix2 r j)) 0#32))
            (IntOp.subi (b (ix2 r j)) 1#32) (b (ix2 r j)))) 0#32)
      (IntOp.cmpi CmpIPredicate.sle (IntOp.subi (a (ix2 r j)) (Scalar.select (IntOp.andi (c (ix2 r j)) (IntOp.cmpi CmpIPredicate.ne (e (ix2 r j)) 0#32))
            (IntOp.subi (b (ix2 r j)) 1#32) (b (ix2 r j)))) 8#32) := by
  pointwise [k0_pay6]

theorem bandM_apply (r : Fin 128) (j : Fin 768) : bandM (ix2 r j) = if band r.val j.val then 1#1 else 0#1 := by
  have h : ∀ (r : Fin 2) (j : Fin 12), IntOp.andi (IntOp.cmpi CmpIPredicate.sge (IntOp.subi (BitVec.ofNat 32 (r.val + 8)) (BitVec.ofNat 32 j.val)) 0#32)
      (IntOp.cmpi CmpIPredicate.sle (IntOp.subi (BitVec.ofNat 32 (r.val + 8)) (BitVec.ofNat 32 j.val)) 8#32)
      = if r.val ≤ j.val ∧ j.val < r.val + 9 then 1#1 else 0#1 := by decide +kernel
  unfold bandM
  rw [pay6_apply, laneV, rowV]
  refine (h ⟨r.val / 64, by omega⟩ ⟨j.val / 64, by omega⟩).trans ?_
  refine if_congr ?_ rfl rfl
  simp only [band]
  omega

/-- One head's bias rows: in base-two units within the band, masked out of it. -/
theorem biasRow_apply {d : Vec Ideal S1x768 .f32} {f : ℕ → ℝ} (hd : ∀ i : Fin 768, d (ix2 0 i) = ((f (if i.val < 640 then min (640 - i.val) 256 else 256) : ℝ) : EReal))
    (r : Fin 128) (j : Fin 640) :
    biasRow d (ix3 0 r j) = if band r.val j.val then (((Real.log 2)⁻¹ * f (min (640 + r - j) 256) : ℝ) : EReal) else ⊥ := by
  have hr := r.isLt
  have hj := j.isLt
  unfold biasRow
  have e : k0_pay18 bandM d (ix3 0 r j) = Scalar.select (bandM (ix2 r ⟨j.val, by omega⟩))
      ((if h : (j.val + 1024 - r.val % 1024) % 1024 < 768 then d (ix2 0 ⟨(j.val + 1024 - r.val % 1024) % 1024, h⟩)
        else d (ix2 0 ⟨512 + ((j.val + 1024 - r.val % 1024) % 1024 - 768), by omega⟩)) *
        Named.named (F := Ideal) (φ := .f32) κ "log2e" 1069066811#32)
      (Named.named (F := Ideal) (φ := .f32) κ "mask" 4048155338#32) := by pointwise [k0_pay18]
  rw [e, bandM_apply, log2e, mask]
  by_cases hb : band r.val j.val
  · rw [if_pos hb, if_pos hb]
    change (_ : EReal) * _ = _
    have hb' := hb
    simp only [band] at hb'
    by_cases hjr : r.val ≤ j.val
    · have hl : (j.val + 1024 - r.val % 1024) % 1024 = j.val - r.val := by omega
      rw [dif_pos (by omega), hd, mul_comm, ← EReal.coe_mul]
      simp only [hl]
      rw [if_pos (by omega), show 640 - (j.val - r.val) = 640 + r.val - j.val by omega]
    · have hl : (j.val + 1024 - r.val % 1024) % 1024 = 1024 + j.val - r.val := by omega
      rw [dif_neg (by omega), hd, mul_comm, ← EReal.coe_mul]
      simp only [hl]
      rw [if_neg (by omega), show min (640 + r.val - j.val) 256 = 256 by omega]
  · rw [if_neg hb, if_neg hb]
    rfl

theorem pay19_apply (p : Fin 4) (R : Fin 256) (j : Fin 640) : (k0_pay19 (F := Ideal)) (ix3 p R j) = ⊥ := by
  rw [← mask]; pointwise [k0_pay19]

/-- The bias table that the first tile builds. -/
theorem bT_apply {x6 : Vec Ideal S8x768 .f32}
    (hd : ∀ (n : Fin 8) (i : Fin 768), x6 (ix2 n i) = ((I.rb n (if i.val < 640 then min (640 - i.val) 256 else 256) : ℝ) : EReal)) :
    BiasTab I (bT x6) := by
  have H : ∀ (n : Fin 8) (inb) (r : Fin 128) (j : Fin 640), biasRow (View.ld x6 (Rect.unit (s := S8x768) ![n.val, 0] S1x768.size inb)) (ix3 0 r j)
      = if band r.val j.val then (((Real.log 2)⁻¹ * I.rb n (min (640 + r - j) 256) : ℝ) : EReal) else ⊥ := by
    intro n inb r j
    refine biasRow_apply (f := I.rb n) (fun i => ?_) r j
    rw [ld2 x6 n.val 0 inb 0 i n i (by simp) (by simp), hd]
  intro p R j
  have hp := p.isLt
  have hR := R.isLt
  have hj := j.isLt
  unfold bT
  rw [canon_over, over3]
  by_cases h4 : 4 ≤ p.val
  · rw [dif_pos (by omega), pay19_apply, if_neg (by omega)]
  rw [dif_neg (by omega)]
  have fin : ∀ (n : Fin 8) (inb) (r : Fin 128) (j' : Fin 640) (u : Fin 1), n.val = 2 * p.val + R.val / 128 → r.val = R.val % 128 → j'.val = j.val →
      biasRow (View.ld x6 (Rect.unit (s := S8x768) ![n.val, 0] S1x768.size inb)) (ix3 u r j')
      = if p.val < 4 ∧ band (R % 128) j then (((Real.log 2)⁻¹ * I.rb (2 * p + R / 128) (min (640 + R % 128 - j) 256) : ℝ) : EReal) else ⊥ := by
    intro n inb r j' u h1 h2 h3
    rw [show u = 0 from Subsingleton.elim _ _, H, h1, h2, h3]
    exact if_congr ⟨fun h => ⟨by omega, h⟩, fun h => h.2⟩ rfl rfl
  rw [over3]; split
  · exact fin 7 _ _ _ _ (by change 7 = _; omega) (by (try dsimp only); omega) (by (try dsimp only); omega)
  rw [over3]; split
  · exact fin 6 _ _ _ _ (by change 6 = _; omega) (by (try dsimp only); omega) (by (try dsimp only); omega)
  rw [over3]; split
  · exact fin 5 _ _ _ _ (by change 5 = _; omega) (by (try dsimp only); omega) (by (try dsimp only); omega)
  rw [over3]; split
  · exact fin 4 _ _ _ _ (by change 4 = _; omega) (by (try dsimp only); omega) (by (try dsimp only); omega)
  rw [over3]; split
  · exact fin 3 _ _ _ _ (by change 3 = _; omega) (by (try dsimp only); omega) (by (try dsimp only); omega)
  rw [over3]; split
  · exact fin 2 _ _ _ _ (by change 2 = _; omega) (by (try dsimp only); omega) (by (try dsimp only); omega)
  rw [over3]; split
  · exact fin 1 _ _ _ _ (by change 1 = _; omega) (by (try dsimp only); omega) (by (try dsimp only); omega)
  rw [over3]; split
  · exact fin 0 _ _ _ _ (by change 0 = _; omega) (by (try dsimp only); omega) (by (try dsimp only); omega)
  omega

theorem pay25_apply (a : Vec Ideal S128x128 .bf16) (s : Vec Ideal S1x128 .f32) (b : Vec Ideal S128x1024 .bf16) (r : Fin 128) (m : Fin 1024) :
    k0_pay25 a s b (ix2 r m) = ∑ j : Fin 128, a (ix2 r j) * s (ix2 0 j) * b (ix2 j m) := by
  pointwise [k0_pay25]

/-- The pooled branch's weights that the first tile builds. -/
theorem wT_apply {x8 : Vec Ideal S512x128 .bf16} {x9 : Vec Ideal S1x512 .f32} {x10 : Vec Ideal S512x1024 .bf16}
    (h8 : ∀ (c : Fin 512) (j : Fin 128), x8 (ix2 c j) = ((I.wg (c.val / 128) (c.val % 128) j : ℝ) : EReal))
    (h9 : ∀ c : Fin 512, x9 (ix2 0 c) = ((I.ps c : ℝ) : EReal)) (h10 : ∀ (c : Fin 512) (m : Fin 1024), x10 (ix2 c m) = ((I.wp c m : ℝ) : EReal)) :
    WTab I (wT x8 x9 x10) := by
  have H : ∀ (g : Fin 4) (ia ib ic) (r : Fin 128) (m : Fin 1024), k0_pay25 (View.ld x8 (Rect.unit (s := S512x128) ![128 * g.val, 0] S128x128.size ia))
      (View.ld x9 (Rect.unit (s := S1x512) ![0, 128 * g.val] S1x128.size ib)) (View.ld x10 (Rect.unit (s := S512x1024) ![128 * g.val, 0] S128x1024.size ic)) (ix2 r m)
      = ((∑ j : Fin 128, I.wg g r j * I.ps (128 * g + j) * I.wp (128 * g + j) m : ℝ) : EReal) := by
    intro g ia ib ic r m
    rw [pay25_apply, ← coe_sum]
    refine Finset.sum_congr rfl fun j _ => ?_
    rw [ld2 x8 (128 * g.val) 0 ia r j ⟨128 * g.val + r.val, by omega⟩ j rfl (by simp), ld2 x9 0 (128 * g.val) ib 0 j 0 ⟨128 * g.val + j.val, by omega⟩ (by simp) rfl,
      ld2 x10 (128 * g.val) 0 ic j m ⟨128 * g.val + j.val, by omega⟩ m rfl (by simp), h8, h9, h10, ← EReal.coe_mul, ← EReal.coe_mul]
    simp only [show (128 * g.val + r.val) / 128 = g.val by omega, show (128 * g.val + r.val) % 128 = r.val by omega]
  intro c m
  have hc := c.isLt
  have hm := m.isLt
  have fin : ∀ (g : Fin 4) (ia ib ic) (r : Fin 128) (m' : Fin 1024), g.val = c.val / 128 → r.val = c.val % 128 → m'.val = m.val →
      k0_pay25 (View.ld x8 (Rect.unit (s := S512x128) ![128 * g.val, 0] S128x128.size ia))
      (View.ld x9 (Rect.unit (s := S1x512) ![0, 128 * g.val] S1x128.size ib)) (View.ld x10 (Rect.unit (s := S512x1024) ![128 * g.val, 0] S128x1024.size ic)) (ix2 r m')
      = ((∑ j : Fin 128, I.wg (c.val / 128) (c.val % 128) j * I.ps (128 * (c.val / 128) + j) * I.wp (128 * (c.val / 128) + j) m : ℝ) : EReal) := by
    intro g ia ib ic r m' h1 h2 h3
    rw [H, h1, h2, Fin.ext h3]
  unfold wT
  rw [canon_over, over2]; split
  · exact fin 3 _ _ _ _ _ (by change 3 = _; omega) (by (try dsimp only); omega) (by (try dsimp only); omega)
  rw [over2]; split
  · exact fin 2 _ _ _ _ _ (by change 2 = _; omega) (by (try dsimp only); omega) (by (try dsimp only); omega)
  rw [over2]; split
  · exact fin 1 _ _ _ _ _ (by change 1 = _; omega) (by (try dsimp only); omega) (by (try dsimp only); omega)
  rw [over2]; split
  · exact fin 0 _ _ _ _ _ (by change 0 = _; omega) (by (try dsimp only); omega) (by (try dsimp only); omega)
  omega

end Cert.KernelIdeal.Value
-- ==== Proof.MixWin.lean ====
/-
  The windows that the token-mixing kernel keeps from tile to tile, and what it carries out of a tile: keys, values
  with their lanes of ones, and the rows that are pooled.
-/
module

public import proofs.«01_k».proof.Proof.MixTab

@[expose] public section

noncomputable section

namespace Cert.KernelIdeal.Value

open Cert.KernelIdeal Cert.KernelIdeal.Gen Idealize.ShloMosaic Cert.Layer Cert.Layer.Mix

variable {I : Inp}

/-- The keys carried out of tile `i`. -/
def KCar (I : Inp) (i : ℕ) (X : Vec Ideal S1024x512 .bf16) : Prop := ∀ (j : Fin 1024) (c : Fin 512), j.val < 512 →
  X (ix2 j c) = ((kn I (512 * i + j) (c / 64) (c % 64) : ℝ) : EReal)

/-- The lanes of ones, in the rows of a tile's own values. -/
def VOne (X : Vec Ideal S1024x1024 .bf16) : Prop := ∀ j c : Fin 1024, 512 ≤ j.val → 128 ≤ c.val % 256 → X (ix2 j c) = ((1 : ℝ) : EReal)

/-- The values carried out of tile `i`, with their lanes of ones. -/
def VCar (I : Inp) (i : ℕ) (X : Vec Ideal S1024x1024 .bf16) : Prop := ∀ j c : Fin 1024, j.val < 512 →
  X (ix2 j c) = (((if c.val % 256 < 128 then z I (512 * i + j) (1024 + (128 * (c / 256) + c % 256)) else 1) : ℝ) : EReal)

/-- The rows to be pooled carried out of tile `i`: its last sixteen. -/
def UCar (I : Inp) (i : ℕ) (X : Vec Ideal S528x512 .f32) : Prop := ∀ (j : Fin 528) (c : Fin 512), j.val < 16 →
  X (ix2 j c) = ((z I (512 * i + 496 + j) (1536 + c) : ℝ) : EReal)

theorem kL_own {i : ℕ} (X : Vec Ideal S1024x512 .bf16) {K : FVec Ideal S512x512 .bf16} (hK : ∀ t c : Fin 512, K (ix2 t c) = ((kn I (512 * i + t) (c / 64) (c % 64) : ℝ) : EReal))
    (L : List (View.Piece (Elt Ideal) S1024x512 .bf16)) (j : Fin 1024) (c : Fin 512) (h : 512 ≤ j.val) :
    over X (kL K ++ L) (ix2 j c) = ((kn I (512 * i + j - 512) (c / 64) (c % 64) : ℝ) : EReal) := by
  unfold kL
  rw [List.cons_append, List.nil_append, over2, dif_pos (by omega), hK]
  simp only [show 512 * i + (j.val - 512) = 512 * i + j.val - 512 by omega, Nat.sub_zero]

theorem kwin_next {i : ℕ} {X : Vec Ideal S1024x512 .bf16} (hX : KCar I i X) {K : FVec Ideal S512x512 .bf16}
    (hK : ∀ t c : Fin 512, K (ix2 t c) = ((kn I (512 * (i + 1) + t) (c / 64) (c % 64) : ℝ) : EReal)) : KWin I (i + 1) (over X (kL K)) := by
  intro j c
  rw [if_pos (by omega)]
  by_cases h : 512 ≤ j.val
  · rw [← List.append_nil (kL K)]
    exact kL_own X hK [] j c h
  · unfold kL
    rw [over2, dif_neg (by omega)]
    refine (hX j c (by omega)).trans ?_
    rw [show 512 * (i + 1) + j.val - 512 = 512 * i + j.val by omega]

theorem kwin_first (X : Vec Ideal S1024x512 .bf16) {K : FVec Ideal S512x512 .bf16}
    (hK : ∀ t c : Fin 512, K (ix2 t c) = ((kn I (512 * 0 + t) (c / 64) (c % 64) : ℝ) : EReal)) : KWin I 0 (over X (kL K ++ kZ)) := by
  intro j c
  have e : ∀ t c : Fin 512, (k0_pay31 (F := Ideal)) (ix2 t c) = ((0 : ℝ) : EReal) := by
    intro t c
    rw [EReal.coe_zero, ← Ideal.ofBits_zero_bf16]; pointwise [k0_pay31]
  by_cases h : 512 ≤ j.val
  · rw [if_pos (by omega)]
    exact kL_own X hK _ j c h
  · rw [if_neg (by omega)]
    unfold kL kZ
    rw [List.cons_append, List.nil_append, over2, dif_neg (by omega), over2, dif_pos (by omega), e]

theorem kcar {i : ℕ} (X : Vec Ideal S1024x512 .bf16) {K : FVec Ideal S512x512 .bf16} (hK : ∀ t c : Fin 512, K (ix2 t c) = ((kn I (512 * i + t) (c / 64) (c % 64) : ℝ) : EReal))
    (Y : Vec Ideal S1024x512 .bf16) (L M : List (View.Piece (Elt Ideal) S1024x512 .bf16)) : KCar I i (over Y (kC (over X (kL K ++ L)) :: M)) := by
  intro j c h
  have e : ∀ (w : Vec Ideal S512x512 .bf16) (t c : Fin 512), k0_pay168 w (ix2 t c) = w (ix2 t c) := by intro w t c; pointwise [k0_pay168]
  unfold kC
  rw [over2, dif_pos (by omega), e]
  rw [ld2 _ 512 0 _ _ _ ⟨512 + j.val, by omega⟩ c (by simp) (by simp), kL_own X hK L _ _ (by simp)]
  simp only [show 512 * i + (512 + j.val) - 512 = 512 * i + j.val by omega]

theorem pay86_split (h : FVec Ideal S512x1024 .bf16) (w : Vec Ideal S1024x512 .bf16) (t : Fin 512) (l : Fin 128) :
    k0_pay87 h w (ix2 t l) = k0_pay86 h w (ix2 t ⟨0 + l.val, by omega⟩) ∧ k0_pay88 h w (ix2 t l) = k0_pay86 h w (ix2 t ⟨128 + l.val, by omega⟩)
      ∧ k0_pay89 h w (ix2 t l) = k0_pay86 h w (ix2 t ⟨256 + l.val, by omega⟩) ∧ k0_pay90 h w (ix2 t l) = k0_pay86 h w (ix2 t ⟨384 + l.val, by omega⟩) := by
  unfold k0_pay87 k0_pay88 k0_pay89 k0_pay90
  generalize k0_pay86 h w = p
  refine ⟨?_, ?_, ?_, ?_⟩
  · pointwise
  · pointwise
  · pointwise
  · pointwise

variable {x0 : Vec Ideal S1x512x1024 .f32} {x1 : Vec Ideal S1x9x1024 .f32} {x2 : Vec Ideal S1x1024 .f32}
  {x3 : Vec Ideal S1024x4096 .bf16} {x4 x5 : Vec Ideal S1x64 .f32} {x7 : Vec Ideal S512x1024 .bf16} {x11 : Vec Ideal S1024x1024 .bf16}

/-- A tile's own values in their window: elsewhere what is laid under them. -/
theorem vL_own {i : ℕ} (B : Blk I (512 * i) x0 x1 x2 x3 x4 x5 x7 x11) {h : FVec Ideal S512x1024 .bf16} (H : Hid I (512 * i) h) (X : Vec Ideal S1024x1024 .bf16)
    (L : List (View.Piece (Elt Ideal) S1024x1024 .bf16)) (j c : Fin 1024) :
    over X (vL h x3 ++ L) (ix2 j c) = if 512 ≤ j.val ∧ c.val % 256 < 128 then ((z I (512 * i + j - 512) (1024 + (128 * (c / 256) + c % 256)) : ℝ) : EReal)
      else over X L (ix2 j c) := by
  have hj := j.isLt
  have hc := c.isLt
  have e : ∀ (t n : Fin 512), t.val = j.val - 512 → 512 ≤ j.val → n.val = 128 * (c.val / 256) + c.val % 256 →
      k0_pay86 h (View.ld x3 (Rect.unit (s := S1024x4096) ![0, 1024] S1024x512.size inb_S1024x4096_S1024x512_0_1024)) (ix2 t n)
      = ((z I (512 * i + j - 512) (1024 + (128 * (c / 256) + c % 256)) : ℝ) : EReal) := by
    intro t n h1 h2 h3
    rw [pay86_apply, proj B H 1024 _ t n, h1, h3, show 512 * i + (j.val - 512) = 512 * i + j.val - 512 by omega]
  unfold vL
  simp only [List.cons_append, List.nil_append]
  rw [over2]; split
  · rw [if_pos (by omega), (pay86_split _ _ _ _).2.2.2]
    exact e _ _ rfl (by omega) (by dsimp only; omega)
  rw [over2]; split
  · rw [if_pos (by omega), (pay86_split _ _ _ _).2.2.1]
    exact e _ _ rfl (by omega) (by dsimp only; omega)
  rw [over2]; split
  · rw [if_pos (by omega), (pay86_split _ _ _ _).2.1]
    exact e _ _ rfl (by omega) (by dsimp only; omega)
  rw [over2]; split
  · rw [if_pos (by omega), (pay86_split _ _ _ _).1]
    exact e _ _ rfl (by omega) (by dsimp only; omega)
  rw [if_neg (by omega)]

theorem vwin_next {i : ℕ} (B : Blk I (512 * (i + 1)) x0 x1 x2 x3 x4 x5 x7 x11) {h : FVec Ideal S512x1024 .bf16} (H : Hid I (512 * (i + 1)) h) {X : Vec Ideal S1024x1024 .bf16}
    (hX : VCar I i X) (hX1 : VOne X) : VWin I (i + 1) (over X (vL h x3)) := by
  intro j c
  rw [← List.append_nil (vL h x3), vL_own B H]
  rw [if_pos (by omega : 512 ≤ 512 * (i + 1) + j.val)]
  by_cases hj : 512 ≤ j.val
  · by_cases hc : c.val % 256 < 128
    · rw [if_pos ⟨hj, hc⟩, if_pos hc]
    · rw [if_neg (by omega), if_neg hc]
      exact hX1 j c hj (by omega)
  · rw [if_neg (by omega)]
    refine (hX j c (by omega)).trans ?_
    rw [show 512 * (i + 1) + j.val - 512 = 512 * i + j.val by omega]

theorem vZ_own (X : Vec Ideal S1024x1024 .bf16) (L : List (View.Piece (Elt Ideal) S1024x1024 .bf16)) (j c : Fin 1024) :
    over X (vZ ++ L) (ix2 j c) = if 512 ≤ j.val then over X L (ix2 j c) else ((0 : ℝ) : EReal) := by
  have e : ∀ (t : Fin 512) (c : Fin 1024), (k0_pay32 (F := Ideal)) (ix2 t c) = ((0 : ℝ) : EReal) := by
    intro t c
    rw [EReal.coe_zero, ← Ideal.ofBits_zero_bf16]; pointwise [k0_pay32]
  unfold vZ
  rw [List.cons_append, List.nil_append, over2]
  by_cases h : 512 ≤ j.val
  · rw [if_pos h, dif_neg (by omega)]
  · rw [if_neg h, dif_pos (by omega), e]

theorem vO_own (X : Vec Ideal S1024x1024 .bf16) : VOne (over X vO) := by
  intro j c h h'
  have hj := j.isLt
  have hc := c.isLt
  have e : ∀ (t : Fin 512) (l : Fin 128), (k0_pay26 (F := Ideal)) (ix2 t l) = ((1 : ℝ) : EReal) ∧ (k0_pay27 (F := Ideal)) (ix2 t l) = ((1 : ℝ) : EReal)
      ∧ (k0_pay28 (F := Ideal)) (ix2 t l) = ((1 : ℝ) : EReal) ∧ (k0_pay30 (F := Ideal) k0_pay29) (ix2 t l) = ((1 : ℝ) : EReal) := by
    intro t l
    rw [EReal.coe_one, ← Ideal.ofBits_one_bf16]
    refine ⟨?_, ?_, ?_, ?_⟩
    · pointwise [k0_pay26]
    · pointwise [k0_pay27]
    · pointwise [k0_pay28]
    · pointwise [k0_pay30, k0_pay29]
  unfold vO
  rw [over2]; split
  · exact (e _ _).2.2.2
  rw [over2]; split
  · exact (e _ _).2.2.1
  rw [over2]; split
  · exact (e _ _).2.1
  rw [over2]; split
  · exact (e _ _).1
  omega

theorem vwin_first (B : Blk I (512 * 0) x0 x1 x2 x3 x4 x5 x7 x11) {h : FVec Ideal S512x1024 .bf16} (H : Hid I (512 * 0) h) (X : Vec Ideal S1024x1024 .bf16)
    (L : List (View.Piece (Elt Ideal) S1024x1024 .bf16)) (hX1 : VOne (over X L)) : VWin I 0 (over X (vL h x3 ++ vZ ++ L)) := by
  intro j c
  rw [List.append_assoc, vL_own B H, vZ_own]
  by_cases hj : 512 ≤ j.val
  · rw [if_pos (by omega : 512 ≤ 512 * 0 + j.val)]
    by_cases hc : c.val % 256 < 128
    · rw [if_pos ⟨hj, hc⟩, if_pos hc]
    · rw [if_neg (by omega), if_neg hc, if_pos hj]
      exact hX1 j c hj (by omega)
  · rw [if_neg (by omega), if_neg hj, if_neg (by omega)]

theorem vcar {i : ℕ} {X : Vec Ideal S1024x1024 .bf16} {L : List (View.Piece (Elt Ideal) S1024x1024 .bf16)} (hV : VWin I i (over X L)) :
    VCar I i (over X (vC (over X L) :: L)) ∧ VOne (over X (vC (over X L) :: L)) := by
  have e : ∀ (w : Vec Ideal S512x1024 .bf16) (t : Fin 512) (c : Fin 1024), k0_pay169 w (ix2 t c) = w (ix2 t c) := by intro w t c; pointwise [k0_pay169]
  constructor
  · intro j c h
    generalize hY : over X L = Y at hV
    unfold vC
    rw [over2, dif_pos (by omega), e, ld2 _ 512 0 _ _ _ ⟨512 + j.val, by omega⟩ c (by simp) (by simp), hV, if_pos (by dsimp only; omega)]
    simp only [show 512 * i + (512 + j.val) - 512 = 512 * i + j.val by omega]
  · intro j c h h'
    generalize hY : over X L = Y at hV
    unfold vC
    rw [over2, dif_neg (by omega), hY, hV, if_pos (by omega), if_neg (by omega)]

theorem uL_own {i : ℕ} (B : Blk I (512 * i) x0 x1 x2 x3 x4 x5 x7 x11) {h : FVec Ideal S512x1024 .f32} (H : Hid I (512 * i) h) (X : Vec Ideal S528x512 .f32)
    (L : List (View.Piece (Elt Ideal) S528x512 .f32)) (j : Fin 528) (c : Fin 512) :
    over X (uL h x3 ++ L) (ix2 j c) = if 16 ≤ j.val then ((z I (512 * i + j - 16) (1536 + c) : ℝ) : EReal) else over X L (ix2 j c) := by
  have e : ∀ (w : Vec Ideal S1024x512 .bf16) (t c : Fin 512), k0_pay39 h w (ix2 t c) = k0_pay38 h w (ix2 t c) := by
    intro w t c
    unfold k0_pay39
    generalize k0_pay38 h w = p
    pointwise
  unfold uL
  rw [List.cons_append, List.nil_append, over2]
  by_cases hj : 16 ≤ j.val
  · rw [if_pos hj, dif_pos (by omega), e, pay38_apply, proj B H 1536]
    simp only [show 512 * i + (j.val - 16) = 512 * i + j.val - 16 by omega, Nat.sub_zero]
  · rw [if_neg hj, dif_neg (by omega)]

theorem uwin_next {i : ℕ} (B : Blk I (512 * (i + 1)) x0 x1 x2 x3 x4 x5 x7 x11) {h : FVec Ideal S512x1024 .f32} (H : Hid I (512 * (i + 1)) h) {X : Vec Ideal S528x512 .f32}
    (hX : UCar I i X) : UWin I (i + 1) (over X (uL h x3)) := by
  intro j c
  rw [← List.append_nil (uL h x3), uL_own B H, if_pos (by omega : 16 ≤ 512 * (i + 1) + j.val)]
  by_cases hj : 16 ≤ j.val
  · rw [if_pos hj]
  · rw [if_neg hj]
    refine (hX j c (by omega)).trans ?_
    rw [show 512 * (i + 1) + j.val - 16 = 512 * i + 496 + j.val by omega]

theorem uwin_first (B : Blk I (512 * 0) x0 x1 x2 x3 x4 x5 x7 x11) {h : FVec Ideal S512x1024 .f32} (H : Hid I (512 * 0) h) (X : Vec Ideal S528x512 .f32) :
    UWin I 0 (over X (uL h x3 ++ uZ)) := by
  have e : ∀ (t : Fin 16) (c : Fin 512), (k0_pay33 (F := Ideal)) (ix2 t c) = ((0 : ℝ) : EReal) := by
    intro t c
    rw [EReal.coe_zero, ← Ideal.ofBits_zero_f32]; pointwise [k0_pay33]
  intro j c
  rw [uL_own B H]
  by_cases hj : 16 ≤ j.val
  · rw [if_pos hj, if_pos (by omega)]
  · rw [if_neg hj, if_neg (by omega)]
    unfold uZ
    rw [over2, dif_pos (by omega), e]

theorem ucar {i : ℕ} (B : Blk I (512 * i) x0 x1 x2 x3 x4 x5 x7 x11) {h : FVec Ideal S512x1024 .f32} (H : Hid I (512 * i) h) (X Y : Vec Ideal S528x512 .f32)
    (L M : List (View.Piece (Elt Ideal) S528x512 .f32)) : UCar I i (over Y (uC (over X (uL h x3 ++ L)) :: M)) := by
  have e : ∀ (w : Vec Ideal S16x512 .f32) (t : Fin 16) (c : Fin 512), k0_pay49 w (ix2 t c) = w (ix2 t c) := by intro w t c; pointwise [k0_pay49]
  intro j c hj
  unfold uC
  rw [over2, dif_pos (by omega), e, ld2 _ 512 0 _ _ _ ⟨512 + j.val, by omega⟩ c (by simp) (by simp), uL_own B H, if_pos (by dsimp only; omega)]
  simp only [show 512 * i + (512 + j.val) - 16 = 512 * i + 496 + j.val by omega]

end Cert.KernelIdeal.Value
-- ==== Proof.MixInv.lean ====
/-
  What the token-mixing kernel holds after every tile, by induction over the tiles: the tile's rows of the result, the
  keys, values and pooled rows carried on, and the tables.
-/
module

public import proofs.«01_k».proof.Proof.MixWin
public import proofs.«01_k».proof.Proof.Gen.KernelIdeal.Frame

@[expose] public section

noncomputable section

namespace Cert.KernelIdeal.Value

open Cert.KernelIdeal Cert.KernelIdeal.Gen Idealize.ShloMosaic Cert.Layer Cert.Layer.Mix
open Idealize.ShloMosaic.TcCoe

/-- What stands after tile `i`: its rows of the result, what is carried on, and the tables. -/
structure St (I : Inp) (i : ℕ) (o : Vec Ideal S1x512x1024 .f32 × Vec Ideal S1024x512 .bf16 × Vec Ideal S1024x1024 .bf16 × Vec Ideal S528x512 .f32 ×
    Vec Ideal S8x256x640 .f32 × Vec Ideal S512x1024 .bf16) : Prop where
  out : ∀ (t : Fin 512) (k : Fin 1024), o.1 (ix3 0 t k) = ((out I (512 * i + t) k : ℝ) : EReal)
  k : KCar I i o.2.1
  v : VCar I i o.2.2.1
  v1 : VOne o.2.2.1
  u : UCar I i o.2.2.2.1
  b : BiasTab I o.2.2.2.2.1
  w : WTab I o.2.2.2.2.2

theorem coords1 : ∀ t : Fin cfg0.N, (grid0.coords t 1).val = t.val % 16 :=
  (by decide +kernel : ∀ t : Fin grid0.N, (grid0.coords t 1).val = t.val % 16)

variable (m : (ℓ : Loc nD τ sig) → Buf (Elt Ideal) ℓ) (c : Dev nD)

theorem Blk.cast {I : Inp} {T0 T1 : ℕ} {x0 : Vec Ideal S1x512x1024 .f32} {x1 : Vec Ideal S1x9x1024 .f32} {x2 : Vec Ideal S1x1024 .f32}
    {x3 : Vec Ideal S1024x4096 .bf16} {x4 x5 : Vec Ideal S1x64 .f32} {x7 : Vec Ideal S512x1024 .bf16} {x11 : Vec Ideal S1024x1024 .bf16}
    (B : Blk I T0 x0 x1 x2 x3 x4 x5 x7 x11) (h : T0 = T1) : Blk I T1 x0 x1 x2 x3 x4 x5 x7 x11 := h ▸ B

/-- The blocks a tile reads, as the layer's arrays. -/
structure Rd (I : ℕ → Inp) : Prop where
  blk : ∀ t : Fin cfg0.N, Blk (I (t.val / 16)) (512 * (t.val % 16)) (iblk m c 0 t) (iblk m c 1 t) (iblk m c 2 t) (iblk m c 3 t) (iblk m c 4 t) (iblk m c 5 t)
    (iblk m c 7 t) (iblk m c 11 t)
  bias : ∀ (t : Fin cfg0.N) (n : Fin 8) (i : Fin 768), iblk m c 6 t (ix2 n i)
    = (((I 0).rb n (if i.val < 640 then min (640 - i.val) 256 else 256) : ℝ) : EReal)
  wg : ∀ (t : Fin cfg0.N) (r : Fin 512) (j : Fin 128), iblk m c 8 t (ix2 r j) = (((I 0).wg (r.val / 128) (r.val % 128) j : ℝ) : EReal)
  ps : ∀ (t : Fin cfg0.N) (r : Fin 512), iblk m c 9 t (ix2 0 r) = (((I 0).ps r : ℝ) : EReal)
  wp : ∀ (t : Fin cfg0.N) (r : Fin 512) (k : Fin 1024), iblk m c 10 t (ix2 r k) = (((I 0).wp r k : ℝ) : EReal)
  sameB : ∀ b X, BiasTab (I 0) X → BiasTab (I b) X
  sameW : ∀ b X, WTab (I 0) X → WTab (I b) X

variable {m c} {I : ℕ → Inp}

theorem st_all (R : Rd m c I) (R0 : ∀ b X, BiasTab (I b) X → BiasTab (I 0) X) (R1 : ∀ b X, WTab (I b) X → WTab (I 0) X) :
    ∀ (n : ℕ) (hn : n < cfg0.N), St (I (n / 16)) (n % 16) (outsAt0 m c n hn) := by
  intro n
  induction n with
  | zero =>
    intro hn
    have B := R.blk ⟨0, hn⟩
    have ei := coords1 ⟨0, hn⟩
    rw [show (⟨0, hn⟩ : Fin cfg0.N).val / 16 = 0 from Nat.zero_div 16, show (⟨0, hn⟩ : Fin cfg0.N).val % 16 = 0 from Nat.zero_mod 16] at B
    rw [show (⟨0, hn⟩ : Fin cfg0.N).val % 16 = 0 from Nat.zero_mod 16] at ei
    have B' := B.cast (congrArg (512 * ·) ei.symm)
    have H' : Hid (I 0) (512 * 0) (hT (iblk m c 0 ⟨0, hn⟩) (iblk m c 1 ⟨0, hn⟩) (iblk m c 2 ⟨0, hn⟩)) := fun t k => hT_apply B t k
    have H : Hid (I 0) (512 * 0) (k0_pay37 (hT (iblk m c 0 ⟨0, hn⟩) (iblk m c 1 ⟨0, hn⟩) (iblk m c 2 ⟨0, hn⟩))) := fun t k => (pay37_apply _ t k).trans (H' t k)
    have hK := kT_apply B H
    have hKW := kwin_first (View.canon []) hK
    have hVW := vwin_first B H (View.canon []) vO (vO_own _)
    have hUW := uwin_first B H' (View.canon [])
    have hB := bT_apply (I := I 0) (R.bias ⟨0, hn⟩)
    have hW := wT_apply (I := I 0) (R.wg ⟨0, hn⟩) (R.ps ⟨0, hn⟩) (R.wp ⟨0, hn⟩)
    have e := outsAt0_A m c ⟨0, hn⟩ rfl rfl
    rw [Nat.zero_div, Nat.zero_mod]
    change outsAt0 m c 0 hn = _ at e
    rw [e]
    refine ⟨fun t k => ?_, ?_, ?_, ?_, ?_, ?_, ?_⟩
    · dsimp only
      rw [out_A, canon_over (kL _ ++ kZ), canon_over (vL _ _ ++ vZ ++ vO), canon_over (uL _ _ ++ uZ)]
      refine (mixOut_apply B' ?_ ?_ ?_ hB hW t k).trans ?_
      · rw [ei]; exact hKW
      · rw [ei]; exact hVW
      · rw [ei]; exact hUW
      · rw [ei]
    · dsimp only
      rw [sK_A, canon_over (kC _ :: _), canon_over (kL _ ++ kZ)]
      exact kcar _ hK _ _ _
    · dsimp only
      rw [sV_A, canon_over (vC _ :: _), canon_over (vL _ _ ++ vZ ++ vO)]
      exact (vcar hVW).1
    · dsimp only
      rw [sV_A, canon_over (vC _ :: _), canon_over (vL _ _ ++ vZ ++ vO)]
      exact (vcar hVW).2
    · dsimp only
      rw [sU_A, canon_over (uC _ :: _), canon_over (uL _ _ ++ uZ)]
      exact ucar B H' _ _ _ _
    · dsimp only
      rw [sB_A]; exact hB
    · dsimp only
      rw [sW_A]; exact hW
  | succ n ih =>
    intro hn
    have P := ih (by omega)
    have hN : n + 1 < 32 := lt_of_lt_of_eq hn N_0
    have h0 : ¬(n + 1) % 32 = 0 := by omega
    have B := R.blk ⟨n + 1, hn⟩
    have ei := coords1 ⟨n + 1, hn⟩
    have B' := B.cast (congrArg (512 * ·) ei.symm)
    have H' : Hid (I ((n + 1) / 16)) (512 * ((n + 1) % 16)) (hT (iblk m c 0 ⟨n + 1, hn⟩) (iblk m c 1 ⟨n + 1, hn⟩) (iblk m c 2 ⟨n + 1, hn⟩)) := fun t k => hT_apply B t k
    have H : Hid (I ((n + 1) / 16)) (512 * ((n + 1) % 16)) (k0_pay37 (hT (iblk m c 0 ⟨n + 1, hn⟩) (iblk m c 1 ⟨n + 1, hn⟩) (iblk m c 2 ⟨n + 1, hn⟩))) :=
      fun t k => (pay37_apply _ t k).trans (H' t k)
    have hK := kT_apply B H
    have hB : BiasTab (I ((n + 1) / 16)) _ := R.sameB _ _ (R0 _ _ P.b)
    have hW : WTab (I ((n + 1) / 16)) _ := R.sameW _ _ (R1 _ _ P.w)
    by_cases h1 : (n + 1) % 16 = 0
    · rw [h1] at B H' H hK ei
      have hKW := kwin_first (View.canon []) hK
      have hVW := vwin_first B H (outsAt0 m c n (by omega)).2.2.1 [] P.v1
      rw [List.append_nil] at hVW
      have hUW := uwin_first B H' (View.canon [])
      have e := outsAt0_C m c ⟨n + 1, hn⟩ h0 h1
      change outsAt0 m c (n + 1) hn = _ at e
      rw [h1, e]
      refine ⟨fun t k => ?_, ?_, ?_, ?_, ?_, ?_, ?_⟩
      · dsimp only
        rw [out_C, canon_over (kL _ ++ kZ), canon_over (uL _ _ ++ uZ)]
        refine (mixOut_apply B' ?_ ?_ ?_ hB hW t k).trans ?_
        · rw [ei]; exact hKW
        · rw [ei]; exact hVW
        · rw [ei]; exact hUW
        · rw [ei]
      · dsimp only
        rw [sK_C, canon_over (kC _ :: _), canon_over (kL _ ++ kZ)]
        exact kcar _ hK _ _ _
      · dsimp only
        rw [sV_C]
        exact (vcar hVW).1
      · dsimp only
        rw [sV_C]
        exact (vcar hVW).2
      · dsimp only
        rw [sU_C, canon_over (uC _ :: _), canon_over (uL _ _ ++ uZ)]
        exact ucar B H' _ _ _ _
      · exact hB
      · exact hW
    · obtain ⟨eb, em⟩ : n / 16 = (n + 1) / 16 ∧ n % 16 + 1 = (n + 1) % 16 := by omega
      rw [eb] at P
      rw [← em] at B H' H hK ei ⊢
      have hKW := kwin_next P.k hK
      have hVW := vwin_next B H P.v P.v1
      have hUW := uwin_next B H' P.u
      have e := outsAt0_B m c ⟨n + 1, hn⟩ h0 h1
      change outsAt0 m c (n + 1) hn = _ at e
      rw [e]
      refine ⟨fun t k => ?_, ?_, ?_, ?_, ?_, ?_, ?_⟩
      · dsimp only
        rw [out_B]
        refine (mixOut_apply B' ?_ ?_ ?_ hB hW t k).trans ?_
        · rw [ei]; exact hKW
        · rw [ei]; exact hVW
        · rw [ei]; exact hUW
        · rw [ei]
      · dsimp only
        rw [sK_B]
        simpa only [← canon_over, List.append_nil] using kcar (View.canon []) hK (View.canon []) [] (kL (kT _ _ _))
      · dsimp only
        rw [sV_B]
        exact (vcar hVW).1
      · dsimp only
        rw [sV_B]
        exact (vcar hVW).2
      · dsimp only
        rw [sU_B]
        simpa only [← canon_over, List.append_nil] using ucar B H' (View.canon []) (View.canon []) [] (uL _ _)
      · exact hB
      · exact hW

end Cert.KernelIdeal.Value
-- ==== Proof.MixInp.lean ====
/-
  The token-mixing layer's arguments as real arrays, and its result as a function of them.
-/
module

public import proofs.«01_k».proof.Proof.MixMath

@[expose] public section

noncomputable section

namespace Cert.Layer.Mix

open Idealize.ShloMosaic

/-- An array of real numbers among the extended ones. -/
def IsReal {s : Shape} (a : s.Idx → EReal) : Prop := ∀ i, ((a i).toReal : EReal) = a i

/-- The arguments of the layer. -/
structure Args where
  x : (⟨3, ![2, 8192, 1024]⟩ : Shape).Idx → EReal
  md : (⟨3, ![2, 9, 1024]⟩ : Shape).Idx → EReal
  g : (⟨1, ![1024]⟩ : Shape).Idx → EReal
  w : (⟨2, ![1024, 4096]⟩ : Shape).Idx → EReal
  qg : (⟨1, ![64]⟩ : Shape).Idx → EReal
  kg : (⟨1, ![64]⟩ : Shape).Idx → EReal
  rb : (⟨2, ![8, 257]⟩ : Shape).Idx → EReal
  wa : (⟨2, ![512, 1024]⟩ : Shape).Idx → EReal
  wg : (⟨3, ![4, 128, 128]⟩ : Shape).Idx → EReal
  ps : (⟨1, ![512]⟩ : Shape).Idx → EReal
  wp : (⟨2, ![512, 1024]⟩ : Shape).Idx → EReal
  wo : (⟨2, ![1024, 1024]⟩ : Shape).Idx → EReal

/-- Every argument is an array of real numbers. -/
structure Args.Real (A : Args) : Prop where
  x : IsReal A.x
  md : IsReal A.md
  g : IsReal A.g
  w : IsReal A.w
  qg : IsReal A.qg
  kg : IsReal A.kg
  rb : IsReal A.rb
  wa : IsReal A.wa
  wg : IsReal A.wg
  ps : IsReal A.ps
  wp : IsReal A.wp
  wo : IsReal A.wo

/-- The layer's data for one batch entry: the arguments' real values, counted indices taken modulo the extents. -/
def Args.inp (A : Args) (b : Fin 2) : Inp where
  x t k := (A.x (ix3 b ⟨t % 8192, Nat.mod_lt _ (by decide)⟩ k)).toReal
  g k := (A.g (ix1 k)).toReal
  sh k := (A.md (ix3 b 3 k)).toReal
  sc k := (A.md (ix3 b 4 k)).toReal
  ga k := (A.md (ix3 b 5 k)).toReal
  w k n := (A.w (ix2 k ⟨n % 4096, Nat.mod_lt _ (by decide)⟩)).toReal
  qg e := (A.qg (ix1 ⟨e % 64, Nat.mod_lt _ (by decide)⟩)).toReal
  kg e := (A.kg (ix1 ⟨e % 64, Nat.mod_lt _ (by decide)⟩)).toReal
  rb n d := (A.rb (ix2 ⟨n % 8, Nat.mod_lt _ (by decide)⟩ ⟨d % 257, Nat.mod_lt _ (by decide)⟩)).toReal
  wa n k := (A.wa (ix2 ⟨n % 512, Nat.mod_lt _ (by decide)⟩ k)).toReal
  wg g i j := (A.wg (ix3 ⟨g % 4, Nat.mod_lt _ (by decide)⟩ ⟨i % 128, Nat.mod_lt _ (by decide)⟩ ⟨j % 128, Nat.mod_lt _ (by decide)⟩)).toReal
  ps n := (A.ps (ix1 ⟨n % 512, Nat.mod_lt _ (by decide)⟩)).toReal
  wp n k := (A.wp (ix2 ⟨n % 512, Nat.mod_lt _ (by decide)⟩ k)).toReal
  wo i k := (A.wo (ix2 i k)).toReal

/-- The layer's result at an element. -/
def Args.res (A : Args) (b : Fin 2) (t : Fin 8192) (k : Fin 1024) : EReal := ((out (A.inp b) t k : ℝ) : EReal)

end Cert.Layer.Mix
-- ==== Proof.MixValue.lean ====
/-
  The token-mixing kernel's result array at an element.
-/
module

public import proofs.«01_k».proof.Proof.MixInv
public import proofs.«01_k».proof.Proof.MixInp
public import proofs.«01_k».proof.Proof.Gen.KernelIdeal.Value

@[expose] public section

noncomputable section

namespace Cert.KernelIdeal.Value

open Cert.KernelIdeal Cert.KernelIdeal.Gen Idealize.ShloMosaic Cert.Layer Cert.Layer.Mix
open Idealize.ShloMosaic.TcCoe

variable (m : (ℓ : Loc nD τ sig) → Buf (Elt Ideal) ℓ) (c : Dev nD)

/-- The kernel's arguments. -/
def args : Args where
  x := m ((c : Thread nD τ).loc main_arg0)
  md := m ((c : Thread nD τ).loc main_arg1)
  g := m ((c : Thread nD τ).loc main_arg2)
  w := m ((c : Thread nD τ).loc main_arg3)
  qg := m ((c : Thread nD τ).loc main_arg4)
  kg := m ((c : Thread nD τ).loc main_arg5)
  rb := m ((c : Thread nD τ).loc main_arg6)
  wa := m ((c : Thread nD τ).loc main_arg7)
  wg := m ((c : Thread nD τ).loc main_arg8)
  ps := m ((c : Thread nD τ).loc main_arg9)
  wp := m ((c : Thread nD τ).loc main_arg10)
  wo := m ((c : Thread nD τ).loc main_arg11)

theorem V_v0 : V m c main_v0 = truncf (F := Ideal) .bf16 (m ((c : Thread nD τ).loc main_arg3)) bitsLt_bf16_f32 := by
  simp only [V, hostOps0]; after_results_simp <;> rfl
theorem V_v1 : V m c main_v1 = truncf (F := Ideal) .bf16 (m ((c : Thread nD τ).loc main_arg7)) bitsLt_bf16_f32 := by
  simp only [V, hostOps0]; after_results_simp <;> rfl
theorem V_v3 : V m c main_v3 = truncf (F := Ideal) .bf16 (shapeCast _ (m ((c : Thread nD τ).loc main_arg8)) shapeCasts_S4x128x128_S512x128) bitsLt_bf16_f32 := by
  simp only [V, hostOps0]; after_results_simp <;> rfl
theorem V_v4 : V m c main_v4 = truncf (F := Ideal) .bf16 (m ((c : Thread nD τ).loc main_arg10)) bitsLt_bf16_f32 := by
  simp only [V, hostOps0]; after_results_simp <;> rfl
theorem V_v5 : V m c main_v5 = truncf (F := Ideal) .bf16 (m ((c : Thread nD τ).loc main_arg11)) bitsLt_bf16_f32 := by
  simp only [V, hostOps0]; after_results_simp <;> rfl
theorem V_v6 : V m c main_v6 = shapeCast _ (m ((c : Thread nD τ).loc main_arg2)) shapeCasts_S1024_S1x1024 := by
  simp only [V, hostOps0]; after_results_simp <;> rfl
theorem V_v7 : V m c main_v7 = shapeCast _ (m ((c : Thread nD τ).loc main_arg4)) shapeCasts_S64_S1x64 := by
  simp only [V, hostOps0]; after_results_simp <;> rfl
theorem V_v8 : V m c main_v8 = shapeCast _ (m ((c : Thread nD τ).loc main_arg5)) shapeCasts_S64_S1x64 := by
  simp only [V, hostOps0]; after_results_simp <;> rfl
theorem V_v15 : V m c main_v15 = shapeCast _ (m ((c : Thread nD τ).loc main_arg9)) shapeCasts_S512_S1x512 := by
  simp only [V, hostOps0]; after_results_simp <;> rfl
theorem V_v14 : V m c main_v14 = concatenate S8x768 1
    [⟨S8x385, broadcastInDim S8x385 ![0, 1] bcast_S8x1_S8x385_0_1 (extractStridedSlice S8x1 ![0, 256] (m ((c : Thread nD τ).loc main_arg6)) slices_S8x257_S8x1_0_256)⟩,
     ⟨S8x255, Host.reverse [1] (extractStridedSlice S8x255 ![0, 1] (m ((c : Thread nD τ).loc main_arg6)) slices_S8x257_S8x255_0_1)⟩,
     ⟨S8x128, broadcastInDim S8x128 ![0, 1] bcast_S8x1_S8x128_0_1 (extractStridedSlice S8x1 ![0, 256] (m ((c : Thread nD τ).loc main_arg6)) slices_S8x257_S8x1_0_256)⟩]
    concatenates_S8x385_S8x255_S8x128_S8x768_d1 := by
  simp only [V, hostOps0]; after_results_simp <;> rfl

theorem lt32 (t : Fin cfg0.N) : t.val < 32 := lt_of_lt_of_eq t.isLt N_0

theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem index12 : ∀ t : Fin cfg0.N, win0_12.index t 0 = t.val / 16 ∧ win0_12.index t 1 = t.val % 16 ∧ win0_12.index t 2 = 0 :=
  (by decide +kernel : ∀ t : Fin grid0.N, win0_12.index t 0 = t.val / 16 ∧ win0_12.index t 1 = t.val % 16 ∧ win0_12.index t 2 = 0)
/-- Every other input is one block. -/
theorem indexW : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0))

theorem iblk0 (t : Fin cfg0.N) (p : Fin 512) (k : Fin 1024) :
    iblk m c 0 t (ix3 0 p k) = V m c main_arg0 (ix3 ⟨t.val / 16, by have := lt32 t; omega⟩ ⟨512 * (t.val % 16) + p.val, by omega⟩ k) := by
  show V m c main_arg0 ((win0_0.blk t).view.emb (ix3 0 p k)) = _
  congr 1
  funext a; apply Fin.ext
  match a with
  | ⟨0, _⟩ => show win0_0.index t 0 * 1 + 1 * 0 = t.val / 16; rw [(index0 t).1]; omega
  | ⟨1, _⟩ => show win0_0.index t 1 * 512 + 1 * p.val = 512 * (t.val % 16) + p.val; rw [(index0 t).2.1]; omega
  | ⟨2, _⟩ => show win0_0.index t 2 * 1024 + 1 * k.val = k.val; rw [(index0 t).2.2]; omega
theorem iblk1 (t : Fin cfg0.N) (r : Fin 9) (k : Fin 1024) :
    iblk m c 1 t (ix3 0 r k) = V m c main_arg1 (ix3 ⟨t.val / 16, by have := lt32 t; omega⟩ r k) := by
  show V m c main_arg1 ((win0_1.blk t).view.emb (ix3 0 r k)) = _
  congr 1
  funext a; apply Fin.ext
  match a with
  | ⟨0, _⟩ => show win0_1.index t 0 * 1 + 1 * 0 = t.val / 16; rw [(index1 t).1]; omega
  | ⟨1, _⟩ => show win0_1.index t 1 * 9 + 1 * r.val = r.val; rw [(index1 t).2.1]; omega
  | ⟨2, _⟩ => show win0_1.index t 2 * 1024 + 1 * k.val = k.val; rw [(index1 t).2.2]; omega
theorem iblk2 (t : Fin cfg0.N) : iblk m c 2 t = V m c main_v6 := by
  funext i
  obtain ⟨p, k, rfl⟩ : ∃ a b, i = ix2 a b := ⟨i 0, i 1, (ix2_eta i).symm⟩
  show V m c main_v6 ((win0_2.blk t).view.emb (ix2 p k)) = _
  congr 1
  funext a; apply Fin.ext
  match a with
  | ⟨0, _⟩ => show win0_2.index t 0 * 1 + 1 * p.val = p.val; rw [(indexW t).1.1]; omega
  | ⟨1, _⟩ => show win0_2.index t 1 * 1024 + 1 * k.val = k.val; rw [(indexW t).1.2]; omega
theorem iblk3 (t : Fin cfg0.N) : iblk m c 3 t = V m c main_v0 := by
  funext i
  obtain ⟨p, k, rfl⟩ : ∃ a b, i = ix2 a b := ⟨i 0, i 1, (ix2_eta i).symm⟩
  show V m c main_v0 ((win0_3.blk t).view.emb (ix2 p k)) = _
  congr 1
  funext a; apply Fin.ext
  match a with
  | ⟨0, _⟩ => show win0_3.index t 0 * 1024 + 1 * p.val = p.val; rw [(indexW t).2.1.1]; omega
  | ⟨1, _⟩ => show win0_3.index t 1 * 4096 + 1 * k.val = k.val; rw [(indexW t).2.1.2]; omega
theorem iblk4 (t : Fin cfg0.N) : iblk m c 4 t = V m c main_v7 := by
  funext i
  obtain ⟨p, k, rfl⟩ : ∃ a b, i = ix2 a b := ⟨i 0, i 1, (ix2_eta i).symm⟩
  show V m c main_v7 ((win0_4.blk t).view.emb (ix2 p k)) = _
  congr 1
  funext a; apply Fin.ext
  match a with
  | ⟨0, _⟩ => show win0_4.index t 0 * 1 + 1 * p.val = p.val; rw [(indexW t).2.2.1.1]; omega
  | ⟨1, _⟩ => show win0_4.index t 1 * 64 + 1 * k.val = k.val; rw [(indexW t).2.2.1.2]; omega
theorem iblk5 (t : Fin cfg0.N) : iblk m c 5 t = V m c main_v8 := by
  funext i
  obtain ⟨p, k, rfl⟩ : ∃ a b, i = ix2 a b := ⟨i 0, i 1, (ix2_eta i).symm⟩
  show V m c main_v8 ((win0_5.blk t).view.emb (ix2 p k)) = _
  congr 1
  funext a; apply Fin.ext
  match a with
  | ⟨0, _⟩ => show win0_5.index t 0 * 1 + 1 * p.val = p.val; rw [(indexW t).2.2.2.1.1]; omega
  | ⟨1, _⟩ => show win0_5.index t 1 * 64 + 1 * k.val = k.val; rw [(indexW t).2.2.2.1.2]; omega
theorem iblk6 (t : Fin cfg0.N) : iblk m c 6 t = V m c main_v14 := by
  funext i
  obtain ⟨p, k, rfl⟩ : ∃ a b, i = ix2 a b := ⟨i 0, i 1, (ix2_eta i).symm⟩
  show V m c main_v14 ((win0_6.blk t).view.emb (ix2 p k)) = _
  congr 1
  funext a; apply Fin.ext
  match a with
  | ⟨0, _⟩ => show win0_6.index t 0 * 8 + 1 * p.val = p.val; rw [(indexW t).2.2.2.2.1.1]; omega
  | ⟨1, _⟩ => show win0_6.index t 1 * 768 + 1 * k.val = k.val; rw [(indexW t).2.2.2.2.1.2]; omega
theorem iblk7 (t : Fin cfg0.N) : iblk m c 7 t = V m c main_v1 := by
  funext i
  obtain ⟨p, k, rfl⟩ : ∃ a b, i = ix2 a b := ⟨i 0, i 1, (ix2_eta i).symm⟩
  show V m c main_v1 ((win0_7.blk t).view.emb (ix2 p k)) = _
  congr 1
  funext a; apply Fin.ext
  match a with
  | ⟨0, _⟩ => show win0_7.index t 0 * 512 + 1 * p.val = p.val; rw [(indexW t).2.2.2.2.2.1.1]; omega
  | ⟨1, _⟩ => show win0_7.index t 1 * 1024 + 1 * k.val = k.val; rw [(indexW t).2.2.2.2.2.1.2]; omega
theorem iblk8 (t : Fin cfg0.N) : iblk m c 8 t = V m c main_v3 := by
  funext i
  obtain ⟨p, k, rfl⟩ : ∃ a b, i = ix2 a b := ⟨i 0, i 1, (ix2_eta i).symm⟩
  show V m c main_v3 ((win0_8.blk t).view.emb (ix2 p k)) = _
  congr 1
  funext a; apply Fin.ext
  match a with
  | ⟨0, _⟩ => show win0_8.index t 0 * 512 + 1 * p.val = p.val; rw [(indexW t).2.2.2.2.2.2.1.1]; omega
  | ⟨1, _⟩ => show win0_8.index t 1 * 128 + 1 * k.val = k.val; rw [(indexW t).2.2.2.2.2.2.1.2]; omega
theorem iblk9 (t : Fin cfg0.N) : iblk m c 9 t = V m c main_v15 := by
  funext i
  obtain ⟨p, k, rfl⟩ : ∃ a b, i = ix2 a b := ⟨i 0, i 1, (ix2_eta i).symm⟩
  show V m c main_v15 ((win0_9.blk t).view.emb (ix2 p k)) = _
  congr 1
  funext a; apply Fin.ext
  match a with
  | ⟨0, _⟩ => show win0_9.index t 0 * 1 + 1 * p.val = p.val; rw [(indexW t).2.2.2.2.2.2.2.1.1]; omega
  | ⟨1, _⟩ => show win0_9.index t 1 * 512 + 1 * k.val = k.val; rw [(indexW t).2.2.2.2.2.2.2.1.2]; omega
theorem iblk10 (t : Fin cfg0.N) : iblk m c 10 t = V m c main_v4 := by
  funext i
  obtain ⟨p, k, rfl⟩ : ∃ a b, i = ix2 a b := ⟨i 0, i 1, (ix2_eta i).symm⟩
  show V m c main_v4 ((win0_10.blk t).view.emb (ix2 p k)) = _
  congr 1
  funext a; apply Fin.ext
  match a with
  | ⟨0, _⟩ => show win0_10.index t 0 * 512 + 1 * p.val = p.val; rw [(indexW t).2.2.2.2.2.2.2.2.1.1]; omega
  | ⟨1, _⟩ => show win0_10.index t 1 * 1024 + 1 * k.val = k.val; rw [(indexW t).2.2.2.2.2.2.2.2.1.2]; omega
theorem iblk11 (t : Fin cfg0.N) : iblk m c 11 t = V m c main_v5 := by
  funext i
  obtain ⟨p, k, rfl⟩ : ∃ a b, i = ix2 a b := ⟨i 0, i 1, (ix2_eta i).symm⟩
  show V m c main_v5 ((win0_11.blk t).view.emb (ix2 p k)) = _
  congr 1
  funext a; apply Fin.ext
  match a with
  | ⟨0, _⟩ => show win0_11.index t 0 * 1024 + 1 * p.val = p.val; rw [(indexW t).2.2.2.2.2.2.2.2.2.1]; omega
  | ⟨1, _⟩ => show win0_11.index t 1 * 1024 + 1 * k.val = k.val; rw [(indexW t).2.2.2.2.2.2.2.2.2.2]; omega

/-- The heads' bias diagonals, as the host lays them out. -/
theorem v14_apply (n : Fin 8) (i : Fin 768) : V m c main_v14 (ix2 n i)
    = m ((c : Thread nD τ).loc main_arg6) (ix2 n ⟨if i.val < 640 then min (640 - i.val) 256 else 256, by split <;> omega⟩) := by
  rw [V_v14]
  generalize m ((c : Thread nD τ).loc main_arg6) = A
  have hi := i.isLt
  have e : ∀ a b : Fin 257, a.val = b.val → A (ix2 n a) = A (ix2 n b) := fun a b h => by rw [Fin.ext h]
  pointwise
  by_cases h1 : i.val < 385
  · rw [dif_pos h1]
    refine e _ _ ?_
    change 256 = if i.val < 640 then min (640 - i.val) 256 else 256
    split <;> omega
  · rw [dif_neg h1]
    by_cases h2 : i.val - 385 < 255
    · rw [dif_pos h2]
      refine e _ _ ?_
      change 1 + (255 - (i.val - 385 + 1)) = if i.val < 640 then min (640 - i.val) 256 else 256
      rw [if_pos (by omega)]
      omega
    · rw [dif_neg h2]
      refine e _ _ ?_
      change 256 = if i.val < 640 then min (640 - i.val) 256 else 256
      rw [if_neg (by omega)]

theorem v3_apply (r : Fin 512) (j : Fin 128) : V m c main_v3 (ix2 r j)
    = m ((c : Thread nD τ).loc main_arg8) (ix3 ⟨r.val / 128, by omega⟩ ⟨r.val % 128, by omega⟩ j) := by
  rw [V_v3]
  refine shapeCast_apply _ shapeCasts_S4x128x128_S512x128 _ (ix3 ⟨r.val / 128, by omega⟩ ⟨r.val % 128, by omega⟩ j) ?_
  rewrite [Shape.rowMajor_val_three, Shape.rowMajor_val_two]
  show (r.val / 128 * 128 + r.val % 128) * 128 + j.val = r.val * 128 + j.val
  omega

/-- Two batch entries share every weight. -/
theorem tables_same (A : Args) (b b' : Fin 2) : (∀ X, BiasTab (A.inp b) X → BiasTab (A.inp b') X) ∧ (∀ X, WTab (A.inp b) X → WTab (A.inp b') X) :=
  ⟨fun _ h => h, fun _ h => h⟩

/-- The blocks a tile reads, as the layer's arrays. -/
theorem reads (R : (args m c).Real) : Rd m c (fun n => (args m c).inp ⟨n % 2, Nat.mod_lt _ (by decide)⟩) where
  blk t := by
    have ht := lt32 t
    have eb : t.val / 16 % 2 = t.val / 16 := by omega
    refine ⟨fun p k => ?_, fun k => ?_, fun k => ?_, fun k => ?_, fun k => ?_, fun k n => ?_, fun e => ?_, fun e => ?_, fun r k => ?_, fun i k => ?_⟩
    · rw [iblk0, V_main_arg0]
      refine (R.x _).symm.trans ?_
      simp only [Args.inp, eb, show (512 * (t.val % 16) + p.val) % 8192 = 512 * (t.val % 16) + p.val by omega]
    · rw [iblk1, V_main_arg1]
      refine (R.md _).symm.trans ?_
      simp only [Args.inp, eb]
    · rw [iblk1, V_main_arg1]
      refine (R.md _).symm.trans ?_
      simp only [Args.inp, eb]
    · rw [iblk1, V_main_arg1]
      refine (R.md _).symm.trans ?_
      simp only [Args.inp, eb]
    · rw [iblk2, V_v6]
      refine Eq.trans ?_ (R.g (ix1 k)).symm
      pointwise
      rfl
    · rw [iblk3, V_v0]
      refine (R.w (ix2 k n)).symm.trans ?_
      simp only [Args.inp, Nat.mod_eq_of_lt n.isLt]
    · rw [iblk4, V_v7]
      refine Eq.trans (b := (args m c).qg (ix1 e)) ?_ ?_
      · pointwise
        rfl
      refine (R.qg (ix1 e)).symm.trans ?_
      simp only [Args.inp, Nat.mod_eq_of_lt e.isLt]
    · rw [iblk5, V_v8]
      refine Eq.trans (b := (args m c).kg (ix1 e)) ?_ ?_
      · pointwise
        rfl
      refine (R.kg (ix1 e)).symm.trans ?_
      simp only [Args.inp, Nat.mod_eq_of_lt e.isLt]
    · rw [iblk7, V_v1]
      refine (R.wa (ix2 r k)).symm.trans ?_
      simp only [Args.inp, Nat.mod_eq_of_lt r.isLt]
    · rw [iblk11, V_v5]
      exact (R.wo (ix2 i k)).symm
  bias t n i := by
    rw [iblk6, v14_apply]
    refine (R.rb _).symm.trans ?_
    have h : (if i.val < 640 then min (640 - i.val) 256 else 256) < 257 := by split <;> omega
    simp only [Args.inp, Nat.mod_eq_of_lt n.isLt, Nat.mod_eq_of_lt h]
  wg t r j := by
    rw [iblk8, v3_apply]
    refine (R.wg _).symm.trans ?_
    simp only [Args.inp, Nat.mod_eq_of_lt j.isLt, show r.val / 128 % 4 = r.val / 128 by omega, Nat.mod_mod]
  ps t r := by
    rw [iblk9, V_v15]
    refine Eq.trans (b := (args m c).ps (ix1 r)) ?_ ?_
    · pointwise
      rfl
    refine (R.ps (ix1 r)).symm.trans ?_
    simp only [Args.inp, Nat.mod_eq_of_lt r.isLt]
  wp t r k := by
    rw [iblk10, V_v4]
    refine (R.wp (ix2 r k)).symm.trans ?_
    simp only [Args.inp, Nat.mod_eq_of_lt r.isLt]
  sameB b X h := (tables_same _ _ _).1 X h
  sameW b X h := (tables_same _ _ _).2 X h

/-- The result array at an element. -/
theorem final_apply (R : (args m c).Real) (b : Fin 2) (t : Fin 8192) (k : Fin 1024) :
    (dats m 0 c).arrAt 12 cfg0.N (ix3 b t k) = (args m c).res b t k := by
  have ht : 16 * b.val + t.val / 512 < cfg0.N := lt_of_lt_of_eq (by omega : 16 * b.val + t.val / 512 < 32) N_0.symm
  have hb := congrFun (blocks12 m c ⟨16 * b.val + t.val / 512, ht⟩ (flush0_12 _)) (ix3 0 ⟨t.val % 512, by omega⟩ k)
  rw [flushed12] at hb
  have hl : ((cfg0.win 12).blk ⟨16 * b.val + t.val / 512, ht⟩).view.read (Elt Ideal) ((dats m 0 c).arrAt 12 cfg0.N) (ix3 0 ⟨t.val % 512, by omega⟩ k)
      = (dats m 0 c).arrAt 12 cfg0.N (ix3 b t k) := by
    show (dats m 0 c).arrAt 12 cfg0.N ((win0_12.blk ⟨16 * b.val + t.val / 512, ht⟩).view.emb (ix3 0 ⟨t.val % 512, by omega⟩ k)) = _
    congr 1
    funext a; apply Fin.ext
    match a with
    | ⟨0, _⟩ => show win0_12.index ⟨16 * b.val + t.val / 512, ht⟩ 0 * 1 + 1 * 0 = b.val; rw [(index12 _).1]; dsimp only; omega
    | ⟨1, _⟩ => show win0_12.index ⟨16 * b.val + t.val / 512, ht⟩ 1 * 512 + 1 * (t.val % 512) = t.val; rw [(index12 _).2.1]; dsimp only; omega
    | ⟨2, _⟩ => show win0_12.index ⟨16 * b.val + t.val / 512, ht⟩ 2 * 1024 + 1 * k.val = k.val; rw [(index12 _).2.2]; omega
  rw [← hl, hb]
  have e := (st_all (reads m c R) (fun b X h => (tables_same _ _ _).1 X h) (fun b X h => (tables_same _ _ _).2 X h) (16 * b.val + t.val / 512) ht).out ⟨t.val % 512, by omega⟩ k
  refine e.trans ?_
  unfold Args.res
  have e1 : (16 * b.val + t.val / 512) / 16 % 2 = b.val := by omega
  have e2 : 512 * ((16 * b.val + t.val / 512) % 16) + t.val % 512 = t.val := by omega
  simp only [e1, e2]

end Cert.KernelIdeal.Value
-- ==== Proof.MixRefA.lean ====
/-
  The token-mixing reference's normalized rows, projections, queries and keys at an element, as real numbers.
-/
module

public import proofs.«01_k».proof.Proof.Gen.ReferenceIdeal.Read
public import proofs.«01_k».proof.Proof.MixInp

@[expose] public section

noncomputable section

namespace Cert.Layer.Mix

open Idealize.ShloMosaic

theorem IsReal.eq {s : Shape} {a : s.Idx → EReal} (h : IsReal a) (i : s.Idx) : ((a i).toReal : EReal) = a i := h i

namespace Args.Real

variable {A : Args} (R : A.Real)
include R

theorem x_eq (b : Fin 2) (t : Fin 8192) (k : Fin 1024) : A.x (ix3 b t k) = (((A.inp b).x t k : ℝ) : EReal) := by
  simp only [Args.inp, Nat.mod_eq_of_lt t.isLt, Fin.eta, R.x.eq]
theorem g_eq (b : Fin 2) (k : Fin 1024) : A.g (ix1 k) = (((A.inp b).g k : ℝ) : EReal) := by
  simp only [Args.inp, R.g.eq]
theorem sh_eq (b : Fin 2) (k : Fin 1024) : A.md (ix3 b 3 k) = (((A.inp b).sh k : ℝ) : EReal) := by
  simp only [Args.inp, R.md.eq]
theorem sc_eq (b : Fin 2) (k : Fin 1024) : A.md (ix3 b 4 k) = (((A.inp b).sc k : ℝ) : EReal) := by
  simp only [Args.inp, R.md.eq]
theorem ga_eq (b : Fin 2) (k : Fin 1024) : A.md (ix3 b 5 k) = (((A.inp b).ga k : ℝ) : EReal) := by
  simp only [Args.inp, R.md.eq]
theorem w_eq (b : Fin 2) (k : Fin 1024) (c : Fin 4096) : A.w (ix2 k c) = (((A.inp b).w k c : ℝ) : EReal) := by
  simp only [Args.inp, Nat.mod_eq_of_lt c.isLt, Fin.eta, R.w.eq]
theorem qg_eq (b : Fin 2) (e : Fin 64) : A.qg (ix1 e) = (((A.inp b).qg e : ℝ) : EReal) := by
  simp only [Args.inp, Nat.mod_eq_of_lt e.isLt, Fin.eta, R.qg.eq]
theorem kg_eq (b : Fin 2) (e : Fin 64) : A.kg (ix1 e) = (((A.inp b).kg e : ℝ) : EReal) := by
  simp only [Args.inp, Nat.mod_eq_of_lt e.isLt, Fin.eta, R.kg.eq]
theorem rb_eq (b : Fin 2) (n : Fin 8) (d : Fin 257) : A.rb (ix2 n d) = (((A.inp b).rb n d : ℝ) : EReal) := by
  simp only [Args.inp, Nat.mod_eq_of_lt n.isLt, Nat.mod_eq_of_lt d.isLt, Fin.eta, R.rb.eq]
theorem wa_eq (b : Fin 2) (n : Fin 512) (k : Fin 1024) : A.wa (ix2 n k) = (((A.inp b).wa n k : ℝ) : EReal) := by
  simp only [Args.inp, Nat.mod_eq_of_lt n.isLt, Fin.eta, R.wa.eq]
theorem wg_eq (b : Fin 2) (g : Fin 4) (i j : Fin 128) : A.wg (ix3 g i j) = (((A.inp b).wg g i j : ℝ) : EReal) := by
  simp only [Args.inp, Nat.mod_eq_of_lt g.isLt, Nat.mod_eq_of_lt i.isLt, Nat.mod_eq_of_lt j.isLt, Fin.eta, R.wg.eq]
theorem ps_eq (b : Fin 2) (n : Fin 512) : A.ps (ix1 n) = (((A.inp b).ps n : ℝ) : EReal) := by
  simp only [Args.inp, Nat.mod_eq_of_lt n.isLt, Fin.eta, R.ps.eq]
theorem wp_eq (b : Fin 2) (n : Fin 512) (k : Fin 1024) : A.wp (ix2 n k) = (((A.inp b).wp n k : ℝ) : EReal) := by
  simp only [Args.inp, Nat.mod_eq_of_lt n.isLt, Fin.eta, R.wp.eq]
theorem wo_eq (b : Fin 2) (i k : Fin 1024) : A.wo (ix2 i k) = (((A.inp b).wo i k : ℝ) : EReal) := by
  simp only [Args.inp, R.wo.eq]

end Args.Real

end Cert.Layer.Mix

namespace Cert.ReferenceIdeal.Read

open Cert.ReferenceIdeal Cert.ReferenceIdeal.Gen Idealize.ShloMosaic Cert.Layer.Mix

section Payload

variable (x0 : (⟨S2x8192x1024, .f32⟩ : BufTy).Contents (Elt Ideal)) (x1 : (⟨S2x9x1024, .f32⟩ : BufTy).Contents (Elt Ideal))
  (x2 : (⟨S1024, .f32⟩ : BufTy).Contents (Elt Ideal)) (x3 : (⟨S1024x4096, .f32⟩ : BufTy).Contents (Elt Ideal))
  (x4 x5 : (⟨S64, .f32⟩ : BufTy).Contents (Elt Ideal))

/-- The normalized row at an element. -/
theorem v27_apply (b : Fin 2) (s : Fin 8192) (k : Fin 1024) :
    val_main_v27 (F := Ideal) x0 x1 x2 (ix3 b s k)
      = x0 (ix3 b s k) * Ideal.rsqrt (Ideal.div (∑ x, x0 (ix3 b s x) * x0 (ix3 b s x)) (Ideal.ofBits FTy.f32 1149239296#32)
          + Ideal.ofBits FTy.f32 897988541#32) * x2 (ix1 k) * (1 + x1 (ix3 b 4 k)) + x1 (ix3 b 3 k) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The projection at an element. -/
theorem v28_apply (b : Fin 2) (s : Fin 8192) (c : Fin 4096) :
    val_main_v28 (F := Ideal) x0 x1 x2 x3 (ix3 b s c) = ∑ k, val_main_v27 (F := Ideal) x0 x1 x2 (ix3 b s k) * x3 (ix2 k c) := by
  pointwise [val_main_v28]

/-- The normalized query at an element. -/
theorem v48_apply (b : Fin 2) (n : Fin 128) (r : Fin 64) (h : Fin 8) (e : Fin 64) :
    val_main_v48 (F := Ideal) x0 x1 x2 x3 x4 (ix5 b n r h e) =
      val_main_v28 (F := Ideal) x0 x1 x2 x3 (ix3 b ⟨n * 64 + r, by omega⟩ ⟨h * 64 + e, by omega⟩)
        * Ideal.rsqrt (Ideal.div (∑ x : Fin 64, val_main_v28 (F := Ideal) x0 x1 x2 x3 (ix3 b ⟨n * 64 + r, by omega⟩ ⟨h * 64 + x, by omega⟩)
            * val_main_v28 (F := Ideal) x0 x1 x2 x3 (ix3 b ⟨n * 64 + r, by omega⟩ ⟨h * 64 + x, by omega⟩))
          (Ideal.ofBits FTy.f32 1115684864#32) + Ideal.ofBits FTy.f32 897988541#32) * x4 (ix1 e) := by
  pointwise [val_main_v48, val_main_v47, val_main_v46, val_main_v45, val_main_v44, val_main_v43, val_main_v42, val_main_v41, val_main_v40, val_main_v39, val_main_v38, val_main_v37, val_main_v36, val_main_v35, val_main_v29, val_main_cst_3, val_main_cst_4, val_main_cst_5]

/-- The normalized key at an element. -/
theorem v62_apply (b : Fin 2) (n : Fin 128) (r : Fin 64) (h : Fin 8) (e : Fin 64) :
    val_main_v62 (F := Ideal) x0 x1 x2 x3 x5 (ix5 b n r h e) =
      val_main_v28 (F := Ideal) x0 x1 x2 x3 (ix3 b ⟨n * 64 + r, by omega⟩ ⟨512 + (h * 64 + e), by omega⟩)
        * Ideal.rsqrt (Ideal.div (∑ x : Fin 64, val_main_v28 (F := Ideal) x0 x1 x2 x3 (ix3 b ⟨n * 64 + r, by omega⟩ ⟨512 + (h * 64 + x), by omega⟩)
            * val_main_v28 (F := Ideal) x0 x1 x2 x3 (ix3 b ⟨n * 64 + r, by omega⟩ ⟨512 + (h * 64 + x), by omega⟩))
          (Ideal.ofBits FTy.f32 1115684864#32) + Ideal.ofBits FTy.f32 897988541#32) * x5 (ix1 e) := by
  pointwise [val_main_v62, val_main_v61, val_main_v60, val_main_v59, val_main_v58, val_main_v57, val_main_v56, val_main_v55, val_main_v54, val_main_v53, val_main_v52, val_main_v51, val_main_v50, val_main_v49, val_main_v30, val_main_cst_6, val_main_cst_7, val_main_cst_8]

/-- The value lanes at an element. -/
theorem v63_apply (b : Fin 2) (n : Fin 128) (r : Fin 64) (h : Fin 8) (e : Fin 64) :
    val_main_v63 (F := Ideal) x0 x1 x2 x3 (ix5 b n r h e)
      = val_main_v28 (F := Ideal) x0 x1 x2 x3 (ix3 b ⟨n * 64 + r, by omega⟩ ⟨1024 + (h * 64 + e), by omega⟩) := by
  pointwise [val_main_v63, val_main_v31]

end Payload

variable {A : Args} (R : A.Real)
include R

/-- The normalized row is real. -/
theorem v27_real (b : Fin 2) (s : Fin 8192) (k : Fin 1024) :
    val_main_v27 (F := Ideal) A.x A.md A.g (ix3 b s k) = ((hid (A.inp b) s k : ℝ) : EReal) := by
  refine (v27_apply A.x A.md A.g b s k).trans ?_
  simp only [R.x_eq, R.g_eq b, R.sc_eq, R.sh_eq, ofBits_1024, ofBits_eps.1, ← EReal.coe_mul, coe_sum]
  rw [div_real _ (by norm_num), ← EReal.coe_add, rsqrt_real (meanSq_pos _ (by norm_num))]
  rw [show (1 : EReal) = ((1 : ℝ) : EReal) from rfl]
  simp only [← EReal.coe_mul, ← EReal.coe_add]
  refine congrArg _ ?_
  unfold hid
  ring

/-- The projection is real. -/
theorem v28_real (b : Fin 2) (s : Fin 8192) (c : Fin 4096) :
    val_main_v28 (F := Ideal) A.x A.md A.g A.w (ix3 b s c) = ((z (A.inp b) s c : ℝ) : EReal) := by
  refine (v28_apply A.x A.md A.g A.w b s c).trans ?_
  refine (Finset.sum_congr rfl fun k _ => congrArg₂ (· * ·) (v27_real R b s k) (R.w_eq b k c)).trans ?_
  simp only [← EReal.coe_mul, coe_sum]
  rfl

/-- The normalized query is real. -/
theorem v48_real (b : Fin 2) (n : Fin 128) (r : Fin 64) (h : Fin 8) (e : Fin 64) :
    val_main_v48 (F := Ideal) A.x A.md A.g A.w A.qg (ix5 b n r h e) = ((qn (A.inp b) (64 * n + r) h e : ℝ) : EReal) := by
  refine (v48_apply A.x A.md A.g A.w A.qg b n r h e).trans ?_
  simp only [v28_real R, R.qg_eq b, ofBits_64, ofBits_eps.1, ← EReal.coe_mul, coe_sum]
  rw [div_real _ (by norm_num), ← EReal.coe_add, rsqrt_real (meanSq_pos _ (by norm_num))]
  simp only [← EReal.coe_mul, Nat.mul_comm _ 64]
  unfold qn rs
  simp only [Nat.zero_add]

/-- The normalized key is real. -/
theorem v62_real (b : Fin 2) (n : Fin 128) (r : Fin 64) (h : Fin 8) (e : Fin 64) :
    val_main_v62 (F := Ideal) A.x A.md A.g A.w A.kg (ix5 b n r h e) = ((kn (A.inp b) (64 * n + r) h e : ℝ) : EReal) := by
  refine (v62_apply A.x A.md A.g A.w A.kg b n r h e).trans ?_
  simp only [v28_real R, R.kg_eq b, ofBits_64, ofBits_eps.1, ← EReal.coe_mul, coe_sum]
  rw [div_real _ (by norm_num), ← EReal.coe_add, rsqrt_real (meanSq_pos _ (by norm_num))]
  simp only [← EReal.coe_mul, Nat.mul_comm _ 64]
  unfold kn rs
  simp only [Nat.add_assoc]

/-- The value lanes are real. -/
theorem v63_real (b : Fin 2) (n : Fin 128) (r : Fin 64) (h : Fin 8) (e : Fin 64) :
    val_main_v63 (F := Ideal) A.x A.md A.g A.w (ix5 b n r h e) = ((z (A.inp b) (64 * n + r) (1024 + 64 * h + e) : ℝ) : EReal) := by
  refine (v63_apply A.x A.md A.g A.w b n r h e).trans ?_
  simp only [v28_real R, Nat.mul_comm _ 64, Nat.add_assoc]

end Cert.ReferenceIdeal.Read
end
-- ==== Proof.MixRefB.lean ====
/-
  The token-mixing reference's attention at an element, as real numbers: the padded and gathered keys and values, the
  relative bias, the masked scores and their softmax.
-/
module

public import proofs.«01_k».proof.Proof.MixRefA
public import Idealize.ShloMosaic.Lib.ValueIdxCore
public import Idealize.ShloMosaic.Lib.KernelVsHost

@[expose] public section

noncomputable section

namespace Cert.ReferenceIdeal.Read

open Cert.ReferenceIdeal Cert.ReferenceIdeal.Gen Idealize.ShloMosaic Cert.Layer.Mix

/-! ### The band of nine chunks -/

/-- Eight chunks of zeros before the chunks. -/
theorem pad8_apply (y : S2x128x64x8x64.Idx → EReal) (v : S_.Idx → EReal) (hv : ∀ i, v i = 0) (b : Fin 2) (n : Fin 136) (r : Fin 64) (h : Fin 8) (e : Fin 64) :
    pad S2x136x64x8x64 ![0, 8, 0, 0, 0] ![0, 0, 0, 0, 0] ![0, 0, 0, 0, 0] y v pads_S2x128x64x8x64_S2x136x64x8x64_000_800_000_000_000 h_S_ (ix5 b n r h e)
      = if hn : 8 ≤ n.val then y (ix5 b ⟨n - 8, by omega⟩ r h e) else 0 := by
  split
  · next hn =>
    refine pad_apply_of_inside _ _ _ y v _ _ _ _ fun a => ?_
    match a with
    | ⟨0, _⟩ => show b.val = 0 + b.val * (0 + 1); omega
    | ⟨1, _⟩ => show n.val = 8 + (n.val - 8) * (0 + 1); omega
    | ⟨2, _⟩ => show r.val = 0 + r.val * (0 + 1); omega
    | ⟨3, _⟩ => show h.val = 0 + h.val * (0 + 1); omega
    | ⟨4, _⟩ => show e.val = 0 + e.val * (0 + 1); omega
  · next hn =>
    exact (pad_apply_of_not_inside _ _ _ y v _ _ _ (1 : Fin 5) fun hc => hn hc.1).trans (hv _)

/-- The chunks from the `k`-th on. -/
theorem sl_apply (k : ℕ) (hk : k < 9) (y : S2x136x64x8x64.Idx → EReal) (hs) (b : Fin 2) (n : Fin 128) (r : Fin 64) (h : Fin 8) (e : Fin 64) :
    extractStridedSlice S2x128x64x8x64 ![0, k, 0, 0, 0] y hs (ix5 b n r h e) = y (ix5 b ⟨k + n, by omega⟩ r h e) := by
  refine congrArg y (funext fun a => ?_)
  match a with
  | ⟨0, _⟩ => exact Fin.ext (Nat.zero_add _)
  | ⟨1, _⟩ => rfl
  | ⟨2, _⟩ => exact Fin.ext (Nat.zero_add _)
  | ⟨3, _⟩ => exact Fin.ext (Nat.zero_add _)
  | ⟨4, _⟩ => exact Fin.ext (Nat.zero_add _)

/-- Nine pieces of 64 rows one after another. -/
theorem cat9 (c : Fin 9 → S2x128x64x8x64.Idx → EReal) (hc) (b : Fin 2) (n : Fin 128) (j : Fin 576) (h : Fin 8) (e : Fin 64) :
    concatenate S2x128x576x8x64 2 [⟨S2x128x64x8x64, c 0⟩, ⟨S2x128x64x8x64, c 1⟩, ⟨S2x128x64x8x64, c 2⟩, ⟨S2x128x64x8x64, c 3⟩,
      ⟨S2x128x64x8x64, c 4⟩, ⟨S2x128x64x8x64, c 5⟩, ⟨S2x128x64x8x64, c 6⟩, ⟨S2x128x64x8x64, c 7⟩, ⟨S2x128x64x8x64, c 8⟩] hc (ix5 b n j h e)
      = c ⟨j.val / 64, by omega⟩ (ix5 b n ⟨j.val % 64, by omega⟩ h e) := by
  refine concatenate_ofFn_apply (t := S2x128x576x8x64) (s₁ := S2x128x64x8x64) 2 c hc rfl 64 rfl (ix5 b n j h e) ⟨j.val / 64, by omega⟩ rfl
    (ix5 b n ⟨j.val % 64, by omega⟩ h e) rfl ?_
  intro a ha
  match a with
  | ⟨0, _⟩ => rfl
  | ⟨1, _⟩ => rfl
  | ⟨2, _⟩ => exact absurd rfl ha
  | ⟨3, _⟩ => rfl
  | ⟨4, _⟩ => rfl

/-- The nine slices side by side: row `j` of chunk `n` is row `64 n + j` of the padded sequence. -/
theorem band_apply (y : S2x136x64x8x64.Idx → EReal) (h0 h1 h2 h3 h4 h5 h6 h7 h8) (hc) (b : Fin 2) (n : Fin 128) (j : Fin 576) (h : Fin 8) (e : Fin 64) :
    concatenate S2x128x576x8x64 2 [⟨S2x128x64x8x64, extractStridedSlice S2x128x64x8x64 ![0, 0, 0, 0, 0] y h0⟩,
      ⟨S2x128x64x8x64, extractStridedSlice S2x128x64x8x64 ![0, 1, 0, 0, 0] y h1⟩, ⟨S2x128x64x8x64, extractStridedSlice S2x128x64x8x64 ![0, 2, 0, 0, 0] y h2⟩,
      ⟨S2x128x64x8x64, extractStridedSlice S2x128x64x8x64 ![0, 3, 0, 0, 0] y h3⟩, ⟨S2x128x64x8x64, extractStridedSlice S2x128x64x8x64 ![0, 4, 0, 0, 0] y h4⟩,
      ⟨S2x128x64x8x64, extractStridedSlice S2x128x64x8x64 ![0, 5, 0, 0, 0] y h5⟩, ⟨S2x128x64x8x64, extractStridedSlice S2x128x64x8x64 ![0, 6, 0, 0, 0] y h6⟩,
      ⟨S2x128x64x8x64, extractStridedSlice S2x128x64x8x64 ![0, 7, 0, 0, 0] y h7⟩, ⟨S2x128x64x8x64, extractStridedSlice S2x128x64x8x64 ![0, 8, 0, 0, 0] y h8⟩]
      hc (ix5 b n j h e) = y (ix5 b ⟨j.val / 64 + n, by omega⟩ ⟨j.val % 64, by omega⟩ h e) := by
  refine (cat9 (fun k => match k with
    | 0 => extractStridedSlice S2x128x64x8x64 ![0, 0, 0, 0, 0] y h0
    | 1 => extractStridedSlice S2x128x64x8x64 ![0, 1, 0, 0, 0] y h1
    | 2 => extractStridedSlice S2x128x64x8x64 ![0, 2, 0, 0, 0] y h2
    | 3 => extractStridedSlice S2x128x64x8x64 ![0, 3, 0, 0, 0] y h3
    | 4 => extractStridedSlice S2x128x64x8x64 ![0, 4, 0, 0, 0] y h4
    | 5 => extractStridedSlice S2x128x64x8x64 ![0, 5, 0, 0, 0] y h5
    | 6 => extractStridedSlice S2x128x64x8x64 ![0, 6, 0, 0, 0] y h6
    | 7 => extractStridedSlice S2x128x64x8x64 ![0, 7, 0, 0, 0] y h7
    | 8 => extractStridedSlice S2x128x64x8x64 ![0, 8, 0, 0, 0] y h8) hc b n j h e).trans ?_
  have hj : j.val / 64 < 9 := by omega
  have key : ∀ k : Fin 9, (match k with
    | 0 => extractStridedSlice S2x128x64x8x64 ![0, 0, 0, 0, 0] y h0
    | 1 => extractStridedSlice S2x128x64x8x64 ![0, 1, 0, 0, 0] y h1
    | 2 => extractStridedSlice S2x128x64x8x64 ![0, 2, 0, 0, 0] y h2
    | 3 => extractStridedSlice S2x128x64x8x64 ![0, 3, 0, 0, 0] y h3
    | 4 => extractStridedSlice S2x128x64x8x64 ![0, 4, 0, 0, 0] y h4
    | 5 => extractStridedSlice S2x128x64x8x64 ![0, 5, 0, 0, 0] y h5
    | 6 => extractStridedSlice S2x128x64x8x64 ![0, 6, 0, 0, 0] y h6
    | 7 => extractStridedSlice S2x128x64x8x64 ![0, 7, 0, 0, 0] y h7
    | 8 => extractStridedSlice S2x128x64x8x64 ![0, 8, 0, 0, 0] y h8 : S2x128x64x8x64.Idx → EReal) (ix5 b n ⟨j.val % 64, by omega⟩ h e)
      = y (ix5 b ⟨k.val + n, by omega⟩ ⟨j.val % 64, by omega⟩ h e) := by
    intro k
    match k with
    | 0 => exact sl_apply 0 (by decide) y h0 b n _ h e
    | 1 => exact sl_apply 1 (by decide) y h1 b n _ h e
    | 2 => exact sl_apply 2 (by decide) y h2 b n _ h e
    | 3 => exact sl_apply 3 (by decide) y h3 b n _ h e
    | 4 => exact sl_apply 4 (by decide) y h4 b n _ h e
    | 5 => exact sl_apply 5 (by decide) y h5 b n _ h e
    | 6 => exact sl_apply 6 (by decide) y h6 b n _ h e
    | 7 => exact sl_apply 7 (by decide) y h7 b n _ h e
    | 8 => exact sl_apply 8 (by decide) y h8 b n _ h e
  exact key ⟨j.val / 64, hj⟩

/-! ### The bias and the mask -/

/-- The word of the clipped distance. -/
theorem dist_word : ∀ (r : Fin 64) (j : Fin 576),
    (Scalar.select (IntOp.cmpi CmpIPredicate.slt (IntOp.addi (IntOp.minsi 128#32 (IntOp.maxsi 4294967168#32
        (IntOp.subi (IntOp.addi (512#32) (BitVec.ofNat 32 r.val)) (BitVec.ofNat 32 j.val)))) 128#32) 0#32)
      (IntOp.addi (IntOp.addi (IntOp.minsi 128#32 (IntOp.maxsi 4294967168#32
        (IntOp.subi (IntOp.addi (512#32) (BitVec.ofNat 32 r.val)) (BitVec.ofNat 32 j.val)))) 128#32) 257#32)
      (IntOp.addi (IntOp.minsi 128#32 (IntOp.maxsi 4294967168#32
        (IntOp.subi (IntOp.addi (512#32) (BitVec.ofNat 32 r.val)) (BitVec.ofNat 32 j.val)))) 128#32) : BitVec 32)
      = BitVec.ofNat 32 (min (640 + r.val - j.val) 256) := by decide +kernel

/-- The word of a key's presence. -/
theorem valid_word : ∀ (n : Fin 128) (j : Fin 576),
    IntOp.cmpi CmpIPredicate.sge (IntOp.addi (IntOp.muli (BitVec.ofNat 32 n.val) 64#32) (BitVec.ofNat 32 j.val)) 512#32
      = if 512 ≤ 64 * n.val + j.val then 1#1 else 0#1 := by decide +kernel

theorem v102_apply (r : Fin 64) (j : Fin 576) :
    val_main_v102 (F := Ideal) (ix3 r j 0) = BitVec.ofNat 32 (min (640 + r.val - j.val) 256) := by
  refine Eq.trans ?_ (dist_word r j)
  pointwise [val_main_v102, val_main_v101, val_main_v100, val_main_v99, val_main_v98, val_main_v97, val_main_v96, val_main_v95, val_main_v94, val_main_call2_v0, val_main_call2_v1, val_main_call2_v2, val_main_call2_v3, val_main_call2_v4, val_main_v93, val_main_v92, val_main_v91, val_main_v90, val_main_v89, val_main_c_11, val_main_c_12, val_main_c_13, val_main_c_14, val_main_c_15, val_main_c_16]
  rfl

/-- The bias rows gathered at the clipped distances. -/
theorem gather_apply (x : S8x257.Idx → EReal) (idx : IVec S64x576x1 32) (h : Fin 8) (r : Fin 64) (j : Fin 576) :
    Host.gather gather_S8x257_S64x576x1_S8x64x576_0_1_n_n_1_2_81 x idx (ix3 h r j)
      = x (ix2 h ⟨min (idx (ix3 r j 0)).toInt.toNat 256, by omega⟩) := by
  unfold Host.gather
  congr 1
  funext a
  refine Fin.ext ?_
  show gather_S8x257_S64x576x1_S8x64x576_0_1_n_n_1_2_81.start (ix3 h r j) idx a + gather_S8x257_S64x576x1_S8x64x576_0_1_n_n_1_2_81.batchCoord (ix3 h r j) a
    + gather_S8x257_S64x576x1_S8x64x576_0_1_n_n_1_2_81.offCoord (ix3 h r j) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · unfold GatherDims.start GatherDims.offCoord
    rw [dif_neg (by decide), dif_pos (by decide)]
    show 0 + 0 + h.val = h.val
    omega
  · rw [GatherDims.offCoord_eq_zero _ _ _ (by decide)]
    unfold GatherDims.start
    rw [dif_pos (by decide)]
    have hsi : gather_S8x257_S64x576x1_S8x64x576_0_1_n_n_1_2_81.siIdx (ix3 h r j)
        ⟨List.idxOf (1 : Fin 2) gather_S8x257_S64x576x1_S8x64x576_0_1_n_n_1_2_81.startIndexMap, List.idxOf_lt_length_iff.2 (by decide)⟩ = ix3 r j 0 := by
      funext b; refine Fin.ext ?_
      match b with
      | ⟨0, _⟩ => rfl
      | ⟨1, _⟩ => rfl
      | ⟨2, _⟩ => rfl
    rw [hsi]
    rfl

theorem row_congr (x : S8x257.Idx → EReal) (h : Fin 8) (p q : Fin 257) (e : p.val = q.val) : x (ix2 h p) = x (ix2 h q) := by
  rw [Fin.ext e]

theorem word_nat (k : ℕ) (hk : k ≤ 256) : min (BitVec.ofNat 32 k).toInt.toNat 256 = k := by
  have h : ∀ k : Fin 257, min (BitVec.ofNat 32 k.val).toInt.toNat 256 = k.val := by decide +kernel
  exact h ⟨k, by omega⟩

theorem sitofp_zero32 : (FloatOps.sitofp (F := Ideal) .f32 (0#32) : EReal) = 0 := by
  show ((((0#32 : BitVec 32).toInt : ℤ) : ℝ) : EReal) = 0
  simp

theorem gathered (x : S8x257.Idx → EReal) (h : Fin 8) (w : BitVec 32) (k : ℕ) (hk : k ≤ 256) (hw : w = BitVec.ofNat 32 k) :
    x (ix2 h ⟨min w.toInt.toNat 256, by omega⟩) = x (ix2 h ⟨k, by omega⟩) := by
  subst hw
  exact row_congr x h _ _ (word_nat k hk)

end Cert.ReferenceIdeal.Read
end
-- ==== Proof.MixRefC.lean ====
/-
  The token-mixing reference's attention at an element, as real numbers: the banded keys and values, the masked scores and
  their softmax.
-/
module

public import proofs.«01_k».proof.Proof.MixRefB

@[expose] public section

noncomputable section

namespace Cert.ReferenceIdeal.Read

open Cert.ReferenceIdeal Cert.ReferenceIdeal.Gen Idealize.ShloMosaic Cert.Layer.Mix

section Payload

variable (x0 : (⟨S2x8192x1024, .f32⟩ : BufTy).Contents (Elt Ideal)) (x1 : (⟨S2x9x1024, .f32⟩ : BufTy).Contents (Elt Ideal))
  (x2 : (⟨S1024, .f32⟩ : BufTy).Contents (Elt Ideal)) (x3 : (⟨S1024x4096, .f32⟩ : BufTy).Contents (Elt Ideal))
  (x4 x5 : (⟨S64, .f32⟩ : BufTy).Contents (Elt Ideal)) (x6 : (⟨S8x257, .f32⟩ : BufTy).Contents (Elt Ideal))
  (x7 : (⟨S512x1024, .f32⟩ : BufTy).Contents (Elt Ideal))

theorem v103_apply (h : Fin 8) (r : Fin 64) (j : Fin 576) :
    val_main_v103 (F := Ideal) x6 (ix3 h r j) = x6 (ix2 h ⟨min (640 + r.val - j.val) 256, by omega⟩) := by
  unfold val_main_v103
  rw [gather_apply]
  exact gathered x6 h _ _ (Nat.min_le_right _ _) (v102_apply r j)

theorem v75_apply (b : Fin 2) (n : Fin 128) (j : Fin 576) (h : Fin 8) (e : Fin 64) :
    val_main_v75 (F := Ideal) x0 x1 x2 x3 x5 (ix5 b n j h e)
      = if hn : 8 ≤ j.val / 64 + n.val then val_main_v62 (F := Ideal) x0 x1 x2 x3 x5 (ix5 b ⟨j.val / 64 + n - 8, by omega⟩ ⟨j.val % 64, by omega⟩ h e) else 0 := by
  unfold val_main_v75 val_main_v66 val_main_v67 val_main_v68 val_main_v69 val_main_v70 val_main_v71 val_main_v72 val_main_v73 val_main_v74
  refine (band_apply _ _ _ _ _ _ _ _ _ _ _ b n j h e).trans ?_
  unfold val_main_v64
  exact pad8_apply _ _ (fun _ => sitofp_zero32) b _ _ h e

theorem v85_apply (b : Fin 2) (n : Fin 128) (j : Fin 576) (h : Fin 8) (e : Fin 64) :
    val_main_v85 (F := Ideal) x0 x1 x2 x3 (ix5 b n j h e)
      = if hn : 8 ≤ j.val / 64 + n.val then val_main_v63 (F := Ideal) x0 x1 x2 x3 (ix5 b ⟨j.val / 64 + n - 8, by omega⟩ ⟨j.val % 64, by omega⟩ h e) else 0 := by
  unfold val_main_v85 val_main_v76 val_main_v77 val_main_v78 val_main_v79 val_main_v80 val_main_v81 val_main_v82 val_main_v83 val_main_v84
  refine (band_apply _ _ _ _ _ _ _ _ _ _ _ b n j h e).trans ?_
  unfold val_main_v65
  exact pad8_apply _ _ (fun _ => sitofp_zero32) b _ _ h e

theorem v114_apply (b : Fin 2) (n : Fin 128) (h : Fin 8) (r : Fin 64) (j : Fin 576) :
    val_main_v114 (F := Ideal) x0 x1 x2 x3 x4 x5 x6 (ix5 b n h r j)
      = (∑ e, val_main_v48 (F := Ideal) x0 x1 x2 x3 x4 (ix5 b n r h e) * val_main_v75 (F := Ideal) x0 x1 x2 x3 x5 (ix5 b n j h e))
          * Ideal.ofBits FTy.f32 1040187392#32 + val_main_v103 (F := Ideal) x6 (ix3 h r j) := by
  pointwise [val_main_v86, val_main_v88, val_main_v87, val_main_cst_10, val_main_v114, val_main_v113, val_main_v112]

theorem v115_apply (b : Fin 2) (n : Fin 128) (h : Fin 8) (r : Fin 64) (j : Fin 576) :
    val_main_v115 (F := Ideal) x0 x1 x2 x3 x4 x5 x6 (ix5 b n h r j)
      = if 512 ≤ 64 * n.val + j.val then val_main_v114 (F := Ideal) x0 x1 x2 x3 x4 x5 x6 (ix5 b n h r j) else ⊥ := by
  have e : val_main_v115 (F := Ideal) x0 x1 x2 x3 x4 x5 x6 (ix5 b n h r j)
      = Scalar.select (IntOp.cmpi CmpIPredicate.sge (IntOp.addi (IntOp.muli (BitVec.ofNat 32 n.val) 64#32) (BitVec.ofNat 32 j.val)) 512#32)
        (val_main_v114 (F := Ideal) x0 x1 x2 x3 x4 x5 x6 (ix5 b n h r j)) (Ideal.ofBits FTy.f32 4286578688#32) := by
    pointwise [val_main_v115, val_main_call3_v0, val_main_call3_v1, val_main_call3_v2, val_main_cst_19, val_main_v111, val_main_v110, val_main_v109, val_main_v108, val_main_v107, val_main_v106, val_main_v105, val_main_v104, val_main_c_17, val_main_c_18]
    rfl
  rw [e, valid_word, ofBits_negInf]
  by_cases hc : 512 ≤ 64 * n.val + j.val
  · rw [if_pos hc, if_pos hc]; rfl
  · rw [if_neg hc, if_neg hc]; rfl

/-- The running maximum of a row. -/
theorem rowMax_apply (y : FVec Ideal S2x128x8x64x576 .f32) (c : FVec Ideal S_ .f32) (hc : ∀ i, c i = ⊥) (b : Fin 2) (n : Fin 128) (h : Fin 8) (r : Fin 64) :
    Host.reduce FloatOps.maximumf y c reducesTo_S2x128x8x64x576_S2x128x8x64_d4 h_S_ (ix4 b n h r)
      = Finset.fold max (⊥ : EReal) (fun j : Fin 576 => y (ix5 b n h r j)) Finset.univ := by
  have e : ∀ v : EReal, v = ⊥ → Finset.fold max v (fun j : Fin 576 => y (ix5 b n h r j)) Finset.univ
      = Finset.fold max (⊥ : EReal) (fun j : Fin 576 => y (ix5 b n h r j)) Finset.univ := fun v hv => by rw [hv]
  refine Eq.trans ?_ (e _ (hc (Shape.Idx.first h_S_)))
  pointwise []

/-- The maximum with `⊥` is the other side. -/
theorem noClip_apply (y : FVec Ideal S2x128x8x64 .f32) (i : S2x128x8x64.Idx) : maximumf (val_main_v117 (F := Ideal)) y i = y i := by
  have e : val_main_v117 (F := Ideal) i = (⊥ : EReal) := (val_main_v117_apply i).trans ((val_main_cst_21_apply _).trans ofBits_negInf)
  exact (congrArg (fun v : EReal => max v (y i)) e).trans (max_bot_left _)

theorem v118_apply (b : Fin 2) (n : Fin 128) (h : Fin 8) (r : Fin 64) :
    val_main_v118 (F := Ideal) x0 x1 x2 x3 x4 x5 x6 (ix4 b n h r)
      = Finset.fold max (⊥ : EReal) (fun j : Fin 576 => val_main_v115 (F := Ideal) x0 x1 x2 x3 x4 x5 x6 (ix5 b n h r j)) Finset.univ := by
  unfold val_main_v118
  rw [noClip_apply]
  unfold val_main_v116
  exact rowMax_apply _ _ (fun _ => ofBits_negInf) b n h r

theorem v129_apply (b : Fin 2) (t : Fin 8192) (c : Fin 512) :
    val_main_v129 (F := Ideal) x0 x1 x2 x3 x4 x5 x6 (ix3 b t c)
      = ∑ j : Fin 576, val_main_v85 (F := Ideal) x0 x1 x2 x3 (ix5 b ⟨t / 64, by omega⟩ j ⟨c / 64, by omega⟩ ⟨c % 64, by omega⟩)
        * Ideal.div (Ideal.exp (val_main_v115 (F := Ideal) x0 x1 x2 x3 x4 x5 x6 (ix5 b ⟨t / 64, by omega⟩ ⟨c / 64, by omega⟩ ⟨t % 64, by omega⟩ j)
            - val_main_v118 (F := Ideal) x0 x1 x2 x3 x4 x5 x6 (ix4 b ⟨t / 64, by omega⟩ ⟨c / 64, by omega⟩ ⟨t % 64, by omega⟩)))
          (∑ j' : Fin 576, Ideal.exp (val_main_v115 (F := Ideal) x0 x1 x2 x3 x4 x5 x6 (ix5 b ⟨t / 64, by omega⟩ ⟨c / 64, by omega⟩ ⟨t % 64, by omega⟩ j')
            - val_main_v118 (F := Ideal) x0 x1 x2 x3 x4 x5 x6 (ix4 b ⟨t / 64, by omega⟩ ⟨c / 64, by omega⟩ ⟨t % 64, by omega⟩))) := by
  pointwise [val_main_v129, val_main_v128, val_main_v127, val_main_v126, val_main_v125, val_main_v124, val_main_v123, val_main_v122, val_main_v121, val_main_v120, val_main_v119, val_main_cst_22]

theorem v130_apply (b : Fin 2) (t : Fin 8192) (k : Fin 1024) :
    val_main_v130 (F := Ideal) x0 x1 x2 x3 x4 x5 x6 x7 (ix3 b t k)
      = ∑ c : Fin 512, val_main_v129 (F := Ideal) x0 x1 x2 x3 x4 x5 x6 (ix3 b t c) * x7 (ix2 c k) := by
  pointwise [val_main_v130]

end Payload

variable {A : Args} (R : A.Real)
include R

/-- The banded keys are real. -/
theorem v75_real (b : Fin 2) (n : Fin 128) (j : Fin 576) (h : Fin 8) (e : Fin 64) :
    val_main_v75 (F := Ideal) A.x A.md A.g A.w A.kg (ix5 b n j h e)
      = ((if 512 ≤ 64 * n.val + j.val then kn (A.inp b) (64 * n + j - 512) h e else 0 : ℝ) : EReal) := by
  refine (v75_apply A.x A.md A.g A.w A.kg b n j h e).trans ?_
  by_cases hc : 8 ≤ j.val / 64 + n.val
  · rw [dif_pos hc, if_pos (by omega)]
    refine (v62_real R b _ _ h e).trans ?_
    rw [show 64 * (j.val / 64 + n.val - 8) + j.val % 64 = 64 * n.val + j.val - 512 by omega]
  · rw [dif_neg hc, if_neg (by omega)]
    rfl

/-- The banded values are real. -/
theorem v85_real (b : Fin 2) (n : Fin 128) (j : Fin 576) (h : Fin 8) (e : Fin 64) :
    val_main_v85 (F := Ideal) A.x A.md A.g A.w (ix5 b n j h e)
      = ((if 512 ≤ 64 * n.val + j.val then z (A.inp b) (64 * n + j - 512) (1024 + 64 * h + e) else 0 : ℝ) : EReal) := by
  refine (v85_apply A.x A.md A.g A.w b n j h e).trans ?_
  by_cases hc : 8 ≤ j.val / 64 + n.val
  · rw [dif_pos hc, if_pos (by omega)]
    refine (v63_real R b _ _ h e).trans ?_
    rw [show 64 * (j.val / 64 + n.val - 8) + j.val % 64 = 64 * n.val + j.val - 512 by omega]
  · rw [dif_neg hc, if_neg (by omega)]
    rfl

/-- The masked scores. -/
theorem v115_real (b : Fin 2) (n : Fin 128) (h : Fin 8) (r : Fin 64) (j : Fin 576) :
    val_main_v115 (F := Ideal) A.x A.md A.g A.w A.qg A.kg A.rb (ix5 b n h r j)
      = if 512 ≤ 64 * n.val + j.val then ((score (A.inp b) (64 * n + r) (64 * n + j - 512) h : ℝ) : EReal) else ⊥ := by
  refine (v115_apply A.x A.md A.g A.w A.qg A.kg A.rb b n h r j).trans ?_
  by_cases hc : 512 ≤ 64 * n.val + j.val
  · rw [if_pos hc, if_pos hc]
    refine (v114_apply A.x A.md A.g A.w A.qg A.kg A.rb b n h r j).trans ?_
    refine (congrArg₂ (· + ·) (congrArg₂ (· * ·) (Finset.sum_congr rfl fun e _ => congrArg₂ (· * ·) (v48_real R b n r h e) (v75_real R b n j h e))
      ofBits_eighth) ((v103_apply A.rb h r j).trans (R.rb_eq b h _))).trans ?_
    simp only [if_pos hc, ← EReal.coe_mul, coe_sum, ← EReal.coe_add]
    unfold score
    rw [mul_one_div, show 64 * n.val + r.val + 128 - (64 * n.val + j.val - 512) = 640 + r.val - j.val by omega]
  · rw [if_neg hc, if_neg hc]

/-- The attention is real. -/
theorem v129_real (b : Fin 2) (t : Fin 8192) (c : Fin 512) :
    val_main_v129 (F := Ideal) A.x A.md A.g A.w A.qg A.kg A.rb (ix3 b t c) = ((att (A.inp b) t (c / 64) (c % 64) : ℝ) : EReal) := by
  refine (v129_apply A.x A.md A.g A.w A.qg A.kg A.rb b t c).trans ?_
  simp only [v85_real R]
  refine (Finset.sum_congr rfl fun j _ => mul_comm _ _).trans ?_
  refine (softmax1 (fun j : Fin 576 => 512 ≤ 64 * (t.val / 64) + j.val)
    (fun j => score (A.inp b) t (64 * (t / 64) + j - 512) (c / 64)) _ _ _ (fun j => ?_)
    (v118_apply A.x A.md A.g A.w A.qg A.kg A.rb b _ _ _) (575 : Fin 576) (by show 512 ≤ 64 * (t.val / 64) + 575; omega)).trans ?_
  · refine (v115_real R b _ _ _ j).trans ?_
    simp only [Nat.div_add_mod]
  · refine congrArg _ ?_
    unfold att
    refine congrArg (· / _) (Finset.sum_congr rfl fun j _ => ?_)
    by_cases hc : 512 ≤ 64 * (t.val / 64) + j.val
    · simp only [if_pos hc]
    · simp only [if_neg hc]

/-- The attention through its output weights is real. -/
theorem v130_real (b : Fin 2) (t : Fin 8192) (k : Fin 1024) :
    val_main_v130 (F := Ideal) A.x A.md A.g A.w A.qg A.kg A.rb A.wa (ix3 b t k) = ((ya (A.inp b) t k : ℝ) : EReal) := by
  refine (v130_apply A.x A.md A.g A.w A.qg A.kg A.rb A.wa b t k).trans ?_
  refine (Finset.sum_congr rfl fun c _ => congrArg₂ (· * ·) (v129_real R b t c) (R.wa_eq b c k)).trans ?_
  simp only [← EReal.coe_mul, coe_sum]
  rfl

end Cert.ReferenceIdeal.Read
end
-- ==== Proof.MixSums.lean ====
/-
  The token-mixing reference's causal pooling at an element, as real numbers: the running sums, their differences over a
  window, padded by one row.
-/
module

public import proofs.«01_k».proof.Proof.MixRefA
public import Idealize.ShloMosaic.Lib.KernelVsHost

@[expose] public section

noncomputable section

namespace Cert.ReferenceIdeal.Read

open Cert.ReferenceIdeal Cert.ReferenceIdeal.Gen Idealize.ShloMosaic Cert.Layer.Mix

/-! ### Running sums -/

theorem foldl_add {N : ℕ} (F : Fin N → EReal) (v : EReal) (hv : v = 0) : (List.finRange N).foldl (fun r n => r + F n) v = ∑ n, F n := by
  subst hv
  rw [Fin.sum_univ_def, List.sum_eq_foldl, List.foldl_map]

/-- A host window sum over the window's positions. -/
theorem reduceWindowAdd_apply {s t u : Shape} (window strides lo hi : Fin s.rank → ℕ) (x : FVec Ideal s .f32) (v : FVec Ideal u .f32)
    (hv : ∀ i, v i = 0) (h : s.ReduceWindows window strides lo hi t) (hu : 0 < u.numel) (j : t.Idx) :
    Host.reduceWindowAdd window strides lo hi x v h hu j = ∑ w : (⟨s.rank, window⟩ : Shape).Idx,
      if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0 := by
  unfold Host.reduceWindowAdd
  rw [Ideal.hostReduceWindowAdd_def, hv]
  unfold Ideal.hostReduceWindowAdd Host.reduceWindow
  refine (foldl_add _ _ rfl).trans (Eq.trans (Finset.sum_congr rfl fun n _ => ?_) (Equiv.sum_comp ((⟨s.rank, window⟩ : Shape).rowMajor.symm) (fun w : (⟨s.rank, window⟩ : Shape).Idx =>
      if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0)))
  split <;> rfl

/-- A window's one moving axis. -/
def winIdx (k : Fin 8192) : (⟨4, ![1, 8192, 1, 1]⟩ : Shape).Idx := ix4 0 k 0 0

theorem winIdx_bij : Function.Bijective winIdx := by
  constructor
  · intro k k' e
    exact congrFun e (1 : Fin 4)
  · intro w
    refine ⟨w (1 : Fin 4), funext fun a => ?_⟩
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The running sum of a column of real numbers. -/
theorem cumsum_real (y : FVec Ideal S2x8192x4x128 .f32) (v : FVec Ideal S_ .f32) (hv : ∀ i, v i = 0) (b : Fin 2) (g : Fin 4) (i : Fin 128)
    (f : ℕ → ℝ) (hy : ∀ s : Fin 8192, y (ix4 b s g i) = ((f s : ℝ) : EReal)) (s : Fin 8192) :
    Host.reduceWindowAdd ![1, 8192, 1, 1] ![1, 1, 1, 1] ![0, 8191, 0, 0] ![0, 0, 0, 0] y v
      reduceWindows_S2x8192x4x128_S2x8192x4x128_w1s1p0_0_w8192s1p8191_0_w1s1p0_0_w1s1p0_0 h_S_ (ix4 b s g i)
      = ((∑ k ∈ Finset.range (s + 1), f k : ℝ) : EReal) := by
  refine (reduceWindowAdd_apply _ _ _ _ y v hv _ _ _).trans ?_
  refine (Fintype.sum_bijective winIdx winIdx_bij (fun k : Fin 8192 => (((if 8191 ≤ s.val + k.val then f (s + k - 8191) else 0 : ℝ)) : EReal)) _ fun k => ?_).symm.trans ?_
  · split
    · next hc =>
      rw [dif_pos (fun a => by
        match a with
        | ⟨0, _⟩ => show 0 ≤ b.val * 1 + 0 ∧ b.val * 1 + 0 - 0 < 2; omega
        | ⟨1, _⟩ => show 8191 ≤ s.val * 1 + k.val ∧ s.val * 1 + k.val - 8191 < 8192; omega
        | ⟨2, _⟩ => show 0 ≤ g.val * 1 + 0 ∧ g.val * 1 + 0 - 0 < 4; omega
        | ⟨3, _⟩ => show 0 ≤ i.val * 1 + 0 ∧ i.val * 1 + 0 - 0 < 128; omega)]
      refine (hy ⟨s + k - 8191, by omega⟩).symm.trans (congrArg y (funext fun a => Fin.ext ?_))
      match a with
      | ⟨0, _⟩ => show b.val = b.val * 1 + 0 - 0; omega
      | ⟨1, _⟩ => show s.val + k.val - 8191 = s.val * 1 + k.val - 8191; omega
      | ⟨2, _⟩ => show g.val = g.val * 1 + 0 - 0; omega
      | ⟨3, _⟩ => show i.val = i.val * 1 + 0 - 0; omega
    · next hc =>
      rw [dif_neg (fun hin => hc (by
        have h1 : 8191 ≤ s.val * 1 + k.val := (hin 1).1
        omega))]
      rfl
  · rw [coe_sum]
    refine congrArg _ ?_
    rw [Fin.sum_univ_eq_sum_range (fun k => if 8191 ≤ s.val + k then f (s + k - 8191) else 0) 8192, ← Finset.sum_filter]
    refine Finset.sum_nbij' (fun k => s + k - 8191) (fun k => k + 8191 - s) ?_ ?_ ?_ ?_ ?_
    · intro k hk; rw [Finset.mem_filter, Finset.mem_range] at hk; rw [Finset.mem_range]; omega
    · intro k hk; rw [Finset.mem_range] at hk; rw [Finset.mem_filter, Finset.mem_range]; omega
    · intro k hk; rw [Finset.mem_filter, Finset.mem_range] at hk; omega
    · intro k hk; rw [Finset.mem_range] at hk; omega
    · intro k hk; rfl

/-- One row of zeros before the rows. -/
theorem pad1_apply (y : S2x8192x4x128.Idx → EReal) (v : S_.Idx → EReal) (b : Fin 2) (s : Fin 8192) (g : Fin 4) (i : Fin 128) (h : 1 + s.val < 8193) :
    pad S2x8193x4x128 ![0, 1, 0, 0] ![0, 0, 0, 0] ![0, 0, 0, 0] y v pads_S2x8192x4x128_S2x8193x4x128_000_100_000_000 h_S_ (ix4 b ⟨1 + s, h⟩ g i)
      = y (ix4 b s g i) := by
  refine pad_apply_of_inside _ _ _ y v _ _ _ _ fun a => ?_
  match a with
  | ⟨0, _⟩ => show b.val = 0 + b.val * (0 + 1); omega
  | ⟨1, _⟩ => show 1 + s.val = 1 + s.val * (0 + 1); omega
  | ⟨2, _⟩ => show g.val = 0 + g.val * (0 + 1); omega
  | ⟨3, _⟩ => show i.val = 0 + i.val * (0 + 1); omega

/-- The number of rows a window holds. -/
theorem count_word (s : Fin 8192) (w : ℕ) (hw : w ≤ 16) :
    FloatOps.sitofp (F := Ideal) FTy.f32 (IntOp.minsi (IntOp.addi (BitVec.ofNat 32 s.val) 1#32) (BitVec.ofNat 32 w))
      = (((min (s.val + 1) w : ℕ) : ℝ) : EReal) := by
  have e : IntOp.addi (BitVec.ofNat 32 s.val) 1#32 = BitVec.ofNat 32 (s.val + 1) := by
    rw [BitVec.ofNat_add]; rfl
  have n : ∀ k : ℕ, k < 100000 → (BitVec.ofNat 32 k).toInt = (k : ℤ) := by
    intro k hk
    have h2 : (BitVec.ofNat 32 k).toNat = k := by rw [BitVec.toNat_ofNat]; exact Nat.mod_eq_of_lt (by omega)
    rw [BitVec.toInt_eq_toNat_of_lt (by rw [h2]; omega), h2]
  rw [e, IntOp.minsi]
  show (((ite _ _ _ : BitVec 32).toInt : ℝ) : EReal) = _
  simp only [BitVec.slt, n _ (show s.val + 1 < 100000 by omega), n w (by omega), decide_eq_true_eq]
  congr 1
  split_ifs with h
  · rw [n _ (by omega), min_eq_left (by omega)]; rfl
  · rw [n _ (by omega), min_eq_right (by omega)]; rfl

/-- The difference of two running sums is the sum over the window between them. -/
theorem window_sum (f : ℕ → ℝ) (s w : ℕ) :
    (∑ k ∈ Finset.range (s + 1), f k) - (if s < w then 0 else ∑ k ∈ Finset.range (s - w + 1), f k)
      = ∑ d ∈ Finset.range w, if d ≤ s then f (s - d) else 0 := by
  by_cases hc : s < w
  · rw [if_pos hc, sub_zero, ← Finset.sum_filter, ← Finset.sum_flip]
    refine Finset.sum_congr (Finset.ext fun d => ?_) fun _ _ => rfl
    rw [Finset.mem_range, Finset.mem_filter, Finset.mem_range]
    omega
  · rw [if_neg hc, ← Finset.sum_flip, show s + 1 = w + (s - w + 1) by omega, Finset.sum_range_add,
      Finset.sum_congr (s₁ := Finset.range (s - w + 1)) rfl fun x _ => show f (s - (w + x)) = f (s - w - x) by rw [Nat.sub_sub],
      Finset.sum_flip (n := s - w), add_sub_cancel_right]
    refine Finset.sum_congr rfl fun d hd => ?_
    rw [Finset.mem_range] at hd
    rw [if_pos (by omega)]

end Cert.ReferenceIdeal.Read
end
-- ==== Proof.MixRefD.lean ====
/-
  The token-mixing reference's causal pooling at an element, as real numbers: the payloads that read differences of
  running sums, over elements.
-/
module

public import proofs.«01_k».proof.Proof.MixRefA
public import Idealize.ShloMosaic.Lib.KernelVsHost

@[expose] public section

noncomputable section

namespace Cert.ReferenceIdeal.Read

open Cert.ReferenceIdeal Cert.ReferenceIdeal.Gen Idealize.ShloMosaic Cert.Layer.Mix

section Payload

variable (x0 : (⟨S2x8192x1024, .f32⟩ : BufTy).Contents (Elt Ideal)) (x1 : (⟨S2x9x1024, .f32⟩ : BufTy).Contents (Elt Ideal))
  (x2 : (⟨S1024, .f32⟩ : BufTy).Contents (Elt Ideal)) (x3 : (⟨S1024x4096, .f32⟩ : BufTy).Contents (Elt Ideal))
  (x8 : (⟨S4x128x128, .f32⟩ : BufTy).Contents (Elt Ideal))
  (x9 : (⟨S512, .f32⟩ : BufTy).Contents (Elt Ideal))
  (x10 : (⟨S512x1024, .f32⟩ : BufTy).Contents (Elt Ideal))

theorem v131_apply (b : Fin 2) (s : Fin 8192) (g : Fin 4) (i : Fin 128) :
    val_main_v131 (F := Ideal) x0 x1 x2 x3 (ix4 b s g i) = val_main_v28 (F := Ideal) x0 x1 x2 x3 (ix3 b s ⟨1536 + (g * 128 + i), by omega⟩) := by
  pointwise [val_main_v131, val_main_v32]

/-- The mean of one window of one group, from the padded running sums. -/
def meanOf (y : S2x8193x4x128.Idx → EReal) (g : Fin 4) (w : ℕ) (b : Fin 2) (s : Fin 8192) (i : Fin 128) : EReal :=
  Ideal.div (y (ix4 b ⟨1 + s, by omega⟩ g i) - if s.val < w then 0 else y (ix4 b ⟨1 + (s - w), by omega⟩ g i))
    (FloatOps.sitofp (F := Ideal) FTy.f32 (IntOp.minsi (IntOp.addi (BitVec.ofNat 32 s.val) 1#32) (BitVec.ofNat 32 w)))

theorem v149_apply (b : Fin 2) (s : Fin 8192) (i : Fin 128) :
    val_main_v149 (F := Ideal) x0 x1 x2 x3 (ix3 b s i) = meanOf (val_main_v133 (F := Ideal) x0 x1 x2 x3) 0 2 b s i := by
  unfold meanOf
  pointwise [val_main_v149, val_main_v148, val_main_v147, val_main_v146, val_main_v145, val_main_v144, val_main_v143, val_main_v142, val_main_v141, val_main_v140, val_main_v139, val_main_v138, val_main_v137, val_main_v136, val_main_v135, val_main_v134, val_main_cst_24, val_main_c_25, val_main_c_26]
  rfl

theorem v165_apply (b : Fin 2) (s : Fin 8192) (i : Fin 128) :
    val_main_v165 (F := Ideal) x0 x1 x2 x3 (ix3 b s i) = meanOf (val_main_v133 (F := Ideal) x0 x1 x2 x3) 1 4 b s i := by
  unfold meanOf
  pointwise [val_main_v165, val_main_v164, val_main_v163, val_main_v162, val_main_v161, val_main_v160, val_main_v159, val_main_v158, val_main_v157, val_main_v156, val_main_v155, val_main_v154, val_main_v153, val_main_v152, val_main_v151, val_main_v150, val_main_cst_27, val_main_c_28, val_main_c_29]
  rfl

theorem v181_apply (b : Fin 2) (s : Fin 8192) (i : Fin 128) :
    val_main_v181 (F := Ideal) x0 x1 x2 x3 (ix3 b s i) = meanOf (val_main_v133 (F := Ideal) x0 x1 x2 x3) 2 8 b s i := by
  unfold meanOf
  pointwise [val_main_v181, val_main_v180, val_main_v179, val_main_v178, val_main_v177, val_main_v176, val_main_v175, val_main_v174, val_main_v173, val_main_v172, val_main_v171, val_main_v170, val_main_v169, val_main_v168, val_main_v167, val_main_v166, val_main_cst_30, val_main_c_31, val_main_c_32]
  rfl

theorem v197_apply (b : Fin 2) (s : Fin 8192) (i : Fin 128) :
    val_main_v197 (F := Ideal) x0 x1 x2 x3 (ix3 b s i) = meanOf (val_main_v133 (F := Ideal) x0 x1 x2 x3) 3 16 b s i := by
  unfold meanOf
  pointwise [val_main_v197, val_main_v196, val_main_v195, val_main_v194, val_main_v193, val_main_v192, val_main_v191, val_main_v190, val_main_v189, val_main_v188, val_main_v187, val_main_v186, val_main_v185, val_main_v184, val_main_v183, val_main_v182, val_main_cst_33, val_main_c_34, val_main_c_35]
  rfl

end Payload

end Cert.ReferenceIdeal.Read
end
-- ==== Proof.MixRefE.lean ====
/-
  The token-mixing reference's causal pooling at an element, as real numbers: the windows' means, the grouped weights, the
  scale and the output weights.
-/
module

public import proofs.«01_k».proof.Proof.MixSums
public import proofs.«01_k».proof.Proof.MixRefD
public import Idealize.ShloMosaic.Lib.KernelVsHost

@[expose] public section

noncomputable section

namespace Cert.ReferenceIdeal.Read

open Cert.ReferenceIdeal Cert.ReferenceIdeal.Gen Idealize.ShloMosaic Cert.Layer.Mix

section Payload

variable (x0 : (⟨S2x8192x1024, .f32⟩ : BufTy).Contents (Elt Ideal)) (x1 : (⟨S2x9x1024, .f32⟩ : BufTy).Contents (Elt Ideal))
  (x2 : (⟨S1024, .f32⟩ : BufTy).Contents (Elt Ideal)) (x3 : (⟨S1024x4096, .f32⟩ : BufTy).Contents (Elt Ideal))
  (x8 : (⟨S4x128x128, .f32⟩ : BufTy).Contents (Elt Ideal)) (x9 : (⟨S512, .f32⟩ : BufTy).Contents (Elt Ideal))
  (x10 : (⟨S512x1024, .f32⟩ : BufTy).Contents (Elt Ideal))

theorem v203_apply (b : Fin 2) (s : Fin 8192) (g : Fin 4) (i : Fin 128) :
    val_main_v203 (F := Ideal) x0 x1 x2 x3 (ix4 b s g i)
      = (if g.val < 1 then val_main_v149 (F := Ideal) x0 x1 x2 x3 (ix3 b s i) else if g.val - 1 < 1 then val_main_v165 (F := Ideal) x0 x1 x2 x3 (ix3 b s i)
          else if g.val - 1 - 1 < 1 then val_main_v181 (F := Ideal) x0 x1 x2 x3 (ix3 b s i) else val_main_v197 (F := Ideal) x0 x1 x2 x3 (ix3 b s i))
        - val_main_v131 (F := Ideal) x0 x1 x2 x3 (ix4 b s g i) := by
  pointwise [val_main_v203, val_main_v202, val_main_v201, val_main_v200, val_main_v199, val_main_v198]
  rfl

theorem v210_apply (b : Fin 2) (s : Fin 8192) (k : Fin 1024) :
    val_main_v210 (F := Ideal) x0 x1 x2 x3 x8 x9 x10 (ix3 b s k)
      = ∑ c : Fin 512, (∑ i : Fin 128, x8 (ix3 ⟨c.val / 128, by omega⟩ i ⟨c.val % 128, by omega⟩)
          * val_main_v203 (F := Ideal) x0 x1 x2 x3 (ix4 b s ⟨c.val / 128, by omega⟩ i)) * x9 (ix1 c) * x10 (ix2 c k) := by
  pointwise [val_main_v210, val_main_v209, val_main_v208, val_main_v207, val_main_v206, val_main_v205, val_main_v204]

end Payload

variable {A : Args} (R : A.Real)
include R

theorem v131_real (b : Fin 2) (s : Fin 8192) (g : Fin 4) (i : Fin 128) :
    val_main_v131 (F := Ideal) A.x A.md A.g A.w (ix4 b s g i) = ((z (A.inp b) s (1536 + (128 * g + i)) : ℝ) : EReal) := by
  rw [v131_apply, v28_real R, ← Nat.mul_comm g.val]

theorem v133_real (b : Fin 2) (s : Fin 8192) (g : Fin 4) (i : Fin 128) (h : 1 + s.val < 8193) :
    val_main_v133 (F := Ideal) A.x A.md A.g A.w (ix4 b ⟨1 + s, h⟩ g i)
      = ((∑ k ∈ Finset.range (s + 1), z (A.inp b) k (1536 + (128 * g + i)) : ℝ) : EReal) := by
  unfold val_main_v133
  rw [pad1_apply]
  unfold val_main_v132
  exact cumsum_real _ _ (fun _ => Ideal.ofBits_zero .f32) b g i (fun k => z (A.inp b) k (1536 + (128 * g + i))) (fun s' => v131_real R b s' g i) s

theorem meanOf_real (b : Fin 2) (s : Fin 8192) (g : Fin 4) (i : Fin 128) (w : ℕ) (h0 : 0 < w) (hw : w ≤ 16) :
    meanOf (val_main_v133 (F := Ideal) A.x A.md A.g A.w) g w b s i
      = (((∑ d ∈ Finset.range w, if d ≤ s.val then z (A.inp b) (s - d) (1536 + (128 * g + i)) else 0) / (min (s.val + 1) w : ℕ) : ℝ) : EReal) := by
  have hlo : (if s.val < w then (0 : EReal) else val_main_v133 (F := Ideal) A.x A.md A.g A.w (ix4 b ⟨1 + (s - w), by omega⟩ g i))
      = ((if s.val < w then 0 else ∑ k ∈ Finset.range (s - w + 1), z (A.inp b) k (1536 + (128 * g + i)) : ℝ) : EReal) := by
    by_cases hc : s.val < w
    · rw [if_pos hc, if_pos hc, EReal.coe_zero]
    · rw [if_neg hc, if_neg hc]
      exact v133_real R b ⟨s - w, by omega⟩ g i _
  have hn : ((min (s.val + 1) w : ℕ) : ℝ) ≠ 0 := by
    rw [Nat.cast_ne_zero]; omega
  unfold meanOf
  rw [v133_real R b s g i, count_word s w hw, hlo, ← EReal.coe_sub, window_sum, div_real _ hn]

theorem v203_real (b : Fin 2) (s : Fin 8192) (g : Fin 4) (i : Fin 128) :
    val_main_v203 (F := Ideal) A.x A.md A.g A.w (ix4 b s g i) = ((Cert.Layer.Mix.pool (A.inp b) s (128 * g + i) : ℝ) : EReal) := by
  have key : ∀ y : EReal, y = meanOf (val_main_v133 (F := Ideal) A.x A.md A.g A.w) g (2 ^ (g.val + 1)) b s i →
      y - ((z (A.inp b) s (1536 + (128 * g + i)) : ℝ) : EReal) = ((Cert.Layer.Mix.pool (A.inp b) s (128 * g + i) : ℝ) : EReal) := by
    intro y e
    rw [e, meanOf_real R b s g i _ (by positivity) (by
      calc 2 ^ (g.val + 1) ≤ 2 ^ 4 := Nat.pow_le_pow_right (by decide) (by omega)
        _ = 16 := rfl), ← EReal.coe_sub]
    unfold Cert.Layer.Mix.pool
    rw [show (128 * g.val + i.val) / 128 = g.val by omega]
  rw [v203_apply, v131_real R]
  refine key _ ?_
  rw [v149_apply, v165_apply, v181_apply, v197_apply]
  match g with
  | ⟨0, _⟩ => rfl
  | ⟨1, _⟩ => rfl
  | ⟨2, _⟩ => rfl
  | ⟨3, _⟩ => rfl

theorem v210_real (b : Fin 2) (t : Fin 8192) (k : Fin 1024) :
    val_main_v210 (F := Ideal) A.x A.md A.g A.w A.wg A.ps A.wp (ix3 b t k) = ((yb (A.inp b) t k : ℝ) : EReal) := by
  rw [v210_apply]
  refine (Finset.sum_congr rfl fun c _ => congrArg₂ (· * ·) (congrArg₂ (· * ·)
    (Finset.sum_congr rfl fun i _ => congrArg₂ (· * ·) (R.wg_eq b ⟨c.val / 128, by omega⟩ i ⟨c.val % 128, by omega⟩) (v203_real R b t ⟨c.val / 128, by omega⟩ i))
    (R.ps_eq b c)) (R.wp_eq b c k)).trans ?_
  simp only [← EReal.coe_mul, coe_sum]
  refine congrArg _ (Finset.sum_congr rfl fun c _ => ?_)
  rw [Finset.sum_congr rfl fun i _ => mul_comm _ _]

end Cert.ReferenceIdeal.Read
end
-- ==== Proof.MixRefF.lean ====
/-
  The token-mixing reference's last part at an element, as a real number: the two branches gated and added, the output
  weights, the gate row and the input added.
-/
module

public import proofs.«01_k».proof.Proof.MixRefC
public import proofs.«01_k».proof.Proof.MixRefE
public import Idealize.ShloMosaic.Lib.KernelVsHost

@[expose] public section

noncomputable section

namespace Cert.ReferenceIdeal.Read

open Cert.ReferenceIdeal Cert.ReferenceIdeal.Gen Idealize.ShloMosaic Cert.Layer.Mix

section Payload

variable (x0 : (⟨S2x8192x1024, .f32⟩ : BufTy).Contents (Elt Ideal)) (x1 : (⟨S2x9x1024, .f32⟩ : BufTy).Contents (Elt Ideal))
  (x2 : (⟨S1024, .f32⟩ : BufTy).Contents (Elt Ideal)) (x3 : (⟨S1024x4096, .f32⟩ : BufTy).Contents (Elt Ideal))
  (x4 x5 : (⟨S64, .f32⟩ : BufTy).Contents (Elt Ideal)) (x6 : (⟨S8x257, .f32⟩ : BufTy).Contents (Elt Ideal))
  (x7 : (⟨S512x1024, .f32⟩ : BufTy).Contents (Elt Ideal)) (x8 : (⟨S4x128x128, .f32⟩ : BufTy).Contents (Elt Ideal))
  (x9 : (⟨S512, .f32⟩ : BufTy).Contents (Elt Ideal)) (x10 : (⟨S512x1024, .f32⟩ : BufTy).Contents (Elt Ideal))
  (x11 : (⟨S1024x1024, .f32⟩ : BufTy).Contents (Elt Ideal))

theorem v216_apply (b : Fin 2) (s : Fin 8192) (k : Fin 1024) :
    val_main_v216 (F := Ideal) x0 x1 x2 x3 (ix3 b s k)
      = Ideal.div 1 (1 + Ideal.exp (-val_main_v28 (F := Ideal) x0 x1 x2 x3 (ix3 b s ⟨2048 + k, by omega⟩))) := by
  pointwise [val_main_v216, val_main_v215, val_main_v214, val_main_v213, val_main_v212, val_main_v211, val_main_v33, val_main_cst_36, val_main_cst_37]

theorem v223_apply (b : Fin 2) (s : Fin 8192) (k : Fin 1024) :
    val_main_v223 (F := Ideal) x0 x1 x2 x3 (ix3 b s k)
      = Ideal.div 1 (1 + Ideal.exp (-val_main_v28 (F := Ideal) x0 x1 x2 x3 (ix3 b s ⟨3072 + k, by omega⟩))) := by
  pointwise [val_main_v223, val_main_v222, val_main_v221, val_main_v220, val_main_v219, val_main_v218, val_main_v34, val_main_cst_38, val_main_cst_39]

theorem v225_apply (b : Fin 2) (s : Fin 8192) (k : Fin 1024) :
    val_main_v225 (F := Ideal) x0 x1 x2 x3 x4 x5 x6 x7 x8 x9 x10 (ix3 b s k)
      = val_main_v216 (F := Ideal) x0 x1 x2 x3 (ix3 b s k) * val_main_v130 (F := Ideal) x0 x1 x2 x3 x4 x5 x6 x7 (ix3 b s k)
        + val_main_v223 (F := Ideal) x0 x1 x2 x3 (ix3 b s k) * val_main_v210 (F := Ideal) x0 x1 x2 x3 x8 x9 x10 (ix3 b s k) := rfl

theorem v8_apply (b : Fin 2) (i : Fin 1) (k : Fin 1024) : val_main_v8 (F := Ideal) x1 (ix3 b i k) = x1 (ix3 b 5 k) := by
  pointwise [val_main_v8, val_main_v7, val_main_v6]

theorem v227_apply (b : Fin 2) (s : Fin 8192) (k : Fin 1024) : val_main_v227 (F := Ideal) x1 (ix3 b s k) = x1 (ix3 b 5 k) := by
  have e := fun i => v8_apply x1 b i k
  unfold val_main_v227
  generalize val_main_v8 (F := Ideal) x1 = y at e
  pointwise
  exact e _

theorem v226_apply (b : Fin 2) (s : Fin 8192) (k : Fin 1024) :
    val_main_v226 (F := Ideal) x0 x1 x2 x3 x4 x5 x6 x7 x8 x9 x10 x11 (ix3 b s k)
      = ∑ m : Fin 1024, val_main_v225 (F := Ideal) x0 x1 x2 x3 x4 x5 x6 x7 x8 x9 x10 (ix3 b s m) * x11 (ix2 m k) := by
  unfold val_main_v226
  generalize val_main_v225 (F := Ideal) x0 x1 x2 x3 x4 x5 x6 x7 x8 x9 x10 = y
  pointwise

theorem v229_apply (b : Fin 2) (s : Fin 8192) (k : Fin 1024) :
    val_main_v229 (F := Ideal) x0 x1 x2 x3 x4 x5 x6 x7 x8 x9 x10 x11 (ix3 b s k)
      = x0 (ix3 b s k) + val_main_v227 (F := Ideal) x1 (ix3 b s k)
          * val_main_v226 (F := Ideal) x0 x1 x2 x3 x4 x5 x6 x7 x8 x9 x10 x11 (ix3 b s k) := rfl

end Payload

/-- The sigmoid of a real number, as the reference divides it. -/
theorem sg_real (r : ℝ) : Ideal.div 1 (1 + Ideal.exp (-((r : ℝ) : EReal))) = ((sg r : ℝ) : EReal) := by
  have h : Ideal.exp (-((r : ℝ) : EReal)) = ((Real.exp (-r) : ℝ) : EReal) := rfl
  have hp : 1 + Real.exp (-r) ≠ 0 := (add_pos zero_lt_one (Real.exp_pos _)).ne'
  rw [h, ← EReal.coe_one, ← EReal.coe_add, div_real _ hp, one_div]
  rfl

variable {A : Args} (R : A.Real)
include R

theorem v229_real (b : Fin 2) (t : Fin 8192) (k : Fin 1024) :
    val_main_v229 (F := Ideal) A.x A.md A.g A.w A.qg A.kg A.rb A.wa A.wg A.ps A.wp A.wo (ix3 b t k) = A.res b t k := by
  have hm : ∀ m : Fin 1024, val_main_v225 (F := Ideal) A.x A.md A.g A.w A.qg A.kg A.rb A.wa A.wg A.ps A.wp (ix3 b t m)
      = ((mrg (A.inp b) t m : ℝ) : EReal) := by
    intro m
    rw [v225_apply, v216_apply, v223_apply, v28_real R, v28_real R, sg_real, sg_real, v130_real R, v210_real R,
      ← EReal.coe_mul, ← EReal.coe_mul, ← EReal.coe_add]
    rfl
  rw [v229_apply, v227_apply, v226_apply, Finset.sum_congr rfl fun m _ => congrArg₂ (· * ·) (hm m) (R.wo_eq b m k), R.x_eq b t k, R.ga_eq b k]
  simp only [← EReal.coe_mul, coe_sum, ← EReal.coe_add]
  rfl

end Cert.ReferenceIdeal.Read
end
-- ==== Proof.MixClaim.lean ====
/-
  The token-mixing call: from real arguments kernel and reference end at the same array.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Frames
public import proofs.«01_k».proof.Proof.MixValue
public import proofs.«01_k».proof.Proof.MixRefF

@[expose] public section

noncomputable section

namespace Cert.Proof.Mix

open Idealize.ShloMosaic Idealize.ShloMosaic.TcCoe Idealize.SL.Sem Cert.Layer.Mix

/-- The side conditions of the precondition's text. -/
theorem finiteFacts : Cert.Pre_finite.Facts := by constructor <;> decide

/-- An array whose absolute values are all below infinity is an array of real numbers. -/
theorem real_of_mask {s : Shape} (a : FVec Ideal s .f32) (h : Cert.Pre_finite.S_.BroadcastsInDim s (![] : Fin 0 → Fin s.rank))
    (e : cmpf .olt (Host.absf a) (broadcastInDim s ![] h (constant (F := Ideal) Cert.Pre_finite.S_ .f32 0x7F800000#32)) = fun _ => 1#1) :
    IsReal a := by
  intro i
  have hi : Ideal.cmp .olt (max (a i) (-(a i))) (Ideal.ofBits .f32 0x7F800000#32) = 1#1 := congrFun e i
  have ht : Ideal.ofBits .f32 0x7F800000#32 = ⊤ := by simp [Ideal.ofBits, Ideal.ieee]
  rw [ht] at hi
  refine EReal.coe_toReal (fun h0 => ?_) (fun h0 => ?_)
  · rw [h0] at hi
    simp [Ideal.cmp] at hi
  · rw [h0] at hi
    simp [Ideal.cmp] at hi

theorem real_args (m : (ℓ : Loc Cert.KernelIdeal.nD Cert.KernelIdeal.τ Cert.KernelIdeal.sig) → Buf (Elt Ideal) ℓ)
    (h : Cert.Pre_KernelIdeal_finite (hPre_finite := finiteFacts) m) (c : Dev Cert.KernelIdeal.nD) : (Cert.KernelIdeal.Value.args m c).Real := by
  obtain ⟨h0, h1, h2, h3, h4, h5, h6, h7, h8, h9, h10, h11⟩ := h c
  exact ⟨real_of_mask _ _ h0, real_of_mask _ _ h1, real_of_mask _ _ h2, real_of_mask _ _ h3, real_of_mask _ _ h4, real_of_mask _ _ h5,
    real_of_mask _ _ h6, real_of_mask _ _ h7, real_of_mask _ _ h8, real_of_mask _ _ h9, real_of_mask _ _ h10, real_of_mask _ _ h11⟩

theorem frame_ki_finite : Cert.quiescent_KernelIdeal_pre_finite (hKernelIdeal := Cert.KernelIdeal.Gen.facts) (hPre_finite := finiteFacts) :=
  fun m ρ _ => frame_ki m ρ trivial
theorem frame_ri_finite : Cert.quiescent_ReferenceIdeal_pre_finite (hReferenceIdeal := Cert.ReferenceIdeal.Gen.facts) (hPre_finite := finiteFacts) :=
  fun m ρ _ => frame_ri m ρ trivial

/-- `Cert.algebraic_KernelIdeal_ReferenceIdeal_pre_finite`: both result arrays are `Args.res` of the arguments, which agree. -/
theorem algebraic : Cert.algebraic_KernelIdeal_ReferenceIdeal_pre_finite (hKernelIdeal := Cert.KernelIdeal.Gen.facts)
    (hReferenceIdeal := Cert.ReferenceIdeal.Gen.facts) (hPre_finite := finiteFacts) := by
  intro m ρ m' ρ' hpre hagree
  refine ⟨fun c => (Cert.KernelIdeal.Gen.dats m 0 c).arrAt 12 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  have R := real_args m hpre c
  rw [Cert.ReferenceIdeal.Read.val_main_v229_eq]
  obtain ⟨a0, a1, a2, a3, a4, a5, a6, a7, a8, a9, a10, a11⟩ := hagree c
  have e0 : StableHlo.launchContents m' c (Proc.tc.devRef Cert.ReferenceIdeal.main_arg0) = _ := a0
  have e1 : StableHlo.launchContents m' c (Proc.tc.devRef Cert.ReferenceIdeal.main_arg1) = _ := a1
  have e2 : StableHlo.launchContents m' c (Proc.tc.devRef Cert.ReferenceIdeal.main_arg2) = _ := a2
  have e3 : StableHlo.launchContents m' c (Proc.tc.devRef Cert.ReferenceIdeal.main_arg3) = _ := a3
  have e4 : StableHlo.launchContents m' c (Proc.tc.devRef Cert.ReferenceIdeal.main_arg4) = _ := a4
  have e5 : StableHlo.launchContents m' c (Proc.tc.devRef Cert.ReferenceIdeal.main_arg5) = _ := a5
  have e6 : StableHlo.launchContents m' c (Proc.tc.devRef Cert.ReferenceIdeal.main_arg6) = _ := a6
  have e7 : StableHlo.launchContents m' c (Proc.tc.devRef Cert.ReferenceIdeal.main_arg7) = _ := a7
  have e8 : StableHlo.launchContents m' c (Proc.tc.devRef Cert.ReferenceIdeal.main_arg8) = _ := a8
  have e9 : StableHlo.launchContents m' c (Proc.tc.devRef Cert.ReferenceIdeal.main_arg9) = _ := a9
  have e10 : StableHlo.launchContents m' c (Proc.tc.devRef Cert.ReferenceIdeal.main_arg10) = _ := a10
  have e11 : StableHlo.launchContents m' c (Proc.tc.devRef Cert.ReferenceIdeal.main_arg11) = _ := a11
  rw [e0, e1, e2, e3, e4, e5, e6, e7, e8, e9, e10, e11]
  funext i
  obtain ⟨b, t, k, rfl⟩ : ∃ (b : Fin 2) (t : Fin 8192) (k : Fin 1024), i = ix3 b t k := ⟨i 0, i 1, i 2, funext fun a => by fin_cases a <;> rfl⟩
  exact (Cert.ReferenceIdeal.Read.v229_real R b t k).trans (Cert.KernelIdeal.Value.final_apply m c R b t k).symm

end Cert.Proof.Mix

end
-- ==== Proof.ModRun.lean ====
/-
  What the modulation kernel's body leaves at one grid point: at the first point the bias rows, then at every point each row of
  each batch's block plus that row's part of the column sums; and the two weight blocks cast.
-/
module

public import proofs.«01_k».proof.Proof.Gen.Kernel3Ideal.Value
public import proofs.«01_k».proof.Proof.MixRun

@[expose] public section

noncomputable section

namespace Cert.Kernel3Ideal.Value

open Cert.Kernel3Ideal Cert.Kernel3Ideal.Gen Idealize.ShloMosaic Idealize.ShloMosaic.TcCoe Idealize.SL.Sem Cert.Layer
open Cert.KernelIdeal.Value (over over_cons_emb over_cons_of_not_mem read_writes_over)

/-- The first batch's column of conditioning rows. -/
def col0 (x0 : Vec Ideal S128x2 .f32) : Vec Ideal S128x1 .f32 := View.ld x0 (Rect.unit (s := S128x2) ![0, 0] S128x1.size inb_S128x2_S128x1_0_0)
/-- The second batch's column of conditioning rows. -/
def col1 (x0 : Vec Ideal S128x2 .f32) : Vec Ideal S128x1 .f32 := View.ld x0 (Rect.unit (s := S128x2) ![0, 1] S128x1.size inb_S128x2_S128x1_0_1)
/-- The weight rows as loaded. -/
def wB (x1 : Vec Ideal S128x9216 .f32) : Vec Ideal S128x9216 .f32 := View.ld x1 (Rect.unit (s := S128x9216) ![0, 0] S128x9216.size inb_S128x9216_S128x9216_0_0)

/-- The stores into the modulation block. -/
abbrev Pcs := List (View.Piece (Elt Ideal) S2x9x1024 .f32)

/-- A row of the block read from the contents `X`, changed and stored back. -/
def stp (X : Vec Ideal S2x9x1024 .f32) (r : Fin 3 → Nat) (inb : ∀ a, r a + S1x1x1024.size a ≤ S2x9x1024.size a)
    (p : Vec Ideal S1x1x1024 .f32 → FVec Ideal S1x1x1024 .f32) : View.Piece (Elt Ideal) S2x9x1024 .f32 :=
  ⟨Rect.unit (s := S2x9x1024) r S1x1x1024.size inb, p (fun j => X ((Rect.unit (s := S2x9x1024) r S1x1x1024.size inb).idx j))⟩

/-- Row 0 of batch 0. -/
def stp00 (X : Vec Ideal S2x9x1024 .f32) (x0 : Vec Ideal S128x2 .f32) (x1 : Vec Ideal S128x9216 .f32) : View.Piece (Elt Ideal) S2x9x1024 .f32 :=
  stp X ![0, 0, 0] inb_S2x9x1024_S1x1x1024_0_0_0 (fun o => k0_pay12 (col0 x0) (wB x1) o)
/-- Row 1 of batch 0. -/
def stp01 (X : Vec Ideal S2x9x1024 .f32) (x0 : Vec Ideal S128x2 .f32) (x1 : Vec Ideal S128x9216 .f32) : View.Piece (Elt Ideal) S2x9x1024 .f32 :=
  stp X ![0, 1, 0] inb_S2x9x1024_S1x1x1024_0_1_0 (fun o => k0_pay13 (col0 x0) (wB x1) o)
/-- Row 2 of batch 0. -/
def stp02 (X : Vec Ideal S2x9x1024 .f32) (x0 : Vec Ideal S128x2 .f32) (x1 : Vec Ideal S128x9216 .f32) : View.Piece (Elt Ideal) S2x9x1024 .f32 :=
  stp X ![0, 2, 0] inb_S2x9x1024_S1x1x1024_0_2_0 (fun o => k0_pay15 (k0_pay14 (col0 x0) (wB x1) o))
/-- Row 3 of batch 0. -/
def stp03 (X : Vec Ideal S2x9x1024 .f32) (x0 : Vec Ideal S128x2 .f32) (x1 : Vec Ideal S128x9216 .f32) : View.Piece (Elt Ideal) S2x9x1024 .f32 :=
  stp X ![0, 3, 0] inb_S2x9x1024_S1x1x1024_0_3_0 (fun o => k0_pay16 (k0_pay11 (col0 x0) (wB x1)) o)
/-- Row 4 of batch 0. -/
def stp04 (X : Vec Ideal S2x9x1024 .f32) (x0 : Vec Ideal S128x2 .f32) (x1 : Vec Ideal S128x9216 .f32) : View.Piece (Elt Ideal) S2x9x1024 .f32 :=
  stp X ![0, 4, 0] inb_S2x9x1024_S1x1x1024_0_4_0 (fun o => k0_pay17 (k0_pay11 (col0 x0) (wB x1)) o)
/-- Row 5 of batch 0. -/
def stp05 (X : Vec Ideal S2x9x1024 .f32) (x0 : Vec Ideal S128x2 .f32) (x1 : Vec Ideal S128x9216 .f32) : View.Piece (Elt Ideal) S2x9x1024 .f32 :=
  stp X ![0, 5, 0] inb_S2x9x1024_S1x1x1024_0_5_0 (fun o => k0_pay18 (k0_pay11 (col0 x0) (wB x1)) o)
/-- Row 6 of batch 0. -/
def stp06 (X : Vec Ideal S2x9x1024 .f32) (x0 : Vec Ideal S128x2 .f32) (x1 : Vec Ideal S128x9216 .f32) : View.Piece (Elt Ideal) S2x9x1024 .f32 :=
  stp X ![0, 6, 0] inb_S2x9x1024_S1x1x1024_0_6_0 (fun o => k0_pay19 (k0_pay11 (col0 x0) (wB x1)) o)
/-- Row 7 of batch 0. -/
def stp07 (X : Vec Ideal S2x9x1024 .f32) (x0 : Vec Ideal S128x2 .f32) (x1 : Vec Ideal S128x9216 .f32) : View.Piece (Elt Ideal) S2x9x1024 .f32 :=
  stp X ![0, 7, 0] inb_S2x9x1024_S1x1x1024_0_7_0 (fun o => k0_pay20 (k0_pay11 (col0 x0) (wB x1)) o)
/-- Row 8 of batch 0. -/
def stp08 (X : Vec Ideal S2x9x1024 .f32) (x0 : Vec Ideal S128x2 .f32) (x1 : Vec Ideal S128x9216 .f32) : View.Piece (Elt Ideal) S2x9x1024 .f32 :=
  stp X ![0, 8, 0] inb_S2x9x1024_S1x1x1024_0_8_0 (fun o => k0_pay21 (k0_pay11 (col0 x0) (wB x1)) o)
/-- Row 0 of batch 1. -/
def stp10 (X : Vec Ideal S2x9x1024 .f32) (x0 : Vec Ideal S128x2 .f32) (x1 : Vec Ideal S128x9216 .f32) : View.Piece (Elt Ideal) S2x9x1024 .f32 :=
  stp X ![1, 0, 0] inb_S2x9x1024_S1x1x1024_1_0_0 (fun o => k0_pay23 (col1 x0) (wB x1) o)
/-- Row 1 of batch 1. -/
def stp11 (X : Vec Ideal S2x9x1024 .f32) (x0 : Vec Ideal S128x2 .f32) (x1 : Vec Ideal S128x9216 .f32) : View.Piece (Elt Ideal) S2x9x1024 .f32 :=
  stp X ![1, 1, 0] inb_S2x9x1024_S1x1x1024_1_1_0 (fun o => k0_pay25 (k0_pay22 (col1 x0) (wB x1)) (k0_pay24 o))
/-- Row 2 of batch 1. -/
def stp12 (X : Vec Ideal S2x9x1024 .f32) (x0 : Vec Ideal S128x2 .f32) (x1 : Vec Ideal S128x9216 .f32) : View.Piece (Elt Ideal) S2x9x1024 .f32 :=
  stp X ![1, 2, 0] inb_S2x9x1024_S1x1x1024_1_2_0 (fun o => k0_pay26 (k0_pay22 (col1 x0) (wB x1)) o)
/-- Row 3 of batch 1. -/
def stp13 (X : Vec Ideal S2x9x1024 .f32) (x0 : Vec Ideal S128x2 .f32) (x1 : Vec Ideal S128x9216 .f32) : View.Piece (Elt Ideal) S2x9x1024 .f32 :=
  stp X ![1, 3, 0] inb_S2x9x1024_S1x1x1024_1_3_0 (fun o => k0_pay27 (k0_pay22 (col1 x0) (wB x1)) o)
/-- Row 4 of batch 1. -/
def stp14 (X : Vec Ideal S2x9x1024 .f32) (x0 : Vec Ideal S128x2 .f32) (x1 : Vec Ideal S128x9216 .f32) : View.Piece (Elt Ideal) S2x9x1024 .f32 :=
  stp X ![1, 4, 0] inb_S2x9x1024_S1x1x1024_1_4_0 (fun o => k0_pay28 (k0_pay22 (col1 x0) (wB x1)) o)
/-- Row 5 of batch 1. -/
def stp15 (X : Vec Ideal S2x9x1024 .f32) (x0 : Vec Ideal S128x2 .f32) (x1 : Vec Ideal S128x9216 .f32) : View.Piece (Elt Ideal) S2x9x1024 .f32 :=
  stp X ![1, 5, 0] inb_S2x9x1024_S1x1x1024_1_5_0 (fun o => k0_pay30 (k0_pay29 (k0_pay22 (col1 x0) (wB x1)) o))
/-- Row 6 of batch 1. -/
def stp16 (X : Vec Ideal S2x9x1024 .f32) (x0 : Vec Ideal S128x2 .f32) (x1 : Vec Ideal S128x9216 .f32) : View.Piece (Elt Ideal) S2x9x1024 .f32 :=
  stp X ![1, 6, 0] inb_S2x9x1024_S1x1x1024_1_6_0 (fun o => k0_pay31 (k0_pay22 (col1 x0) (wB x1)) o)
/-- Row 7 of batch 1. -/
def stp17 (X : Vec Ideal S2x9x1024 .f32) (x0 : Vec Ideal S128x2 .f32) (x1 : Vec Ideal S128x9216 .f32) : View.Piece (Elt Ideal) S2x9x1024 .f32 :=
  stp X ![1, 7, 0] inb_S2x9x1024_S1x1x1024_1_7_0 (fun o => k0_pay32 (k0_pay22 (col1 x0) (wB x1)) o)
/-- Row 8 of batch 1. -/
def stp18 (X : Vec Ideal S2x9x1024 .f32) (x0 : Vec Ideal S128x2 .f32) (x1 : Vec Ideal S128x9216 .f32) : View.Piece (Elt Ideal) S2x9x1024 .f32 :=
  stp X ![1, 8, 0] inb_S2x9x1024_S1x1x1024_1_8_0 (fun o => k0_pay33 (k0_pay22 (col1 x0) (wB x1)) o)

/-- Every row of both batches, from the contents before. -/
def stps (X : Vec Ideal S2x9x1024 .f32) (x0 : Vec Ideal S128x2 .f32) (x1 : Vec Ideal S128x9216 .f32) : Pcs :=
  [stp18 X x0 x1, stp17 X x0 x1, stp16 X x0 x1, stp15 X x0 x1, stp14 X x0 x1, stp13 X x0 x1, stp12 X x0 x1, stp11 X x0 x1, stp10 X x0 x1, stp08 X x0 x1, stp07 X x0 x1, stp06 X x0 x1, stp05 X x0 x1, stp04 X x0 x1, stp03 X x0 x1, stp02 X x0 x1, stp01 X x0 x1, stp00 X x0 x1]

/-- A row read over the stores so far. -/
def onto (f : Vec Ideal S2x9x1024 .f32 → Vec Ideal S128x2 .f32 → Vec Ideal S128x9216 .f32 → View.Piece (Elt Ideal) S2x9x1024 .f32)
    (x0 : Vec Ideal S128x2 .f32) (x1 : Vec Ideal S128x9216 .f32) (L : Pcs) : Pcs := f (View.canon L) x0 x1 :: L

/-- Every row of both batches, each read over the stores before it. -/
def stpsA (x0 : Vec Ideal S128x2 .f32) (x1 : Vec Ideal S128x9216 .f32) (L : Pcs) : Pcs :=
  onto stp18 x0 x1 (onto stp17 x0 x1 (onto stp16 x0 x1 (onto stp15 x0 x1 (onto stp14 x0 x1 (onto stp13 x0 x1 (onto stp12 x0 x1 (onto stp11 x0 x1 (onto stp10 x0 x1 (onto stp08 x0 x1 (onto stp07 x0 x1 (onto stp06 x0 x1 (onto stp05 x0 x1 (onto stp04 x0 x1 (onto stp03 x0 x1 (onto stp02 x0 x1 (onto stp01 x0 x1 (onto stp00 x0 x1 (L))))))))))))))))))

/-- The bias rows, each for both batches. -/
def biasL (x2 : Vec Ideal S1x9216 .f32) : Pcs :=
  [⟨Rect.unit (s := S2x9x1024) ![0, 8, 0] S2x1x1024.size inb_S2x9x1024_S2x1x1024_0_8_0, k0_pay10 (View.ld x2 (Rect.unit (s := S1x9216) ![0, 8192] S1x1024.size inb_S1x9216_S1x1024_0_8192))⟩,
   ⟨Rect.unit (s := S2x9x1024) ![0, 7, 0] S2x1x1024.size inb_S2x9x1024_S2x1x1024_0_7_0, k0_pay9 (View.ld x2 (Rect.unit (s := S1x9216) ![0, 7168] S1x1024.size inb_S1x9216_S1x1024_0_7168))⟩,
   ⟨Rect.unit (s := S2x9x1024) ![0, 6, 0] S2x1x1024.size inb_S2x9x1024_S2x1x1024_0_6_0, k0_pay8 (View.ld x2 (Rect.unit (s := S1x9216) ![0, 6144] S1x1024.size inb_S1x9216_S1x1024_0_6144))⟩,
   ⟨Rect.unit (s := S2x9x1024) ![0, 5, 0] S2x1x1024.size inb_S2x9x1024_S2x1x1024_0_5_0, k0_pay7 (View.ld x2 (Rect.unit (s := S1x9216) ![0, 5120] S1x1024.size inb_S1x9216_S1x1024_0_5120))⟩,
   ⟨Rect.unit (s := S2x9x1024) ![0, 4, 0] S2x1x1024.size inb_S2x9x1024_S2x1x1024_0_4_0, k0_pay6 (k0_pay5 (View.ld x2 (Rect.unit (s := S1x9216) ![0, 4096] S1x1024.size inb_S1x9216_S1x1024_0_4096)))⟩,
   ⟨Rect.unit (s := S2x9x1024) ![0, 3, 0] S2x1x1024.size inb_S2x9x1024_S2x1x1024_0_3_0, k0_pay4 (View.ld x2 (Rect.unit (s := S1x9216) ![0, 3072] S1x1024.size inb_S1x9216_S1x1024_0_3072))⟩,
   ⟨Rect.unit (s := S2x9x1024) ![0, 2, 0] S2x1x1024.size inb_S2x9x1024_S2x1x1024_0_2_0, k0_pay3 (View.ld x2 (Rect.unit (s := S1x9216) ![0, 2048] S1x1024.size inb_S1x9216_S1x1024_0_2048))⟩,
   ⟨Rect.unit (s := S2x9x1024) ![0, 1, 0] S2x1x1024.size inb_S2x9x1024_S2x1x1024_0_1_0, k0_pay2 (View.ld x2 (Rect.unit (s := S1x9216) ![0, 1024] S1x1024.size inb_S1x9216_S1x1024_0_1024))⟩,
   ⟨Rect.unit (s := S2x9x1024) ![0, 0, 0] S2x1x1024.size inb_S2x9x1024_S2x1x1024_0_0_0, k0_pay1 (View.ld x2 (Rect.unit (s := S1x9216) ![0, 0] S1x1024.size inb_S1x9216_S1x1024_0_0))⟩]

theorem out_B5 (c : Dev nD) (i : grid0.Coords) (arg1 : Memref sig .tc .vmem S128x2 .f32) (harg1 : arg1.IsWhole) (arg2 : Memref sig .tc .vmem S128x9216 .f32) (harg2 : arg2.IsWhole) (arg3 : Memref sig .tc .vmem S1x9216 .f32) (harg3 : arg3.IsWhole) (arg4 : Memref sig .tc .vmem S128x5632 .f32) (harg4 : arg4.IsWhole) (arg5 : Memref sig .tc .vmem S352x1024 .f32) (harg5 : arg5.IsWhole) (arg6 : Memref sig .tc .vmem S2x9x1024 .f32) (harg6 : arg6.IsWhole) (arg7 : Memref sig .tc .vmem S128x5632 .bf16) (harg7 : arg7.IsWhole) (arg8 : Memref sig .tc .vmem S352x1024 .bf16) (harg8 : arg8.IsWhole) (hc0 : ¬cond0_0 i)
    (x0 : Vec Ideal S128x2 .f32) (x1 : Vec Ideal S128x9216 .f32) (x2 : Vec Ideal S1x9216 .f32) (x3 : Vec Ideal S128x5632 .f32) (x4 : Vec Ideal S352x1024 .f32) (xo5 : Vec Ideal S2x9x1024 .f32) :
    out0_B_5 c i arg1 harg1 arg2 harg2 arg3 harg3 arg4 harg4 arg5 harg5 arg6 harg6 arg7 harg7 arg8 harg8 hc0 x0 x1 x2 x3 x4 xo5 = View.canon (stps xo5 x0 x1) := by
  unfold out0_B_5
  rw [View.read_writes_junk_eq_canon]
  unfold kernelRun0_B
  dsimp only
  sl_unfold_words
  simp only [View.readAt_eq_ld, View.readCov_eq_canon', View.read_writes_junk_eq_canon]
  simp only [harg1.read_unread, harg2.read_unread, harg3.read_unread, harg4.read_unread, harg5.read_unread, harg6.read_unread, read_writes_over]
  rfl

theorem out_A5 (c : Dev nD) (i : grid0.Coords) (arg1 : Memref sig .tc .vmem S128x2 .f32) (harg1 : arg1.IsWhole) (arg2 : Memref sig .tc .vmem S128x9216 .f32) (harg2 : arg2.IsWhole) (arg3 : Memref sig .tc .vmem S1x9216 .f32) (harg3 : arg3.IsWhole) (arg4 : Memref sig .tc .vmem S128x5632 .f32) (harg4 : arg4.IsWhole) (arg5 : Memref sig .tc .vmem S352x1024 .f32) (harg5 : arg5.IsWhole) (arg6 : Memref sig .tc .vmem S2x9x1024 .f32) (harg6 : arg6.IsWhole) (arg7 : Memref sig .tc .vmem S128x5632 .bf16) (harg7 : arg7.IsWhole) (arg8 : Memref sig .tc .vmem S352x1024 .bf16) (harg8 : arg8.IsWhole) (hc0 : cond0_0 i)
    (x0 : Vec Ideal S128x2 .f32) (x1 : Vec Ideal S128x9216 .f32) (x2 : Vec Ideal S1x9216 .f32) (x3 : Vec Ideal S128x5632 .f32) (x4 : Vec Ideal S352x1024 .f32) :
    out0_A_5 c i arg1 harg1 arg2 harg2 arg3 harg3 arg4 harg4 arg5 harg5 arg6 harg6 arg7 harg7 arg8 harg8 hc0 x0 x1 x2 x3 x4 = View.canon (stpsA x0 x1 (biasL x2)) := by
  unfold out0_A_5
  rw [View.read_writes_junk_eq_canon]
  unfold kernelRun0_A
  dsimp only
  sl_unfold_words
  simp only [View.readAt_eq_ld, View.readCov_eq_canon', View.read_writes_junk_eq_canon]
  simp only [harg1.read_unread, harg2.read_unread, harg3.read_unread, harg4.read_unread, harg5.read_unread, harg6.read_unread, read_writes_over]
  simp only [stpsA, onto, col0, col1, wB, biasL, k0_pay1, k0_pay2, k0_pay3, k0_pay4, k0_pay5, stp, stp00, stp01, stp02, stp03, stp04, stp05, stp06, stp07, stp08, stp10, stp11, stp12, stp13, stp14, stp15, stp16, stp17, stp18]
  rfl

theorem out_B6 (c : Dev nD) (i : grid0.Coords) (arg1 : Memref sig .tc .vmem S128x2 .f32) (harg1 : arg1.IsWhole) (arg2 : Memref sig .tc .vmem S128x9216 .f32) (harg2 : arg2.IsWhole) (arg3 : Memref sig .tc .vmem S1x9216 .f32) (harg3 : arg3.IsWhole) (arg4 : Memref sig .tc .vmem S128x5632 .f32) (harg4 : arg4.IsWhole) (arg5 : Memref sig .tc .vmem S352x1024 .f32) (harg5 : arg5.IsWhole) (arg6 : Memref sig .tc .vmem S2x9x1024 .f32) (harg6 : arg6.IsWhole) (arg7 : Memref sig .tc .vmem S128x5632 .bf16) (harg7 : arg7.IsWhole) (arg8 : Memref sig .tc .vmem S352x1024 .bf16) (harg8 : arg8.IsWhole) (hc0 : ¬cond0_0 i)
    (x0 : Vec Ideal S128x2 .f32) (x1 : Vec Ideal S128x9216 .f32) (x2 : Vec Ideal S1x9216 .f32) (x3 : Vec Ideal S128x5632 .f32) (x4 : Vec Ideal S352x1024 .f32) (xo5 : Vec Ideal S2x9x1024 .f32) :
    out0_B_6 c i arg1 harg1 arg2 harg2 arg3 harg3 arg4 harg4 arg5 harg5 arg6 harg6 arg7 harg7 arg8 harg8 hc0 x0 x1 x2 x3 x4 xo5 = x3 := by
  unfold out0_B_6
  rw [View.read_writes_junk_eq_canon]
  unfold kernelRun0_B
  dsimp only
  sl_unfold_words
  simp only [View.readAt_eq_ld, View.readCov_eq_canon', View.read_writes_junk_eq_canon]
  simp only [harg1.read_unread, harg2.read_unread, harg3.read_unread, harg4.read_unread, harg5.read_unread, harg6.read_unread, read_writes_over]
  rw [View.canon_unit_zero (by decide), View.ld_unit_zero (by decide)]
  rfl

theorem out_A6 (c : Dev nD) (i : grid0.Coords) (arg1 : Memref sig .tc .vmem S128x2 .f32) (harg1 : arg1.IsWhole) (arg2 : Memref sig .tc .vmem S128x9216 .f32) (harg2 : arg2.IsWhole) (arg3 : Memref sig .tc .vmem S1x9216 .f32) (harg3 : arg3.IsWhole) (arg4 : Memref sig .tc .vmem S128x5632 .f32) (harg4 : arg4.IsWhole) (arg5 : Memref sig .tc .vmem S352x1024 .f32) (harg5 : arg5.IsWhole) (arg6 : Memref sig .tc .vmem S2x9x1024 .f32) (harg6 : arg6.IsWhole) (arg7 : Memref sig .tc .vmem S128x5632 .bf16) (harg7 : arg7.IsWhole) (arg8 : Memref sig .tc .vmem S352x1024 .bf16) (harg8 : arg8.IsWhole) (hc0 : cond0_0 i)
    (x0 : Vec Ideal S128x2 .f32) (x1 : Vec Ideal S128x9216 .f32) (x2 : Vec Ideal S1x9216 .f32) (x3 : Vec Ideal S128x5632 .f32) (x4 : Vec Ideal S352x1024 .f32) :
    out0_A_6 c i arg1 harg1 arg2 harg2 arg3 harg3 arg4 harg4 arg5 harg5 arg6 harg6 arg7 harg7 arg8 harg8 hc0 x0 x1 x2 x3 x4 = x3 := by
  unfold out0_A_6
  rw [View.read_writes_junk_eq_canon]
  unfold kernelRun0_A
  dsimp only
  sl_unfold_words
  simp only [View.readAt_eq_ld, View.readCov_eq_canon', View.read_writes_junk_eq_canon]
  simp only [harg1.read_unread, harg2.read_unread, harg3.read_unread, harg4.read_unread, harg5.read_unread, harg6.read_unread, read_writes_over]
  rw [View.canon_unit_zero (by decide), View.ld_unit_zero (by decide)]
  rfl

theorem out_B7 (c : Dev nD) (i : grid0.Coords) (arg1 : Memref sig .tc .vmem S128x2 .f32) (harg1 : arg1.IsWhole) (arg2 : Memref sig .tc .vmem S128x9216 .f32) (harg2 : arg2.IsWhole) (arg3 : Memref sig .tc .vmem S1x9216 .f32) (harg3 : arg3.IsWhole) (arg4 : Memref sig .tc .vmem S128x5632 .f32) (harg4 : arg4.IsWhole) (arg5 : Memref sig .tc .vmem S352x1024 .f32) (harg5 : arg5.IsWhole) (arg6 : Memref sig .tc .vmem S2x9x1024 .f32) (harg6 : arg6.IsWhole) (arg7 : Memref sig .tc .vmem S128x5632 .bf16) (harg7 : arg7.IsWhole) (arg8 : Memref sig .tc .vmem S352x1024 .bf16) (harg8 : arg8.IsWhole) (hc0 : ¬cond0_0 i)
    (x0 : Vec Ideal S128x2 .f32) (x1 : Vec Ideal S128x9216 .f32) (x2 : Vec Ideal S1x9216 .f32) (x3 : Vec Ideal S128x5632 .f32) (x4 : Vec Ideal S352x1024 .f32) (xo5 : Vec Ideal S2x9x1024 .f32) :
    out0_B_7 c i arg1 harg1 arg2 harg2 arg3 harg3 arg4 harg4 arg5 harg5 arg6 harg6 arg7 harg7 arg8 harg8 hc0 x0 x1 x2 x3 x4 xo5 = x4 := by
  unfold out0_B_7
  rw [View.read_writes_junk_eq_canon]
  unfold kernelRun0_B
  dsimp only
  sl_unfold_words
  simp only [View.readAt_eq_ld, View.readCov_eq_canon', View.read_writes_junk_eq_canon]
  simp only [harg1.read_unread, harg2.read_unread, harg3.read_unread, harg4.read_unread, harg5.read_unread, harg6.read_unread, read_writes_over]
  rw [View.canon_unit_zero (by decide), View.ld_unit_zero (by decide)]
  rfl

theorem out_A7 (c : Dev nD) (i : grid0.Coords) (arg1 : Memref sig .tc .vmem S128x2 .f32) (harg1 : arg1.IsWhole) (arg2 : Memref sig .tc .vmem S128x9216 .f32) (harg2 : arg2.IsWhole) (arg3 : Memref sig .tc .vmem S1x9216 .f32) (harg3 : arg3.IsWhole) (arg4 : Memref sig .tc .vmem S128x5632 .f32) (harg4 : arg4.IsWhole) (arg5 : Memref sig .tc .vmem S352x1024 .f32) (harg5 : arg5.IsWhole) (arg6 : Memref sig .tc .vmem S2x9x1024 .f32) (harg6 : arg6.IsWhole) (arg7 : Memref sig .tc .vmem S128x5632 .bf16) (harg7 : arg7.IsWhole) (arg8 : Memref sig .tc .vmem S352x1024 .bf16) (harg8 : arg8.IsWhole) (hc0 : cond0_0 i)
    (x0 : Vec Ideal S128x2 .f32) (x1 : Vec Ideal S128x9216 .f32) (x2 : Vec Ideal S1x9216 .f32) (x3 : Vec Ideal S128x5632 .f32) (x4 : Vec Ideal S352x1024 .f32) :
    out0_A_7 c i arg1 harg1 arg2 harg2 arg3 harg3 arg4 harg4 arg5 harg5 arg6 harg6 arg7 harg7 arg8 harg8 hc0 x0 x1 x2 x3 x4 = x4 := by
  unfold out0_A_7
  rw [View.read_writes_junk_eq_canon]
  unfold kernelRun0_A
  dsimp only
  sl_unfold_words
  simp only [View.readAt_eq_ld, View.readCov_eq_canon', View.read_writes_junk_eq_canon]
  simp only [harg1.read_unread, harg2.read_unread, harg3.read_unread, harg4.read_unread, harg5.read_unread, harg6.read_unread, read_writes_over]
  rw [View.canon_unit_zero (by decide), View.ld_unit_zero (by decide)]
  rfl

end Cert.Kernel3Ideal.Value
-- ==== Proof.ModPay.lean ====
/-
  The stores of the modulation kernel read back element by element: each row of each batch's block gains that row's part of the
  column sums; the bias rows first.
-/
module

public import proofs.«01_k».proof.Proof.ModRun
public import Idealize.ShloMosaic.Lib.Pointwise
public import Idealize.ShloMosaic.Lib.Pipeline.ValueKit.Tiles

@[expose] public section

noncomputable section

namespace Cert.Kernel3Ideal.Value

open Cert.Kernel3Ideal Cert.Kernel3Ideal.Gen Idealize.ShloMosaic Idealize.ShloMosaic.TcCoe Idealize.SL.Sem Cert.Layer

/-- The conditioning value through `z * logistic z`. -/
def silu (z : EReal) : EReal := z * Ideal.logistic z

/-- One block of 128 rows' part of modulation value `k` of row `j` for batch `b`. -/
def part (x0 : Vec Ideal S128x2 .f32) (x1 : Vec Ideal S128x9216 .f32) (b : Fin 2) (j : Fin 9) (k : Fin 1024) : EReal :=
  ∑ r : Fin 128, x1 (ix2 r ⟨1024 * j.val + k.val, by omega⟩) * silu (x0 (ix2 r b))

theorem pay11_apply (v3 : Vec Ideal S128x1 .f32) (v7 : Vec Ideal S128x9216 .f32) (n : Fin 9216) :
    k0_pay11 v3 v7 (ix2 0 n) = ∑ r : Fin 128, v7 (ix2 r n) * silu (v3 (ix2 r 0)) := by
  pointwise [k0_pay11, silu]

theorem pay22_apply (v3 : Vec Ideal S128x1 .f32) (v7 : Vec Ideal S128x9216 .f32) (n : Fin 9216) :
    k0_pay22 v3 v7 (ix2 0 n) = ∑ r : Fin 128, v7 (ix2 r n) * silu (v3 (ix2 r 0)) := by
  pointwise [k0_pay22, silu]

theorem ld2_zero : (![0, 0] : Fin 2 → Nat) = fun _ => 0 := funext fun a => by fin_cases a <;> rfl

theorem col0_apply (x0 : Vec Ideal S128x2 .f32) (r : Fin 128) : col0 x0 (ix2 r 0) = x0 (ix2 r 0) :=
  View.ld_unit_apply_of x0 _ _ _ _ _ (fun a => match a with | ⟨0, _⟩ => (Nat.zero_add _).symm | ⟨1, _⟩ => rfl)
theorem col1_apply (x0 : Vec Ideal S128x2 .f32) (r : Fin 128) : col1 x0 (ix2 r 0) = x0 (ix2 r 1) :=
  View.ld_unit_apply_of x0 _ _ _ _ _ (fun a => match a with | ⟨0, _⟩ => (Nat.zero_add _).symm | ⟨1, _⟩ => rfl)
theorem wB_eq (x1 : Vec Ideal S128x9216 .f32) : wB x1 = x1 := by
  unfold wB; rw [View.ld_unit_zero ld2_zero]

theorem tot0_apply (x0 : Vec Ideal S128x2 .f32) (x1 : Vec Ideal S128x9216 .f32) (j : Fin 9) (k : Fin 1024) (h : 1024 * j.val + k.val < 9216) :
    k0_pay11 (col0 x0) (wB x1) (ix2 0 ⟨1024 * j.val + k.val, h⟩) = part x0 x1 0 j k := by
  rw [pay11_apply, wB_eq]; simp only [col0_apply]; rfl
theorem tot1_apply (x0 : Vec Ideal S128x2 .f32) (x1 : Vec Ideal S128x9216 .f32) (j : Fin 9) (k : Fin 1024) (h : 1024 * j.val + k.val < 9216) :
    k0_pay22 (col1 x0) (wB x1) (ix2 0 ⟨1024 * j.val + k.val, h⟩) = part x0 x1 1 j k := by
  rw [pay22_apply, wB_eq]; simp only [col1_apply]; rfl

/-- Reading back over a row's store: the row itself is the contents read plus what the row gained; the other rows are as before. -/
theorem canon_stp (X : Vec Ideal S2x9x1024 .f32) (b : Fin 2) (j : Fin 9) (inb) (p : Vec Ideal S1x1x1024 .f32 → FVec Ideal S1x1x1024 .f32)
    (T : Fin 1024 → EReal) (hp : ∀ (o : Vec Ideal S1x1x1024 .f32) k, p o (ix3 0 0 k) = o (ix3 0 0 k) + T k) (L : Pcs) (b' : Fin 2) (j' : Fin 9) (k : Fin 1024) :
    View.canon (stp X ![b.val, j.val, 0] inb p :: L) (ix3 b' j' k)
      = if b' = b ∧ j' = j then X (ix3 b' j' k) + T k else View.canon L (ix3 b' j' k) := by
  have he : (Rect.unit (s := S2x9x1024) ![b.val, j.val, 0] S1x1x1024.size inb).emb (ix3 0 0 k) = ix3 b j k := by
    funext a; apply Fin.ext
    match a with
    | ⟨0, _⟩ => rfl
    | ⟨1, _⟩ => rfl
    | ⟨2, _⟩ => show 0 + 1 * k.val = k.val; omega
  split
  · next h =>
    obtain ⟨rfl, rfl⟩ := h
    conv_lhs => rw [← he]
    unfold stp
    rw [View.canon_cons_emb, hp]
    congr 1
    show X ((Rect.unit (s := S2x9x1024) ![b'.val, j'.val, 0] S1x1x1024.size inb).emb (ix3 0 0 k)) = _
    rw [he]
  · next h =>
    refine View.canon_cons_of_not_mem _ _ fun hm => h ?_
    have h0 : b.val ≤ b'.val ∧ b'.val < b.val + 1 := (Rect.mem_set_unit (inb := inb)).mp hm 0
    have h1 : j.val ≤ j'.val ∧ j'.val < j.val + 1 := (Rect.mem_set_unit (inb := inb)).mp hm 1
    exact ⟨Fin.ext (by omega), Fin.ext (by omega)⟩

/-- Reading back over a bias row's store. -/
theorem canon_bias (j : Fin 9) (inb) (w : FVec Ideal S2x1x1024 .f32) (T : Fin 1024 → EReal) (hw : ∀ b k, w (ix3 b 0 k) = T k) (L : Pcs) (b' : Fin 2) (j' : Fin 9) (k : Fin 1024) :
    View.canon ((⟨Rect.unit (s := S2x9x1024) ![0, j.val, 0] S2x1x1024.size inb, w⟩ : View.Piece (Elt Ideal) S2x9x1024 .f32) :: L) (ix3 b' j' k)
      = if j' = j then T k else View.canon L (ix3 b' j' k) := by
  have he : (Rect.unit (s := S2x9x1024) ![0, j.val, 0] S2x1x1024.size inb).emb (ix3 b' 0 k) = ix3 b' j k := by
    funext a; apply Fin.ext
    match a with
    | ⟨0, _⟩ => show 0 + 1 * b'.val = b'.val; omega
    | ⟨1, _⟩ => rfl
    | ⟨2, _⟩ => show 0 + 1 * k.val = k.val; omega
  split
  · next h =>
    subst h
    conv_lhs => rw [← he]
    rw [View.canon_cons_emb, hw]
  · next h =>
    refine View.canon_cons_of_not_mem _ _ fun hm => h ?_
    have h1 : j.val ≤ j'.val ∧ j'.val < j.val + 1 := (Rect.mem_set_unit (inb := inb)).mp hm 1
    exact Fin.ext (by omega)

variable (X : Vec Ideal S2x9x1024 .f32) (x0 : Vec Ideal S128x2 .f32) (x1 : Vec Ideal S128x9216 .f32) (L : Pcs) (b' : Fin 2) (j' : Fin 9) (k : Fin 1024)

theorem row00 : View.canon (stp00 X x0 x1 :: L) (ix3 b' j' k)
    = if b' = 0 ∧ j' = 0 then X (ix3 b' j' k) + part x0 x1 0 0 k else View.canon L (ix3 b' j' k) :=
  canon_stp X 0 0 _ _ (part x0 x1 0 0) (fun o k => by
    rw [← tot0_apply x0 x1 0 k (by omega)]
    unfold k0_pay12
    generalize k0_pay11 (col0 x0) (wB x1) = w
    pointwise) L b' j' k
theorem row01 : View.canon (stp01 X x0 x1 :: L) (ix3 b' j' k)
    = if b' = 0 ∧ j' = 1 then X (ix3 b' j' k) + part x0 x1 0 1 k else View.canon L (ix3 b' j' k) :=
  canon_stp X 0 1 _ _ (part x0 x1 0 1) (fun o k => by
    rw [← tot0_apply x0 x1 1 k (by omega)]
    unfold k0_pay13
    generalize k0_pay11 (col0 x0) (wB x1) = w
    pointwise) L b' j' k
theorem row02 : View.canon (stp02 X x0 x1 :: L) (ix3 b' j' k)
    = if b' = 0 ∧ j' = 2 then X (ix3 b' j' k) + part x0 x1 0 2 k else View.canon L (ix3 b' j' k) :=
  canon_stp X 0 2 _ _ (part x0 x1 0 2) (fun o k => by
    rw [← tot0_apply x0 x1 2 k (by omega)]
    unfold k0_pay14 k0_pay15
    generalize k0_pay11 (col0 x0) (wB x1) = w
    pointwise) L b' j' k
theorem row03 : View.canon (stp03 X x0 x1 :: L) (ix3 b' j' k)
    = if b' = 0 ∧ j' = 3 then X (ix3 b' j' k) + part x0 x1 0 3 k else View.canon L (ix3 b' j' k) :=
  canon_stp X 0 3 _ _ (part x0 x1 0 3) (fun o k => by
    rw [← tot0_apply x0 x1 3 k (by omega)]
    skip
    generalize k0_pay11 (col0 x0) (wB x1) = w
    pointwise [k0_pay16]) L b' j' k
theorem row04 : View.canon (stp04 X x0 x1 :: L) (ix3 b' j' k)
    = if b' = 0 ∧ j' = 4 then X (ix3 b' j' k) + part x0 x1 0 4 k else View.canon L (ix3 b' j' k) :=
  canon_stp X 0 4 _ _ (part x0 x1 0 4) (fun o k => by
    rw [← tot0_apply x0 x1 4 k (by omega)]
    skip
    generalize k0_pay11 (col0 x0) (wB x1) = w
    pointwise [k0_pay17]) L b' j' k
theorem row05 : View.canon (stp05 X x0 x1 :: L) (ix3 b' j' k)
    = if b' = 0 ∧ j' = 5 then X (ix3 b' j' k) + part x0 x1 0 5 k else View.canon L (ix3 b' j' k) :=
  canon_stp X 0 5 _ _ (part x0 x1 0 5) (fun o k => by
    rw [← tot0_apply x0 x1 5 k (by omega)]
    skip
    generalize k0_pay11 (col0 x0) (wB x1) = w
    pointwise [k0_pay18]) L b' j' k
theorem row06 : View.canon (stp06 X x0 x1 :: L) (ix3 b' j' k)
    = if b' = 0 ∧ j' = 6 then X (ix3 b' j' k) + part x0 x1 0 6 k else View.canon L (ix3 b' j' k) :=
  canon_stp X 0 6 _ _ (part x0 x1 0 6) (fun o k => by
    rw [← tot0_apply x0 x1 6 k (by omega)]
    skip
    generalize k0_pay11 (col0 x0) (wB x1) = w
    pointwise [k0_pay19]) L b' j' k
theorem row07 : View.canon (stp07 X x0 x1 :: L) (ix3 b' j' k)
    = if b' = 0 ∧ j' = 7 then X (ix3 b' j' k) + part x0 x1 0 7 k else View.canon L (ix3 b' j' k) :=
  canon_stp X 0 7 _ _ (part x0 x1 0 7) (fun o k => by
    rw [← tot0_apply x0 x1 7 k (by omega)]
    skip
    generalize k0_pay11 (col0 x0) (wB x1) = w
    pointwise [k0_pay20]) L b' j' k
theorem row08 : View.canon (stp08 X x0 x1 :: L) (ix3 b' j' k)
    = if b' = 0 ∧ j' = 8 then X (ix3 b' j' k) + part x0 x1 0 8 k else View.canon L (ix3 b' j' k) :=
  canon_stp X 0 8 _ _ (part x0 x1 0 8) (fun o k => by
    rw [← tot0_apply x0 x1 8 k (by omega)]
    skip
    generalize k0_pay11 (col0 x0) (wB x1) = w
    pointwise [k0_pay21]) L b' j' k
theorem row10 : View.canon (stp10 X x0 x1 :: L) (ix3 b' j' k)
    = if b' = 1 ∧ j' = 0 then X (ix3 b' j' k) + part x0 x1 1 0 k else View.canon L (ix3 b' j' k) :=
  canon_stp X 1 0 _ _ (part x0 x1 1 0) (fun o k => by
    rw [← tot1_apply x0 x1 0 k (by omega)]
    unfold k0_pay23
    generalize k0_pay22 (col1 x0) (wB x1) = w
    pointwise) L b' j' k
theorem row11 : View.canon (stp11 X x0 x1 :: L) (ix3 b' j' k)
    = if b' = 1 ∧ j' = 1 then X (ix3 b' j' k) + part x0 x1 1 1 k else View.canon L (ix3 b' j' k) :=
  canon_stp X 1 1 _ _ (part x0 x1 1 1) (fun o k => by
    rw [← tot1_apply x0 x1 1 k (by omega)]
    skip
    generalize k0_pay22 (col1 x0) (wB x1) = w
    pointwise [k0_pay24, k0_pay25]) L b' j' k
theorem row12 : View.canon (stp12 X x0 x1 :: L) (ix3 b' j' k)
    = if b' = 1 ∧ j' = 2 then X (ix3 b' j' k) + part x0 x1 1 2 k else View.canon L (ix3 b' j' k) :=
  canon_stp X 1 2 _ _ (part x0 x1 1 2) (fun o k => by
    rw [← tot1_apply x0 x1 2 k (by omega)]
    skip
    generalize k0_pay22 (col1 x0) (wB x1) = w
    pointwise [k0_pay26]) L b' j' k
theorem row13 : View.canon (stp13 X x0 x1 :: L) (ix3 b' j' k)
    = if b' = 1 ∧ j' = 3 then X (ix3 b' j' k) + part x0 x1 1 3 k else View.canon L (ix3 b' j' k) :=
  canon_stp X 1 3 _ _ (part x0 x1 1 3) (fun o k => by
    rw [← tot1_apply x0 x1 3 k (by omega)]
    skip
    generalize k0_pay22 (col1 x0) (wB x1) = w
    pointwise [k0_pay27]) L b' j' k
theorem row14 : View.canon (stp14 X x0 x1 :: L) (ix3 b' j' k)
    = if b' = 1 ∧ j' = 4 then X (ix3 b' j' k) + part x0 x1 1 4 k else View.canon L (ix3 b' j' k) :=
  canon_stp X 1 4 _ _ (part x0 x1 1 4) (fun o k => by
    rw [← tot1_apply x0 x1 4 k (by omega)]
    skip
    generalize k0_pay22 (col1 x0) (wB x1) = w
    pointwise [k0_pay28]) L b' j' k
theorem row15 : View.canon (stp15 X x0 x1 :: L) (ix3 b' j' k)
    = if b' = 1 ∧ j' = 5 then X (ix3 b' j' k) + part x0 x1 1 5 k else View.canon L (ix3 b' j' k) :=
  canon_stp X 1 5 _ _ (part x0 x1 1 5) (fun o k => by
    rw [← tot1_apply x0 x1 5 k (by omega)]
    skip
    generalize k0_pay22 (col1 x0) (wB x1) = w
    pointwise [k0_pay29, k0_pay30]) L b' j' k
theorem row16 : View.canon (stp16 X x0 x1 :: L) (ix3 b' j' k)
    = if b' = 1 ∧ j' = 6 then X (ix3 b' j' k) + part x0 x1 1 6 k else View.canon L (ix3 b' j' k) :=
  canon_stp X 1 6 _ _ (part x0 x1 1 6) (fun o k => by
    rw [← tot1_apply x0 x1 6 k (by omega)]
    skip
    generalize k0_pay22 (col1 x0) (wB x1) = w
    pointwise [k0_pay31]) L b' j' k
theorem row17 : View.canon (stp17 X x0 x1 :: L) (ix3 b' j' k)
    = if b' = 1 ∧ j' = 7 then X (ix3 b' j' k) + part x0 x1 1 7 k else View.canon L (ix3 b' j' k) :=
  canon_stp X 1 7 _ _ (part x0 x1 1 7) (fun o k => by
    rw [← tot1_apply x0 x1 7 k (by omega)]
    skip
    generalize k0_pay22 (col1 x0) (wB x1) = w
    pointwise [k0_pay32]) L b' j' k
theorem row18 : View.canon (stp18 X x0 x1 :: L) (ix3 b' j' k)
    = if b' = 1 ∧ j' = 8 then X (ix3 b' j' k) + part x0 x1 1 8 k else View.canon L (ix3 b' j' k) :=
  canon_stp X 1 8 _ _ (part x0 x1 1 8) (fun o k => by
    rw [← tot1_apply x0 x1 8 k (by omega)]
    skip
    generalize k0_pay22 (col1 x0) (wB x1) = w
    pointwise [k0_pay33]) L b' j' k

theorem stps_apply (b : Fin 2) (j : Fin 9) : View.canon (stps X x0 x1) (ix3 b j k) = X (ix3 b j k) + part x0 x1 b j k := by
  unfold stps
  simp only [row00, row01, row02, row03, row04, row05, row06, row07, row08, row10, row11, row12, row13, row14, row15, row16, row17, row18]
  fin_cases b <;> fin_cases j <;> simp

theorem stpsA_apply (b : Fin 2) (j : Fin 9) : View.canon (stpsA x0 x1 L) (ix3 b j k) = View.canon L (ix3 b j k) + part x0 x1 b j k := by
  unfold stpsA
  simp only [onto, row00, row01, row02, row03, row04, row05, row06, row07, row08, row10, row11, row12, row13, row14, row15, row16, row17, row18]
  fin_cases b <;> fin_cases j <;> simp

/-- The bias value `k` of row `j`. -/
def biasV (x2 : Vec Ideal S1x9216 .f32) (j : Fin 9) (k : Fin 1024) : EReal := x2 (ix2 0 ⟨1024 * j.val + k.val, by omega⟩)

theorem bias0 (x2 : Vec Ideal S1x9216 .f32) (inb) (inb') (v : Vec Ideal S1x1024 .f32) (hv : v = View.ld x2 (Rect.unit (s := S1x9216) ![0, 0] S1x1024.size inb')) :
    View.canon ((⟨Rect.unit (s := S2x9x1024) ![0, 0, 0] S2x1x1024.size inb, k0_pay1 v⟩ : View.Piece (Elt Ideal) S2x9x1024 .f32) :: L) (ix3 b' j' k)
      = if j' = 0 then biasV x2 0 k else View.canon L (ix3 b' j' k) :=
  canon_bias 0 _ _ (biasV x2 0) (fun b k => by
    have h : v (ix2 0 k) = biasV x2 0 k := by
      rw [hv]
      exact View.ld_unit_apply_of x2 _ _ _ _ _ (fun a => match a with | ⟨0, _⟩ => rfl | ⟨1, _⟩ => rfl)
    rw [← h]
    pointwise [k0_pay1]) L b' j' k
theorem bias1 (x2 : Vec Ideal S1x9216 .f32) (inb) (inb') (v : Vec Ideal S1x1024 .f32) (hv : v = View.ld x2 (Rect.unit (s := S1x9216) ![0, 1024] S1x1024.size inb')) :
    View.canon ((⟨Rect.unit (s := S2x9x1024) ![0, 1, 0] S2x1x1024.size inb, k0_pay2 v⟩ : View.Piece (Elt Ideal) S2x9x1024 .f32) :: L) (ix3 b' j' k)
      = if j' = 1 then biasV x2 1 k else View.canon L (ix3 b' j' k) :=
  canon_bias 1 _ _ (biasV x2 1) (fun b k => by
    have h : v (ix2 0 k) = biasV x2 1 k := by
      rw [hv]
      exact View.ld_unit_apply_of x2 _ _ _ _ _ (fun a => match a with | ⟨0, _⟩ => rfl | ⟨1, _⟩ => rfl)
    rw [← h]
    pointwise [k0_pay2]) L b' j' k
theorem bias2 (x2 : Vec Ideal S1x9216 .f32) (inb) (inb') (v : Vec Ideal S1x1024 .f32) (hv : v = View.ld x2 (Rect.unit (s := S1x9216) ![0, 2048] S1x1024.size inb')) :
    View.canon ((⟨Rect.unit (s := S2x9x1024) ![0, 2, 0] S2x1x1024.size inb, k0_pay3 v⟩ : View.Piece (Elt Ideal) S2x9x1024 .f32) :: L) (ix3 b' j' k)
      = if j' = 2 then biasV x2 2 k else View.canon L (ix3 b' j' k) :=
  canon_bias 2 _ _ (biasV x2 2) (fun b k => by
    have h : v (ix2 0 k) = biasV x2 2 k := by
      rw [hv]
      exact View.ld_unit_apply_of x2 _ _ _ _ _ (fun a => match a with | ⟨0, _⟩ => rfl | ⟨1, _⟩ => rfl)
    rw [← h]
    pointwise [k0_pay3]) L b' j' k
theorem bias3 (x2 : Vec Ideal S1x9216 .f32) (inb) (inb') (v : Vec Ideal S1x1024 .f32) (hv : v = View.ld x2 (Rect.unit (s := S1x9216) ![0, 3072] S1x1024.size inb')) :
    View.canon ((⟨Rect.unit (s := S2x9x1024) ![0, 3, 0] S2x1x1024.size inb, k0_pay4 v⟩ : View.Piece (Elt Ideal) S2x9x1024 .f32) :: L) (ix3 b' j' k)
      = if j' = 3 then biasV x2 3 k else View.canon L (ix3 b' j' k) :=
  canon_bias 3 _ _ (biasV x2 3) (fun b k => by
    have h : v (ix2 0 k) = biasV x2 3 k := by
      rw [hv]
      exact View.ld_unit_apply_of x2 _ _ _ _ _ (fun a => match a with | ⟨0, _⟩ => rfl | ⟨1, _⟩ => rfl)
    rw [← h]
    pointwise [k0_pay4]) L b' j' k
theorem bias4 (x2 : Vec Ideal S1x9216 .f32) (inb) (inb') (v : Vec Ideal S1x1024 .f32) (hv : v = View.ld x2 (Rect.unit (s := S1x9216) ![0, 4096] S1x1024.size inb')) :
    View.canon ((⟨Rect.unit (s := S2x9x1024) ![0, 4, 0] S2x1x1024.size inb, k0_pay6 (k0_pay5 v)⟩ : View.Piece (Elt Ideal) S2x9x1024 .f32) :: L) (ix3 b' j' k)
      = if j' = 4 then biasV x2 4 k else View.canon L (ix3 b' j' k) :=
  canon_bias 4 _ _ (biasV x2 4) (fun b k => by
    have h : v (ix2 0 k) = biasV x2 4 k := by
      rw [hv]
      exact View.ld_unit_apply_of x2 _ _ _ _ _ (fun a => match a with | ⟨0, _⟩ => rfl | ⟨1, _⟩ => rfl)
    rw [← h]
    pointwise [k0_pay6, k0_pay5]) L b' j' k
theorem bias5 (x2 : Vec Ideal S1x9216 .f32) (inb) (inb') (v : Vec Ideal S1x1024 .f32) (hv : v = View.ld x2 (Rect.unit (s := S1x9216) ![0, 5120] S1x1024.size inb')) :
    View.canon ((⟨Rect.unit (s := S2x9x1024) ![0, 5, 0] S2x1x1024.size inb, k0_pay7 v⟩ : View.Piece (Elt Ideal) S2x9x1024 .f32) :: L) (ix3 b' j' k)
      = if j' = 5 then biasV x2 5 k else View.canon L (ix3 b' j' k) :=
  canon_bias 5 _ _ (biasV x2 5) (fun b k => by
    have h : v (ix2 0 k) = biasV x2 5 k := by
      rw [hv]
      exact View.ld_unit_apply_of x2 _ _ _ _ _ (fun a => match a with | ⟨0, _⟩ => rfl | ⟨1, _⟩ => rfl)
    rw [← h]
    pointwise [k0_pay7]) L b' j' k
theorem bias6 (x2 : Vec Ideal S1x9216 .f32) (inb) (inb') (v : Vec Ideal S1x1024 .f32) (hv : v = View.ld x2 (Rect.unit (s := S1x9216) ![0, 6144] S1x1024.size inb')) :
    View.canon ((⟨Rect.unit (s := S2x9x1024) ![0, 6, 0] S2x1x1024.size inb, k0_pay8 v⟩ : View.Piece (Elt Ideal) S2x9x1024 .f32) :: L) (ix3 b' j' k)
      = if j' = 6 then biasV x2 6 k else View.canon L (ix3 b' j' k) :=
  canon_bias 6 _ _ (biasV x2 6) (fun b k => by
    have h : v (ix2 0 k) = biasV x2 6 k := by
      rw [hv]
      exact View.ld_unit_apply_of x2 _ _ _ _ _ (fun a => match a with | ⟨0, _⟩ => rfl | ⟨1, _⟩ => rfl)
    rw [← h]
    pointwise [k0_pay8]) L b' j' k
theorem bias7 (x2 : Vec Ideal S1x9216 .f32) (inb) (inb') (v : Vec Ideal S1x1024 .f32) (hv : v = View.ld x2 (Rect.unit (s := S1x9216) ![0, 7168] S1x1024.size inb')) :
    View.canon ((⟨Rect.unit (s := S2x9x1024) ![0, 7, 0] S2x1x1024.size inb, k0_pay9 v⟩ : View.Piece (Elt Ideal) S2x9x1024 .f32) :: L) (ix3 b' j' k)
      = if j' = 7 then biasV x2 7 k else View.canon L (ix3 b' j' k) :=
  canon_bias 7 _ _ (biasV x2 7) (fun b k => by
    have h : v (ix2 0 k) = biasV x2 7 k := by
      rw [hv]
      exact View.ld_unit_apply_of x2 _ _ _ _ _ (fun a => match a with | ⟨0, _⟩ => rfl | ⟨1, _⟩ => rfl)
    rw [← h]
    pointwise [k0_pay9]) L b' j' k
theorem bias8 (x2 : Vec Ideal S1x9216 .f32) (inb) (inb') (v : Vec Ideal S1x1024 .f32) (hv : v = View.ld x2 (Rect.unit (s := S1x9216) ![0, 8192] S1x1024.size inb')) :
    View.canon ((⟨Rect.unit (s := S2x9x1024) ![0, 8, 0] S2x1x1024.size inb, k0_pay10 v⟩ : View.Piece (Elt Ideal) S2x9x1024 .f32) :: L) (ix3 b' j' k)
      = if j' = 8 then biasV x2 8 k else View.canon L (ix3 b' j' k) :=
  canon_bias 8 _ _ (biasV x2 8) (fun b k => by
    have h : v (ix2 0 k) = biasV x2 8 k := by
      rw [hv]
      exact View.ld_unit_apply_of x2 _ _ _ _ _ (fun a => match a with | ⟨0, _⟩ => rfl | ⟨1, _⟩ => rfl)
    rw [← h]
    pointwise [k0_pay10]) L b' j' k

theorem biasL_apply (x2 : Vec Ideal S1x9216 .f32) (b : Fin 2) (j : Fin 9) : View.canon (biasL x2) (ix3 b j k) = biasV x2 j k := by
  unfold biasL
  rw [bias8 _ _ _ _ x2 _ inb_S1x9216_S1x1024_0_8192 _ rfl, bias7 _ _ _ _ x2 _ inb_S1x9216_S1x1024_0_7168 _ rfl, bias6 _ _ _ _ x2 _ inb_S1x9216_S1x1024_0_6144 _ rfl, bias5 _ _ _ _ x2 _ inb_S1x9216_S1x1024_0_5120 _ rfl, bias4 _ _ _ _ x2 _ inb_S1x9216_S1x1024_0_4096 _ rfl, bias3 _ _ _ _ x2 _ inb_S1x9216_S1x1024_0_3072 _ rfl, bias2 _ _ _ _ x2 _ inb_S1x9216_S1x1024_0_2048 _ rfl, bias1 _ _ _ _ x2 _ inb_S1x9216_S1x1024_0_1024 _ rfl, bias0 _ _ _ _ x2 _ inb_S1x9216_S1x1024_0_0 _ rfl]
  fin_cases j <;> simp

end Cert.Kernel3Ideal.Value
-- ==== Proof.ModValue.lean ====
/-
  The modulation kernel's three result arrays, element by element, and their equality with the reference's.
-/
module

public import proofs.«01_k».proof.Proof.Gen.Kernel3Ideal.Value
public import proofs.«01_k».proof.Proof.Gen.Reference3Ideal.Read
public import proofs.«01_k».proof.Proof.ModPay

@[expose] public section

noncomputable section

namespace Cert.Kernel3Ideal.Value

open Cert.Kernel3Ideal Cert.Kernel3Ideal.Gen Idealize.ShloMosaic Idealize.ShloMosaic.TcCoe Idealize.SL.Sem Cert.Layer
open Idealize.ShloMosaic.Pipeline (Dat)

/-- Modulation value `k` of row `j` for batch `b`: the conditioning row against the column, and the bias. -/
def modAll (x0 : Vec Ideal S2x1024 .f32) (x1 : Vec Ideal S1024x9216 .f32) (x2 : Vec Ideal S9216 .f32) (b : Fin 2) (j : Fin 9) (k : Fin 1024) : EReal :=
  x2 (ix1 ⟨1024 * j.val + k.val, by omega⟩) + ∑ r : Fin 1024, x1 (ix2 r ⟨1024 * j.val + k.val, by omega⟩) * silu (x0 (ix2 b r))

variable (m : (ℓ : Loc nD τ sig) → Buf (Elt Ideal) ℓ)

theorem V_v0 (c : Dev nD) : V m c main_v0 = transpose S1024x2 [1, 0] (m ((c : Thread nD τ).loc main_arg0)) transposes_S2x1024_S1024x2_1_0 := by
  simp only [V, hostOps0]; after_results_simp <;> rfl
theorem V_v1 (c : Dev nD) : V m c main_v1 = shapeCast _ (m ((c : Thread nD τ).loc main_arg2)) shapeCasts_S9216_S1x9216 := by
  simp only [V, hostOps0]; after_results_simp <;> rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)

theorem lt8 (t : Fin cfg0.N) : t.val < 8 := lt_of_lt_of_eq t.isLt N_0

theorem iblk0 (c : Dev nD) (t : Fin cfg0.N) (r : Fin 128) (b : Fin 2) :
    iblk m c 0 t (ix2 r b) = V m c main_v0 (ix2 ⟨128 * t.val + r.val, by have := lt8 t; omega⟩ b) := by
  show V m c main_v0 ((win0_0.blk t).view.emb (ix2 r b)) = _
  congr 1
  funext a; apply Fin.ext
  match a with
  | ⟨0, _⟩ => show win0_0.index t 0 * 128 + 1 * r.val = _; rw [(index0 t).1]; show _ = 128 * t.val + r.val; omega
  | ⟨1, _⟩ => show win0_0.index t 1 * 2 + 1 * b.val = b.val; rw [(index0 t).2]; omega
theorem iblk1 (c : Dev nD) (t : Fin cfg0.N) (r : Fin 128) (n : Fin 9216) :
    iblk m c 1 t (ix2 r n) = V m c main_arg1 (ix2 ⟨128 * t.val + r.val, by have := lt8 t; omega⟩ n) := by
  show V m c main_arg1 ((win0_1.blk t).view.emb (ix2 r n)) = _
  congr 1
  funext a; apply Fin.ext
  match a with
  | ⟨0, _⟩ => show win0_1.index t 0 * 128 + 1 * r.val = _; rw [(index1 t).1]; show _ = 128 * t.val + r.val; omega
  | ⟨1, _⟩ => show win0_1.index t 1 * 9216 + 1 * n.val = n.val; rw [(index1 t).2]; omega
theorem iblk2 (c : Dev nD) (t : Fin cfg0.N) (n : Fin 9216) : iblk m c 2 t (ix2 0 n) = V m c main_v1 (ix2 0 n) := by
  show V m c main_v1 ((win0_2.blk t).view.emb (ix2 0 n)) = _
  congr 1
  funext a; apply Fin.ext
  match a with
  | ⟨0, _⟩ => show win0_2.index t 0 * 1 + 1 * 0 = 0; rw [(index2 t).1]
  | ⟨1, _⟩ => show win0_2.index t 1 * 9216 + 1 * n.val = n.val; rw [(index2 t).2]; omega
theorem iblk3 (c : Dev nD) (t : Fin cfg0.N) (r : Fin 128) (n : Fin 5632) :
    iblk m c 3 t (ix2 r n) = V m c main_arg3 (ix2 ⟨128 * t.val + r.val, by have := lt8 t; omega⟩ n) := by
  show V m c main_arg3 ((win0_3.blk t).view.emb (ix2 r n)) = _
  congr 1
  funext a; apply Fin.ext
  match a with
  | ⟨0, _⟩ => show win0_3.index t 0 * 128 + 1 * r.val = _; rw [(index3 t).1]; show _ = 128 * t.val + r.val; omega
  | ⟨1, _⟩ => show win0_3.index t 1 * 5632 + 1 * n.val = n.val; rw [(index3 t).2]; omega
theorem iblk4 (c : Dev nD) (t : Fin cfg0.N) (r : Fin 352) (n : Fin 1024) :
    iblk m c 4 t (ix2 r n) = V m c main_arg4 (ix2 ⟨352 * t.val + r.val, by have := lt8 t; omega⟩ n) := by
  show V m c main_arg4 ((win0_4.blk t).view.emb (ix2 r n)) = _
  congr 1
  funext a; apply Fin.ext
  match a with
  | ⟨0, _⟩ => show win0_4.index t 0 * 352 + 1 * r.val = _; rw [(index4 t).1]; show _ = 352 * t.val + r.val; omega
  | ⟨1, _⟩ => show win0_4.index t 1 * 1024 + 1 * n.val = n.val; rw [(index4 t).2]; omega

/-- Row `i`'s term of a modulation value (zero past the last row). -/
def term (x0 : Vec Ideal S2x1024 .f32) (x1 : Vec Ideal S1024x9216 .f32) (b : Fin 2) (j : Fin 9) (k : Fin 1024) (i : ℕ) : EReal :=
  if h : i < 1024 then x1 (ix2 ⟨i, h⟩ ⟨1024 * j.val + k.val, by omega⟩) * silu (x0 (ix2 b ⟨i, h⟩)) else 0

/-- Eight blocks of 128 rows are the 1024 rows. -/
theorem term_sum (x0 : Vec Ideal S2x1024 .f32) (x1 : Vec Ideal S1024x9216 .f32) (b : Fin 2) (j : Fin 9) (k : Fin 1024) :
    ∑ s ∈ Finset.range 8, ∑ r : Fin 128, term x0 x1 b j k (128 * s + r.val)
      = ∑ r : Fin 1024, x1 (ix2 r ⟨1024 * j.val + k.val, by omega⟩) * silu (x0 (ix2 b r)) := by
  rw [Finset.sum_range (fun s => ∑ r : Fin 128, term x0 x1 b j k (128 * s + r.val)), ← Fintype.sum_prod_type']
  have e := Fintype.sum_equiv (finProdFinEquiv (m := 8) (n := 128))
    (fun p : Fin 8 × Fin 128 => term x0 x1 b j k (128 * p.1.val + p.2.val)) (fun i : Fin (8 * 128) => term x0 x1 b j k i.val)
    (fun p => by congr 1; show _ = p.2.val + 128 * p.1.val; omega)
  refine e.trans (Finset.sum_congr rfl fun r _ => ?_)
  unfold term
  rw [dif_pos r.isLt]

/-- What one block adds. -/
theorem part_iblk (c : Dev nD) (t : Fin cfg0.N) (b : Fin 2) (j : Fin 9) (k : Fin 1024) :
    part (iblk m c 0 t) (iblk m c 1 t) b j k
      = ∑ r : Fin 128, term (m ((c : Thread nD τ).loc main_arg0)) (m ((c : Thread nD τ).loc main_arg1)) b j k (128 * t.val + r.val) := by
  unfold part
  refine Finset.sum_congr rfl fun r _ => ?_
  have ht := lt8 t
  rw [iblk0, iblk1, V_v0, V_main_arg1]
  unfold term
  rw [dif_pos (by omega : 128 * t.val + r.val < 1024)]
  generalize m ((c : Thread nD τ).loc main_arg0) = x0
  congr 2
  pointwise

/-- The bias row the kernel reads. -/
theorem bias_iblk (c : Dev nD) (t : Fin cfg0.N) (j : Fin 9) (k : Fin 1024) :
    biasV (iblk m c 2 t) j k = (m ((c : Thread nD τ).loc main_arg2)) (ix1 ⟨1024 * j.val + k.val, by omega⟩) := by
  unfold biasV
  rw [iblk2, V_v1]
  generalize hx : m ((c : Thread nD τ).loc main_arg2) = x2'
  obtain ⟨x2, hx2⟩ : ∃ x2 : Vec Ideal S9216 .f32, x2 = x2' := ⟨x2', rfl⟩
  subst hx2
  exact shapeCast_apply x2 shapeCasts_S9216_S1x9216 _ _ (by
    rewrite [Shape.rowMajor_val_two, Shape.rowMajor_val_one]
    show 1024 * j.val + k.val = 0 * 9216 + (1024 * j.val + k.val)
    omega)

/-- The bias and the first `n` blocks of a modulation value. -/
def accAll (x0 : Vec Ideal S2x1024 .f32) (x1 : Vec Ideal S1024x9216 .f32) (x2 : Vec Ideal S9216 .f32) (b : Fin 2) (j : Fin 9) (k : Fin 1024) (n : ℕ) : EReal :=
  x2 (ix1 ⟨1024 * j.val + k.val, by omega⟩) + ∑ s ∈ Finset.range n, ∑ r : Fin 128, term x0 x1 b j k (128 * s + r.val)

theorem accAll_succ (x0 : Vec Ideal S2x1024 .f32) (x1 : Vec Ideal S1024x9216 .f32) (x2 : Vec Ideal S9216 .f32) (b : Fin 2) (j : Fin 9) (k : Fin 1024) (n : ℕ) :
    accAll x0 x1 x2 b j k (n + 1) = accAll x0 x1 x2 b j k n + ∑ r : Fin 128, term x0 x1 b j k (128 * n + r.val) := by
  unfold accAll
  rw [Finset.sum_range_succ, ← add_assoc]
theorem accAll_one (x0 : Vec Ideal S2x1024 .f32) (x1 : Vec Ideal S1024x9216 .f32) (x2 : Vec Ideal S9216 .f32) (b : Fin 2) (j : Fin 9) (k : Fin 1024) :
    accAll x0 x1 x2 b j k 1 = x2 (ix1 ⟨1024 * j.val + k.val, by omega⟩) + ∑ r : Fin 128, term x0 x1 b j k (128 * 0 + r.val) := by
  unfold accAll
  rw [Finset.sum_range_one]

/-- After block `n` the modulation values hold the bias and the blocks so far. -/
theorem acc_all (c : Dev nD) (b : Fin 2) (j : Fin 9) (k : Fin 1024) : ∀ (n : ℕ) (hn : n < cfg0.N),
    (outsAt0 m c n hn).1 (ix3 b j k)
      = accAll (m ((c : Thread nD τ).loc main_arg0)) (m ((c : Thread nD τ).loc main_arg1)) (m ((c : Thread nD τ).loc main_arg2)) b j k (n + 1) := by
  intro n
  induction n with
  | zero =>
    intro hn
    have e := outsAt0_A m c ⟨0, hn⟩ rfl
    change outsAt0 m c 0 hn = _ at e
    rw [e]; dsimp only
    rw [out_A5, stpsA_apply, biasL_apply, part_iblk, bias_iblk, accAll_one]
  | succ n ih =>
    intro hn
    have h8 := lt8 ⟨n + 1, hn⟩
    dsimp only at h8
    have e := outsAt0_B m c ⟨n + 1, hn⟩ (by dsimp only; omega)
    change outsAt0 m c (n + 1) hn = _ at e
    rw [e]; dsimp only
    rw [out_B5, stps_apply, part_iblk, accAll_succ]
    congr 1
    exact ih _

/-- The two cast weights' blocks. -/
theorem outs6 (c : Dev nD) (t : Fin cfg0.N) : (outsAt0 m c t.val t.isLt).2.1 = iblk m c 3 t := by
  by_cases h : t.val % 8 = 0
  · rw [outsAt0_A m c t h]; dsimp only; rw [out_A6]
  · rw [outsAt0_B m c t h]; dsimp only; rw [out_B6]
theorem outs7 (c : Dev nD) (t : Fin cfg0.N) : (outsAt0 m c t.val t.isLt).2.2 = iblk m c 4 t := by
  by_cases h : t.val % 8 = 0
  · rw [outsAt0_A m c t h]; dsimp only; rw [out_A7]
  · rw [outsAt0_B m c t h]; dsimp only; rw [out_B7]

/-- Only the last block writes the modulation values back. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => by
  have e := (flush0_5 t).mp h
  have e' := (flush0_5 t').mp h'
  have := lt8 t; have := lt8 t'
  exact absurd (Fin.ext (by omega)) hne

theorem final5 (c : Dev nD) (b : Fin 2) (j : Fin 9) (k : Fin 1024) :
    (dats m 0 c).arrAt 5 cfg0.N (ix3 b j k)
      = modAll (m ((c : Thread nD τ).loc main_arg0)) (m ((c : Thread nD τ).loc main_arg1)) (m ((c : Thread nD τ).loc main_arg2)) b j k := by
  have ht : 7 < cfg0.N := lt_of_lt_of_eq (by omega : 7 < 8) N_0.symm
  have hb := congrFun ((dats m 0 c).read_blk_arrAt_eq_flushed 5 disjoint5 cfg0.N ⟨7, ht⟩ ht ((flush0_5 _).mpr rfl)) (ix3 b j k)
  rw [flushed5] at hb
  have hl : ((cfg0.win 5).blk ⟨7, ht⟩).view.read (Elt Ideal) ((dats m 0 c).arrAt 5 cfg0.N) (ix3 b j k)
      = (dats m 0 c).arrAt 5 cfg0.N (ix3 b j k) := by
    show (dats m 0 c).arrAt 5 cfg0.N ((win0_5.blk ⟨7, ht⟩).view.emb (ix3 b j k)) = _
    congr 1
    funext a; apply Fin.ext
    match a with
    | ⟨0, _⟩ => show win0_5.index ⟨7, ht⟩ 0 * 2 + 1 * b.val = b.val; rw [(index5 _).1]; omega
    | ⟨1, _⟩ => show win0_5.index ⟨7, ht⟩ 1 * 9 + 1 * j.val = j.val; rw [(index5 _).2.1]; omega
    | ⟨2, _⟩ => show win0_5.index ⟨7, ht⟩ 2 * 1024 + 1 * k.val = k.val; rw [(index5 _).2.2]; omega
  rw [← hl, hb]
  refine (acc_all m c b j k 7 ht).trans ?_
  unfold accAll modAll
  rw [term_sum]

theorem read6 (X : Vec Ideal S1024x5632 .bf16) (t : Fin cfg0.N) (p : Fin 128) (n : Fin 5632) :
    (win0_6.blk t).view.read (Elt Ideal) X (ix2 p n) = X (ix2 ⟨128 * t.val + p.val, by have := lt8 t; omega⟩ n) := by
  show X ((win0_6.blk t).view.emb (ix2 p n)) = _
  congr 1
  funext a; apply Fin.ext
  match a with
  | ⟨0, _⟩ => show win0_6.index t 0 * 128 + 1 * p.val = _; rw [(index6 t).1]; show _ = 128 * t.val + p.val; omega
  | ⟨1, _⟩ => show win0_6.index t 1 * 5632 + 1 * n.val = n.val; rw [(index6 t).2]; omega

theorem final6_blk (c : Dev nD) (t : Fin cfg0.N) (p : Fin 128) (n : Fin 5632) :
    (dats m 0 c).arrAt 6 cfg0.N (ix2 ⟨128 * t.val + p.val, by have := lt8 t; omega⟩ n)
      = m ((c : Thread nD τ).loc main_arg3) (ix2 ⟨128 * t.val + p.val, by have := lt8 t; omega⟩ n) := by
  have hb := congrFun (blocks6 m c t (flush0_6 _)) (ix2 p n)
  rw [flushed6, outs6] at hb
  refine ((read6 _ t p n).symm.trans hb).trans ?_
  refine (iblk3 m c t p n).trans ?_
  rw [V_main_arg3]

theorem final6 (c : Dev nD) (r : Fin 1024) (n : Fin 5632) :
    (dats m 0 c).arrAt 6 cfg0.N (ix2 r n) = m ((c : Thread nD τ).loc main_arg3) (ix2 r n) := by
  have ht : r.val / 128 < cfg0.N := lt_of_lt_of_eq (by omega : r.val / 128 < 8) N_0.symm
  have h := final6_blk m c ⟨r.val / 128, ht⟩ ⟨r.val % 128, Nat.mod_lt _ (by decide)⟩ n
  have er : (⟨128 * (r.val / 128) + r.val % 128, by omega⟩ : Fin 1024) = r := Fin.ext (Nat.div_add_mod _ _)
  dsimp only at h
  rw [er] at h
  exact h

theorem read7 (X : Vec Ideal S2816x1024 .bf16) (t : Fin cfg0.N) (p : Fin 352) (n : Fin 1024) :
    (win0_7.blk t).view.read (Elt Ideal) X (ix2 p n) = X (ix2 ⟨352 * t.val + p.val, by have := lt8 t; omega⟩ n) := by
  show X ((win0_7.blk t).view.emb (ix2 p n)) = _
  congr 1
  funext a; apply Fin.ext
  match a with
  | ⟨0, _⟩ => show win0_7.index t 0 * 352 + 1 * p.val = _; rw [(index7 t).1]; show _ = 352 * t.val + p.val; omega
  | ⟨1, _⟩ => show win0_7.index t 1 * 1024 + 1 * n.val = n.val; rw [(index7 t).2]; omega

theorem final7_blk (c : Dev nD) (t : Fin cfg0.N) (p : Fin 352) (n : Fin 1024) :
    (dats m 0 c).arrAt 7 cfg0.N (ix2 ⟨352 * t.val + p.val, by have := lt8 t; omega⟩ n)
      = m ((c : Thread nD τ).loc main_arg4) (ix2 ⟨352 * t.val + p.val, by have := lt8 t; omega⟩ n) := by
  have hb := congrFun (blocks7 m c t (flush0_7 _)) (ix2 p n)
  rw [flushed7, outs7] at hb
  refine ((read7 _ t p n).symm.trans hb).trans ?_
  refine (iblk4 m c t p n).trans ?_
  rw [V_main_arg4]

theorem final7 (c : Dev nD) (r : Fin 2816) (n : Fin 1024) :
    (dats m 0 c).arrAt 7 cfg0.N (ix2 r n) = m ((c : Thread nD τ).loc main_arg4) (ix2 r n) := by
  have ht : r.val / 352 < cfg0.N := lt_of_lt_of_eq (by omega : r.val / 352 < 8) N_0.symm
  have h := final7_blk m c ⟨r.val / 352, ht⟩ ⟨r.val % 352, Nat.mod_lt _ (by decide)⟩ n
  have er : (⟨352 * (r.val / 352) + r.val % 352, by omega⟩ : Fin 2816) = r := Fin.ext (Nat.div_add_mod _ _)
  dsimp only at h
  rw [er] at h
  exact h

end Cert.Kernel3Ideal.Value

namespace Cert.Reference3Ideal.Read

open Cert.Reference3Ideal Cert.Reference3Ideal.Gen Idealize.ShloMosaic Idealize.ShloMosaic.TcCoe Idealize.SL.Sem Idealize.ShloMosaic.StableHlo

/-- The reference's conditioning value. -/
theorem v0_apply (x0 : (⟨S2x1024, .f32⟩ : BufTy).Contents (Elt Ideal)) (b : Fin 2) (r : Fin 1024) :
    val_main_v0 (F := Ideal) x0 (ix2 b r) = Cert.Kernel3Ideal.Value.silu (x0 (ix2 b r)) := by
  pointwise [val_main_v0, val_main_call0_v0, val_main_call0_v1, val_main_call0_v2, val_main_call0_v3, val_main_call0_v4, val_main_call0_v5, val_main_call0_cst, val_main_call0_cst_0, Cert.Kernel3Ideal.Value.silu, Ideal.logistic]

/-- The reference's modulation at an element. -/
theorem v5_apply (x0 : (⟨S2x1024, .f32⟩ : BufTy).Contents (Elt Ideal)) (x1 : (⟨S1024x9216, .f32⟩ : BufTy).Contents (Elt Ideal))
    (x2 : (⟨S9216, .f32⟩ : BufTy).Contents (Elt Ideal)) (b : Fin 2) (j : Fin 9) (k : Fin 1024) :
    val_main_v5 (F := Ideal) x0 x1 x2 (ix3 b j k) = Cert.Kernel3Ideal.Value.modAll x0 x1 x2 b j k := by
  have hi : idx_main_v5 (ix3 b j k) = ix2 b ⟨1024 * j.val + k.val, by omega⟩ := by
    funext a; apply Fin.ext
    match a with
    | ⟨0, _⟩ => show ((b.val * 9 + j.val) * 1024 + k.val) / 9216 = b.val; omega
    | ⟨1, _⟩ => show ((b.val * 9 + j.val) * 1024 + k.val) % 9216 = 1024 * j.val + k.val; omega
  rw [val_main_v5_apply, hi, val_main_v4_apply, val_main_v1_apply, val_main_v3_apply, val_main_v2_apply]
  unfold Cert.Kernel3Ideal.Value.modAll
  show _ + _ = _
  rw [add_comm]
  congr 1
  · congr 1
    funext a; apply Fin.ext
    match a with
    | ⟨0, _⟩ => rfl
  · refine Finset.sum_congr rfl fun r _ => ?_
    have el : lidx_main_v1 (ix2 b ⟨1024 * j.val + k.val, by omega⟩) r = ix2 b r := by
      funext a; match a with | ⟨0, _⟩ => rfl | ⟨1, _⟩ => rfl
    have er : ridx_main_v1 (ix2 b ⟨1024 * j.val + k.val, by omega⟩) r = ix2 r ⟨1024 * j.val + k.val, by omega⟩ := by
      funext a; match a with | ⟨0, _⟩ => rfl | ⟨1, _⟩ => rfl
    rw [el, er, v0_apply, mul_comm]

end Cert.Reference3Ideal.Read

end
-- ==== Proof.ModClaim.lean ====
/-
  The modulation call: its frames, and kernel and reference end at the same three arrays.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.ModValue

@[expose] public section

noncomputable section

namespace Cert.Proof

open Idealize.ShloMosaic Idealize.ShloMosaic.TcCoe Idealize.SL.Sem

theorem frame_k3 : Cert.quiescent_Kernel3 (hKernel3 := Cert.Kernel3.Gen.facts) := fun m ρ _ => Cert.Kernel3.Gen.frame m ρ
theorem frame_k3i : Cert.quiescent_Kernel3Ideal (hKernel3Ideal := Cert.Kernel3Ideal.Gen.facts) := fun m ρ _ =>
  Cert.Kernel3Ideal.Gen.frame m ρ

/-- The modulation reference keeps its arguments and declares no semaphore. -/
theorem frame_r3i : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem preserves_k3 : Cert.preserves_Kernel3_Kernel3Ideal := trivial

namespace Mod

/-- `Cert.algebraic_Kernel3Ideal_Reference3Ideal`: the first result is `modAll` of the arguments, which agree; the other two are
    the two weights. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N, Cert.Kernel3Ideal.Value.run_blocks m ρ, ?_⟩
  refine (θ_run Cert.Reference3Ideal.defs _ _).mono
    (fun _ h c => ⟨(h c).1.trans ?_, (h c).2.1.trans ?_, (h c).2.2.1.trans ?_, (h c).2.2.2⟩)
    (Cert.Reference3Ideal.Value.run (F := Ideal) m' ρ')
  · rw [Cert.Reference3Ideal.Read.val_main_v5_eq]
    obtain ⟨a0, a1, a2, a3, a4⟩ := hagree c
    rw [a0, a1, a2]
    funext i
    obtain ⟨b, j, k, rfl⟩ : ∃ (b : Fin 2) (j : Fin 9) (k : Fin 1024), i = ix3 b j k := ⟨i 0, i 1, i 2, funext fun a => by fin_cases a <;> rfl⟩
    exact (Cert.Reference3Ideal.Read.v5_apply _ _ _ b j k).trans (Cert.Kernel3Ideal.Value.final5 m c b j k).symm
  · obtain ⟨a0, a1, a2, a3, a4⟩ := hagree c
    rw [a3]
    funext i
    obtain ⟨r, n, rfl⟩ : ∃ (r : Fin 1024) (n : Fin 5632), i = ix2 r n := ⟨i 0, i 1, funext fun a => by fin_cases a <;> rfl⟩
    exact (Cert.Kernel3Ideal.Value.final6 m c r n).symm
  · obtain ⟨a0, a1, a2, a3, a4⟩ := hagree c
    rw [a4]
    funext i
    obtain ⟨r, n, rfl⟩ : ∃ (r : Fin 2816) (n : Fin 1024), i = ix2 r n := ⟨i 0, i 1, funext fun a => by fin_cases a <;> rfl⟩
    exact (Cert.Kernel3Ideal.Value.final7 m c r n).symm

end Mod

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Frames
public import proofs.«01_k».proof.Proof.FfnClaim
public import proofs.«01_k».proof.Proof.MixClaim
public import proofs.«01_k».proof.Proof.ModClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Mix.finiteFacts, frame_k, frame_ki, Mix.frame_ki_finite, frame_ri, Mix.frame_ri_finite, frame_k2, frame_k2i, frame_r2i, frame_k3, frame_k3i, frame_r3i,
  preserves_k, Mix.algebraic, preserves_k2, Ffn.algebraic, preserves_k3, Mod.algebraic⟩

end Cert.Proof

end
